-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 [hPre_routed_tiles : Cert.Pre_routed_tiles.Facts] (m : (ℓ : Loc Cert.Kernel2.nD Cert.Kernel2.τ Cert.Kernel2.sig) → Buf (Elt Bits) ℓ) : Prop :=
  ∀ c : Dev Cert.Kernel2.nD,
    (Cert.Pre_routed_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_routed_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.1 = (fun _ => 1#1)
    ∧ (Cert.Pre_routed_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.1 = (fun _ => 1#1)
    ∧ (Cert.Pre_routed_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.2.1 = (fun _ => 1#1)
    ∧ (Cert.Pre_routed_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.2.2 = (fun _ => 1#1)

def Pre_Kernel2Ideal [hPre_routed_tiles : Cert.Pre_routed_tiles.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_routed_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_routed_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_routed_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_routed_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed_tiles [hPre_routed_tiles : Cert.Pre_routed_tiles.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_routed_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_routed_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_routed_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_routed_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sample [hPre_finite_sample : Cert.Pre_finite_sample.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sample [hPre_finite_sample : Cert.Pre_finite_sample.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_routed_tiles : Cert.Pre_routed_tiles.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_routed_tiles : Cert.Pre_routed_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_routed_tiles [hReference2Ideal : Cert.Reference2Ideal.Facts] [hPre_routed_tiles : Cert.Pre_routed_tiles.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed_tiles m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_sample [hKernel5Ideal : Cert.Kernel5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sample m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_sample [hReference5Ideal : Cert.Reference5Ideal.Facts] [hPre_finite_sample : Cert.Pre_finite_sample.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sample m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed_tiles : Cert.Pre_routed_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v55_0)) (v1 : (c : Dev Cert.Kernel3Ideal.nD) → Buf (Elt Ideal) ((c.tc : Thread Cert.Kernel3Ideal.nD Cert.Kernel3Ideal.τ).loc Cert.Kernel3Ideal.main_v55_1)) (v2 : (c : Dev Cert.Kernel3Ideal.nD) → Buf (Elt Ideal) ((c.tc : Thread Cert.Kernel3Ideal.nD Cert.Kernel3Ideal.τ).loc Cert.Kernel3Ideal.main_v55_2)) (v3 : (c : Dev Cert.Kernel3Ideal.nD) → Buf (Elt Ideal) ((c.tc : Thread Cert.Kernel3Ideal.nD Cert.Kernel3Ideal.τ).loc Cert.Kernel3Ideal.main_v55_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v55_0) = v0 c
          ∧ r.2.mem ((c.tc : Thread Cert.Kernel3Ideal.nD Cert.Kernel3Ideal.τ).loc Cert.Kernel3Ideal.main_v55_1) = v1 c
          ∧ r.2.mem ((c.tc : Thread Cert.Kernel3Ideal.nD Cert.Kernel3Ideal.τ).loc Cert.Kernel3Ideal.main_v55_2) = v2 c
          ∧ r.2.mem ((c.tc : Thread Cert.Kernel3Ideal.nD Cert.Kernel3Ideal.τ).loc Cert.Kernel3Ideal.main_v55_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v129) = v0 c
          ∧ r.2.mem ((c.tc : Thread Cert.Reference3Ideal.nD Cert.Reference3Ideal.τ).loc Cert.Reference3Ideal.main_v131) = v1 c
          ∧ r.2.mem ((c.tc : Thread Cert.Reference3Ideal.nD Cert.Reference3Ideal.τ).loc Cert.Reference3Ideal.main_v133) = v2 c
          ∧ r.2.mem ((c.tc : Thread Cert.Reference3Ideal.nD Cert.Reference3Ideal.τ).loc Cert.Reference3Ideal.main_v135) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v55_0)) (v1 : (c : Dev Cert.Kernel4Ideal.nD) → Buf (Elt Ideal) ((c.tc : Thread Cert.Kernel4Ideal.nD Cert.Kernel4Ideal.τ).loc Cert.Kernel4Ideal.main_v55_1)) (v2 : (c : Dev Cert.Kernel4Ideal.nD) → Buf (Elt Ideal) ((c.tc : Thread Cert.Kernel4Ideal.nD Cert.Kernel4Ideal.τ).loc Cert.Kernel4Ideal.main_v55_2)) (v3 : (c : Dev Cert.Kernel4Ideal.nD) → Buf (Elt Ideal) ((c.tc : Thread Cert.Kernel4Ideal.nD Cert.Kernel4Ideal.τ).loc Cert.Kernel4Ideal.main_v55_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v55_0) = v0 c
          ∧ r.2.mem ((c.tc : Thread Cert.Kernel4Ideal.nD Cert.Kernel4Ideal.τ).loc Cert.Kernel4Ideal.main_v55_1) = v1 c
          ∧ r.2.mem ((c.tc : Thread Cert.Kernel4Ideal.nD Cert.Kernel4Ideal.τ).loc Cert.Kernel4Ideal.main_v55_2) = v2 c
          ∧ r.2.mem ((c.tc : Thread Cert.Kernel4Ideal.nD Cert.Kernel4Ideal.τ).loc Cert.Kernel4Ideal.main_v55_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v129) = v0 c
          ∧ r.2.mem ((c.tc : Thread Cert.Reference4Ideal.nD Cert.Reference4Ideal.τ).loc Cert.Reference4Ideal.main_v131) = v1 c
          ∧ r.2.mem ((c.tc : Thread Cert.Reference4Ideal.nD Cert.Reference4Ideal.τ).loc Cert.Reference4Ideal.main_v133) = v2 c
          ∧ r.2.mem ((c.tc : Thread Cert.Reference4Ideal.nD Cert.Reference4Ideal.τ).loc Cert.Reference4Ideal.main_v135) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_sample [hKernel5Ideal : Cert.Kernel5Ideal.Facts] [hReference5Ideal : Cert.Reference5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sample m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v31)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_queries_and_keys : Cert.Pre_finite_queries_and_keys.Facts) (hPre_routed_tiles : Cert.Pre_routed_tiles.Facts) (hPre_finite_sample : Cert.Pre_finite_sample.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2) (hPre_routed_tiles := hPre_routed_tiles)
    ∧ quiescent_Kernel2Ideal (hKernel2Ideal := hKernel2Ideal) (hPre_routed_tiles := hPre_routed_tiles)
    ∧ quiescent_Reference2Ideal (hReference2Ideal := hReference2Ideal)
    ∧ quiescent_Reference2Ideal_pre_routed_tiles (hReference2Ideal := hReference2Ideal) (hPre_routed_tiles := hPre_routed_tiles)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_sample (hKernel5Ideal := hKernel5Ideal) (hPre_finite_sample := hPre_finite_sample)
    ∧ quiescent_Reference5Ideal (hReference5Ideal := hReference5Ideal)
    ∧ quiescent_Reference5Ideal_pre_finite_sample (hReference5Ideal := hReference5Ideal) (hPre_finite_sample := hPre_finite_sample)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal) (hPre_routed_tiles := hPre_routed_tiles)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_sample (hKernel5Ideal := hKernel5Ideal) (hReference5Ideal := hReference5Ideal) (hPre_finite_sample := hPre_finite_sample)
-- ==== Pre_finite_queries_and_keys.lean ====
abbrev S4x8192x1024 : Shape := ⟨3, ![4, 8192, 1024]⟩
abbrev S4x8192x256 : Shape := ⟨3, ![4, 8192, 256]⟩
abbrev S1x128 : Shape := ⟨2, ![1, 128]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x8192x256 : S_.BroadcastsInDim S4x8192x256 (![] : Fin 0 → Fin S4x8192x256.rank)
  reducesTo_S4x8192x256_S_d0_1_2 : S4x8192x256.ReducesTo [0, 1, 2] S_

variable [Facts]

def fn {F : FTy → Type} [FloatOps F] (main_arg0 : FVec F S4x8192x1024 .f32) (main_arg1 : FVec F S4x8192x256 .f32) (main_arg2 : FVec F S4x8192x256 .f32) (main_arg3 : FVec F S1x128 .f32) (main_arg4 : FVec F S1x128 .f32) : IVec S_ 1 × IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x256 .f32 := Host.absf main_arg1
  let main_cst_0 : FVec F S_ .f32 := constant S_ .f32 0x7F800000#32
  let main_v5 : FVec F S4x8192x256 .f32 := broadcastInDim S4x8192x256 ![] bcast_S_S4x8192x256 main_cst_0
  let main_v6 : IVec S4x8192x256 1 := cmpf .olt main_v4 main_v5
  let main_c_1 : IVec S_ 1 := constantI S_ 1 1#1
  let main_v7 : IVec S_ 1 := (fun x v => Host.reduce IntOp.andi x v reducesTo_S4x8192x256_S_d0_1_2 h_S_) main_v6 main_c_1
  (main_v3, main_v7)
-- ==== Pre_finite_sample.lean ====
abbrev S8x2048x1024 : Shape := ⟨3, ![8, 2048, 1024]⟩
abbrev S8x2048x256 : Shape := ⟨3, ![8, 2048, 256]⟩
abbrev S1x128 : Shape := ⟨2, ![1, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x256 : S_.BroadcastsInDim S8x2048x256 (![] : Fin 0 → Fin S8x2048x256.rank)
  reducesTo_S8x2048x256_S_d0_1_2 : S8x2048x256.ReducesTo [0, 1, 2] S_

variable [Facts]

def fn {F : FTy → Type} [FloatOps F] (main_arg0 : FVec F S8x2048x1024 .f32) (main_arg1 : FVec F S8x2048x256 .f32) (main_arg2 : FVec F S8x2048x256 .f32) (main_arg3 : FVec F S1x128 .f32) (main_arg4 : FVec F S1x128 .f32) : IVec S_ 1 × IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  (main_v3, main_v7)
-- ==== Pre_routed_tiles.lean ====
abbrev S216 : Shape := ⟨1, ![216]⟩
abbrev S55296x2048 : Shape := ⟨2, ![55296, 2048]⟩
abbrev S16x2048x1024 : Shape := ⟨3, ![16, 2048, 1024]⟩
abbrev S16x1024x2048 : Shape := ⟨3, ![16, 1024, 2048]⟩
abbrev S_ : Shape := ⟨0, ![]⟩

class Facts : Prop where
  bcast_S_S216 : S_.BroadcastsInDim S216 (![] : Fin 0 → Fin S216.rank)
  reducesTo_S216_S_d0 : S216.ReducesTo [0] S_
  h_S_ : 0 < S_.numel

variable [Facts]

def fn_part1 {F : FTy → Type} [FloatOps F] (main_arg2 : IVec S216 32) (main_arg3 : IVec S216 32) (main_v0 : IVec S216 32) (main_v6 : IVec S_ 1) (main_v12 : IVec S_ 1) (main_v14 : IVec S216 1) (main_v15 : IVec S216 32) : IVec S_ 1 × IVec S_ 1 × IVec S_ 1 × IVec S_ 1 × IVec S_ 1 :=
  let main_v16 : IVec S216 1 := cmpi .slt main_arg2 main_v15
  let main_v17 : IVec S216 1 := andi main_v14 main_v16
  let main_c_7 : IVec S_ 1 := constantI S_ 1 1#1
  let main_v18 : IVec S_ 1 := (fun x v => Host.reduce IntOp.andi x v reducesTo_S216_S_d0 h_S_) main_v17 main_c_7
  let main_c_8 : IVec S_ 32 := constantI S_ 32 0#32
  let main_v19 : IVec S216 32 := broadcastInDim S216 ![] bcast_S_S216 main_c_8
  let main_v20 : IVec S216 1 := cmpi .eq main_arg3 main_v19
  let main_c_9 : IVec S_ 32 := constantI S_ 32 1#32
  let main_v21 : IVec S216 32 := broadcastInDim S216 ![] bcast_S_S216 main_c_9
  let main_v22 : IVec S216 1 := cmpi .eq main_arg3 main_v21
  let main_v23 : IVec S216 1 := ori main_v20 main_v22
  let main_c_10 : IVec S_ 1 := constantI S_ 1 1#1
  let main_v24 : IVec S_ 1 := (fun x v => Host.reduce IntOp.andi x v reducesTo_S216_S_d0 h_S_) main_v23 main_c_10
  let main_c_11 : IVec S_ 32 := constantI S_ 32 0#32
  let main_v25 : IVec S216 32 := broadcastInDim S216 ![] bcast_S_S216 main_c_11
  let main_v26 : IVec S216 1 := cmpi .eq main_arg3 main_v25
  let main_v27 : IVec S216 1 := cmpi .eq main_arg2 main_v0
  let main_v28 : IVec S216 1 := ori main_v26 main_v27
  let main_c_12 : IVec S_ 1 := constantI S_ 1 1#1
  let main_v29 : IVec S_ 1 := (fun x v => Host.reduce IntOp.andi x v reducesTo_S216_S_d0 h_S_) main_v28 main_c_12
  (main_v6, main_v12, main_v18, main_v24, main_v29)

def fn {F : FTy → Type} [FloatOps F] (main_arg0 : IVec S216 32) (main_arg1 : IVec S216 32) (main_arg2 : IVec S216 32) (main_arg3 : IVec S216 32) (main_arg4 : FVec F S55296x2048 .f32) (main_arg5 : FVec F S16x2048x1024 .f32) (main_arg6 : FVec F S16x2048x1024 .f32) (main_arg7 : FVec F S16x1024x2048 .f32) : IVec S_ 1 × IVec S_ 1 × IVec S_ 1 × IVec S_ 1 × IVec S_ 1 :=
  let main_v0 : IVec S216 32 := iotaInDim S216 32 0
  let main_c : IVec S_ 32 := constantI S_ 32 0#32
  let main_v1 : IVec S216 32 := broadcastInDim S216 ![] bcast_S_S216 main_c
  let main_v2 : IVec S216 1 := cmpi .sge main_arg0 main_v1
  let main_c_0 : IVec S_ 32 := constantI S_ 32 16#32
  let main_v3 : IVec S216 32 := broadcastInDim S216 ![] bcast_S_S216 main_c_0
  let main_v4 : IVec S216 1 := cmpi .slt main_arg0 main_v3
  let main_v5 : IVec S216 1 := andi main_v2 main_v4
  let main_c_1 : IVec S_ 1 := constantI S_ 1 1#1
  let main_v6 : IVec S_ 1 := (fun x v => Host.reduce IntOp.andi x v reducesTo_S216_S_d0 h_S_) main_v5 main_c_1
  let main_c_2 : IVec S_ 32 := constantI S_ 32 0#32
  let main_v7 : IVec S216 32 := broadcastInDim S216 ![] bcast_S_S216 main_c_2
  let main_v8 : IVec S216 1 := cmpi .sge main_arg1 main_v7
  let main_c_3 : IVec S_ 32 := constantI S_ 32 16#32
  let main_v9 : IVec S216 32 := broadcastInDim S216 ![] bcast_S_S216 main_c_3
  let main_v10 : IVec S216 1 := cmpi .slt main_arg1 main_v9
  let main_v11 : IVec S216 1 := andi main_v8 main_v10
  let main_c_4 : IVec S_ 1 := constantI S_ 1 1#1
  let main_v12 : IVec S_ 1 := (fun x v => Host.reduce IntOp.andi x v reducesTo_S216_S_d0 h_S_) main_v11 main_c_4
  let main_c_5 : IVec S_ 32 := constantI S_ 32 0#32
  let main_v13 : IVec S216 32 := broadcastInDim S216 ![] bcast_S_S216 main_c_5
  let main_v14 : IVec S216 1 := cmpi .sge main_arg2 main_v13
  let main_c_6 : IVec S_ 32 := constantI S_ 32 216#32
  let main_v15 : IVec S216 32 := broadcastInDim S216 ![] bcast_S_S216 main_c_6
  fn_part1 (F := F) main_arg2 main_arg3 main_v0 main_v6 main_v12 main_v14 main_v15
-- ==== Kernel.lean ====
abbrev S4x8192x1024 : Shape := ⟨3, ![4, 8192, 1024]⟩
abbrev S4x8192x256 : Shape := ⟨3, ![4, 8192, 256]⟩
abbrev S1x128 : Shape := ⟨2, ![1, 128]⟩
abbrev S_ : Shape := ⟨0, ![]⟩
abbrev S128 : Shape := ⟨1, ![128]⟩
abbrev S1 : Shape := ⟨1, ![1]⟩
abbrev S2 : Shape := ⟨1, ![2]⟩
abbrev S4x256x8192 : Shape := ⟨3, ![4, 256, 8192]⟩
abbrev S1x2048x512 : Shape := ⟨3, ![1, 2048, 512]⟩
abbrev S1x1024x128 : Shape := ⟨3, ![1, 1024, 128]⟩
abbrev S1x128x1024 : Shape := ⟨3, ![1, 128, 1024]⟩
abbrev S4x1x2048 : Shape := ⟨3, ![4, 1, 2048]⟩
abbrev S4x128x2048 : Shape := ⟨3, ![4, 128, 2048]⟩
abbrev S1x2048x128 : Shape := ⟨3, ![1, 2048, 128]⟩
abbrev S2048x128 : Shape := ⟨2, ![2048, 128]⟩
abbrev S1024x128 : Shape := ⟨2, ![1024, 128]⟩
abbrev S1024x2048 : Shape := ⟨2, ![1024, 2048]⟩
abbrev S1x1x2048 : Shape := ⟨3, ![1, 1, 2048]⟩
abbrev S1x2048 : Shape := ⟨2, ![1, 2048]⟩
abbrev S2048 : Shape := ⟨1, ![2048]⟩
abbrev S1x128x2048 : Shape := ⟨3, ![1, 128, 2048]⟩
abbrev S128x2048 : Shape := ⟨2, ![128, 2048]⟩
abbrev S128x1024 : Shape := ⟨2, ![128, 1024]⟩

abbrev nBuf : Space → Nat
  | .hbm => 48
  | .vmem => 11
  | .smem => 1
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x256, .f32⟩
  | .hbm, ⟨3, _⟩ => ⟨S1x128, .f32⟩
  | .hbm, ⟨4, _⟩ => ⟨S1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S1x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S1, .i32⟩
  | .hbm, ⟨41, _⟩ => ⟨S4x8192x1024, .f32⟩
  | .hbm, ⟨42, _⟩ => ⟨S4x8192x1024, .f32⟩
  | .hbm, ⟨43, _⟩ => ⟨S4x8192x1024, .bf16⟩
  | .hbm, ⟨44, _⟩ => ⟨S4x8192x256, .bf16⟩
  | .hbm, ⟨45, _⟩ => ⟨S4x256x8192, .f32⟩
  | .hbm, ⟨46, _⟩ => ⟨S4x256x8192, .bf16⟩
  | .hbm, ⟨47, _⟩ => ⟨S4x8192x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S4x1x2048, .f32⟩
  | .local _ .vmem, ⟨9, _⟩ => ⟨S4x1x2048, .f32⟩
  | .local _ .vmem, ⟨10, _⟩ => ⟨S4x128x2048, .f32⟩
  | .local _ .smem, ⟨0, _⟩ => ⟨S2, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_cst_7 : Ref sig .tc := ⟨.hbm, 29, rfl⟩
abbrev main_v16 : Ref sig .tc := ⟨.hbm, 30, rfl⟩
abbrev main_v17 : Ref sig .tc := ⟨.hbm, 31, rfl⟩
abbrev main_cst_8 : Ref sig .tc := ⟨.hbm, 32, rfl⟩
abbrev main_v18 : Ref sig .tc := ⟨.hbm, 33, rfl⟩
abbrev main_cst_9 : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v24 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 2, 4, 8], ![false, false, false, false]⟩

abbrev pre0 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

def k0_cond4 (i : grid0.Coords) : BitVec 1 :=
  let arg3 : BitVec 32 := BitVec.ofNat 32 (i 3).val
  let c7_i32 : BitVec 32 := 7#32
  let v10 : BitVec 1 := Scalar.cmpi .eq arg3 c7_i32
  let v11 : BitVec 32 := Scalar.extui v10
  let c0_i32_3 : BitVec 32 := 0#32
  let v12 : BitVec 1 := Scalar.cmpi .ne v11 c0_i32_3
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== KernelIdeal.lean ====
abbrev S4x8192x1024 : Shape := ⟨3, ![4, 8192, 1024]⟩
abbrev S4x8192x256 : Shape := ⟨3, ![4, 8192, 256]⟩
abbrev S1x128 : Shape := ⟨2, ![1, 128]⟩
abbrev S_ : Shape := ⟨0, ![]⟩
abbrev S128 : Shape := ⟨1, ![128]⟩
abbrev S1 : Shape := ⟨1, ![1]⟩
abbrev S2 : Shape := ⟨1, ![2]⟩
abbrev S4x256x8192 : Shape := ⟨3, ![4, 256, 8192]⟩
abbrev S1x2048x512 : Shape := ⟨3, ![1, 2048, 512]⟩
abbrev S1x1024x128 : Shape := ⟨3, ![1, 1024, 128]⟩
abbrev S1x128x1024 : Shape := ⟨3, ![1, 128, 1024]⟩
abbrev S4x1x2048 : Shape := ⟨3, ![4, 1, 2048]⟩
abbrev S4x128x2048 : Shape := ⟨3, ![4, 128, 2048]⟩
abbrev S1x2048x128 : Shape := ⟨3, ![1, 2048, 128]⟩
abbrev S2048x128 : Shape := ⟨2, ![2048, 128]⟩
abbrev S1024x128 : Shape := ⟨2, ![1024, 128]⟩
abbrev S1024x2048 : Shape := ⟨2, ![1024, 2048]⟩
abbrev S1x1x2048 : Shape := ⟨3, ![1, 1, 2048]⟩
abbrev S1x2048 : Shape := ⟨2, ![1, 2048]⟩
abbrev S2048 : Shape := ⟨1, ![2048]⟩
abbrev S1x128x2048 : Shape := ⟨3, ![1, 128, 2048]⟩
abbrev S128x2048 : Shape := ⟨2, ![128, 2048]⟩
abbrev S128x1024 : Shape := ⟨2, ![128, 1024]⟩

abbrev nBuf : Space → Nat
  | .hbm => 48
  | .vmem => 11
  | .smem => 1
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x256, .f32⟩
  | .hbm, ⟨3, _⟩ => ⟨S1x128, .f32⟩
  | .hbm, ⟨4, _⟩ => ⟨S1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S1x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S1, .i32⟩
  | .hbm, ⟨41, _⟩ => ⟨S4x8192x1024, .f32⟩
  | .hbm, ⟨42, _⟩ => ⟨S4x8192x1024, .f32⟩
  | .hbm, ⟨43, _⟩ => ⟨S4x8192x1024, .bf16⟩
  | .hbm, ⟨44, _⟩ => ⟨S4x8192x256, .bf16⟩
  | .hbm, ⟨45, _⟩ => ⟨S4x256x8192, .f32⟩
  | .hbm, ⟨46, _⟩ => ⟨S4x256x8192, .bf16⟩
  | .hbm, ⟨47, _⟩ => ⟨S4x8192x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S4x1x2048, .f32⟩
  | .local _ .vmem, ⟨9, _⟩ => ⟨S4x1x2048, .f32⟩
  | .local _ .vmem, ⟨10, _⟩ => ⟨S4x128x2048, .f32⟩
  | .local _ .smem, ⟨0, _⟩ => ⟨S2, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_cst_7 : Ref sig .tc := ⟨.hbm, 29, rfl⟩
abbrev main_v16 : Ref sig .tc := ⟨.hbm, 30, rfl⟩
abbrev main_v17 : Ref sig .tc := ⟨.hbm, 31, rfl⟩
abbrev main_cst_8 : Ref sig .tc := ⟨.hbm, 32, rfl⟩
abbrev main_v18 : Ref sig .tc := ⟨.hbm, 33, rfl⟩
abbrev main_cst_9 : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v24 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 2, 4, 8], ![false, false, false, false]⟩

abbrev pre0 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

def k0_cond4 (i : grid0.Coords) : BitVec 1 :=
  let arg3 : BitVec 32 := BitVec.ofNat 32 (i 3).val
  let c7_i32 : BitVec 32 := 7#32
  let v10 : BitVec 1 := Scalar.cmpi .eq arg3 c7_i32
  let v11 : BitVec 32 := Scalar.extui v10
  let c0_i32_3 : BitVec 32 := 0#32
  let v12 : BitVec 1 := Scalar.cmpi .ne v11 c0_i32_3
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S4x8192x1024 : Shape := ⟨3, ![4, 8192, 1024]⟩
abbrev S4x8192x256 : Shape := ⟨3, ![4, 8192, 256]⟩
abbrev S1x128 : Shape := ⟨2, ![1, 128]⟩
abbrev S4x8192x2x4x128 : Shape := ⟨5, ![4, 8192, 2, 4, 128]⟩
abbrev S4x8192x2x128 : Shape := ⟨4, ![4, 8192, 2, 128]⟩
abbrev S_ : Shape := ⟨0, ![]⟩
abbrev S4x2x8192x8192x4 : Shape := ⟨5, ![4, 2, 8192, 8192, 4]⟩
abbrev S4x2x4x8192x8192 : Shape := ⟨5, ![4, 2, 4, 8192, 8192]⟩
abbrev S4x2x4x8192 : Shape := ⟨4, ![4, 2, 4, 8192]⟩
abbrev S4x2x4x8192x1 : Shape := ⟨5, ![4, 2, 4, 8192, 1]⟩
abbrev S4x2x128x4x8192 : Shape := ⟨5, ![4, 2, 128, 4, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x256, .f32⟩
  | .hbm, ⟨3, _⟩ => ⟨S1x128, .f32⟩
  | .hbm, ⟨4, _⟩ => ⟨S1x128, .f32⟩
  | .hbm, ⟨5, _⟩ => ⟨S4x8192x2x4x128, .f32⟩
  | .hbm, ⟨6, _⟩ => ⟨S4x8192x2x128, .f32⟩
  | .hbm, ⟨7, _⟩ => ⟨S4x8192x2x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x2x8192x8192x4, .f32⟩
  | .hbm, ⟨13, _⟩ => ⟨S4x2x4x8192x8192, .f32⟩
  | .hbm, ⟨14, _⟩ => ⟨S4x2x4x8192x8192, .f32⟩
  | .hbm, ⟨15, _⟩ => ⟨S4x2x4x8192x8192, .f32⟩
  | .hbm, ⟨16, _⟩ => ⟨S_, .f32⟩
  | .hbm, ⟨17, _⟩ => ⟨S4x2x4x8192, .f32⟩
  | .hbm, ⟨18, _⟩ => ⟨S_, .f32⟩
  | .hbm, ⟨19, _⟩ => ⟨S4x2x4x8192, .f32⟩
  | .hbm, ⟨20, _⟩ => ⟨S4x2x4x8192, .f32⟩
  | .hbm, ⟨21, _⟩ => ⟨S4x2x4x8192x1, .f32⟩
  | .hbm, ⟨22, _⟩ => ⟨S4x2x4x8192x8192, .f32⟩
  | .hbm, ⟨23, _⟩ => ⟨S4x2x4x8192x8192, .f32⟩
  | .hbm, ⟨24, _⟩ => ⟨S4x2x4x8192x8192, .f32⟩
  | .hbm, ⟨25, _⟩ => ⟨S_, .f32⟩
  | .hbm, ⟨26, _⟩ => ⟨S4x2x4x8192, .f32⟩
  | .hbm, ⟨27, _⟩ => ⟨S4x2x4x8192x1, .f32⟩
  | .hbm, ⟨28, _⟩ => ⟨S4x2x4x8192x8192, .f32⟩
  | .hbm, ⟨29, _⟩ => ⟨S4x2x4x8192x8192, .f32⟩
  | .hbm, ⟨30, _⟩ => ⟨S4x2x128x4x8192, .f32⟩
  | .hbm, ⟨31, _⟩ => ⟨S4x8192x2x4x128, .f32⟩
  | .hbm, ⟨32, _⟩ => ⟨S4x8192x1024, .f32⟩
  | .hbm, ⟨33, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel2.lean ====
abbrev S216 : Shape := ⟨1, ![216]⟩
abbrev S55296x2048 : Shape := ⟨2, ![55296, 2048]⟩
abbrev S16x2048x1024 : Shape := ⟨3, ![16, 2048, 1024]⟩
abbrev S16x1024x2048 : Shape := ⟨3, ![16, 1024, 2048]⟩
abbrev S55296x4096 : Shape := ⟨2, ![55296, 4096]⟩
abbrev S256x2048 : Shape := ⟨2, ![256, 2048]⟩
abbrev S1 : Shape := ⟨1, ![1]⟩
abbrev S1x2048x1024 : Shape := ⟨3, ![1, 2048, 1024]⟩
abbrev S1x1024x2048 : Shape := ⟨3, ![1, 1024, 2048]⟩
abbrev S256x4096 : Shape := ⟨2, ![256, 4096]⟩
abbrev S256x1024 : Shape := ⟨2, ![256, 1024]⟩
abbrev S2048x1024 : Shape := ⟨2, ![2048, 1024]⟩
abbrev S1024x2048 : Shape := ⟨2, ![1024, 2048]⟩

abbrev nBuf : Space → Nat
  | .hbm => 9
  | .vmem => 13
  | .smem => 4
  | _ => 0

abbrev bufTy : (tb : Table) → Fin (tcTables nBuf tb) → BufTy
  | .hbm, ⟨0, _⟩ => ⟨S55296x2048, .f32⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S55296x2048, .bf16⟩
  | .hbm, ⟨5, _⟩ => ⟨S16x2048x1024, .bf16⟩
  | .hbm, ⟨6, _⟩ => ⟨S16x2048x1024, .bf16⟩
  | .hbm, ⟨7, _⟩ => ⟨S16x1024x2048, .bf16⟩
  | .hbm, ⟨8, _⟩ => ⟨S55296x4096, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x1024x2048, .bf16⟩
  | .local _ .vmem, ⟨10, _⟩ => ⟨S1x1024x2048, .bf16⟩
  | .local _ .vmem, ⟨11, _⟩ => ⟨S256x4096, .bf16⟩
  | .local _ .vmem, ⟨12, _⟩ => ⟨S256x4096, .bf16⟩
  | .local _ .smem, ⟨0, _⟩ => ⟨S216, .i32⟩
  | .local _ .smem, ⟨1, _⟩ => ⟨S216, .i32⟩
  | .local _ .smem, ⟨2, _⟩ => ⟨S216, .i32⟩
  | .local _ .smem, ⟨3, _⟩ => ⟨S216, .i32⟩
  | _, _ => ⟨S55296x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![216], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S216.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S216) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S216 : Shape := ⟨1, ![216]⟩
abbrev S55296x2048 : Shape := ⟨2, ![55296, 2048]⟩
abbrev S16x2048x1024 : Shape := ⟨3, ![16, 2048, 1024]⟩
abbrev S16x1024x2048 : Shape := ⟨3, ![16, 1024, 2048]⟩
abbrev S55296x16x1024 : Shape := ⟨3, ![55296, 16, 1024]⟩
abbrev S_ : Shape := ⟨0, ![]⟩
abbrev S16x2048x55296 : Shape := ⟨3, ![16, 2048, 55296]⟩
abbrev S55296x16x2048 : Shape := ⟨3, ![55296, 16, 2048]⟩
abbrev S216x256 : Shape := ⟨2, ![216, 256]⟩
abbrev S55296 : Shape := ⟨1, ![55296]⟩
abbrev S55296x1 : Shape := ⟨2, ![55296, 1]⟩
abbrev S1x16 : Shape := ⟨2, ![1, 16]⟩
abbrev S55296x16 : Shape := ⟨2, ![55296, 16]⟩
abbrev S55296x4096 : Shape := ⟨2, ![55296, 4096]⟩

abbrev nBuf : Space → Nat
  | .hbm => 51
  | .vmem => 0
  | .smem => 0
  | _ => 0

abbrev bufTy : (tb : Table) → Fin (tcTables nBuf tb) → BufTy
  | .hbm, ⟨0, _⟩ => ⟨S216, .i32⟩
  | .hbm, ⟨1, _⟩ => ⟨S216, .i32⟩
  | .hbm, ⟨2, _⟩ => ⟨S216, .i32⟩
  | .hbm, ⟨3, _⟩ => ⟨S216, .i32⟩
  | .hbm, ⟨4, _⟩ => ⟨S55296x2048, .f32⟩
  | .hbm, ⟨5, _⟩ => ⟨S16x2048x1024, .f32⟩
  | .hbm, ⟨6, _⟩ => ⟨S16x2048x1024, .f32⟩
  | .hbm, ⟨7, _⟩ => ⟨S16x1024x2048, .f32⟩
  | .hbm, ⟨8, _⟩ => ⟨S55296x16x1024, .f32⟩
  | .hbm, ⟨9, _⟩ => ⟨S55296x16x1024, .f32⟩
  | .hbm, ⟨10, _⟩ => ⟨S55296x16x1024, .f32⟩
  | .hbm, ⟨11, _⟩ => ⟨S55296x16x1024, .f32⟩
  | .hbm, ⟨12, _⟩ => ⟨S_, .f32⟩
  | .hbm, ⟨13, _⟩ => ⟨S55296x16x1024, .f32⟩
  | .hbm, ⟨14, _⟩ => ⟨S55296x16x1024, .f32⟩
  | .hbm, ⟨15, _⟩ => ⟨S_, .f32⟩
  | .hbm, ⟨16, _⟩ => ⟨S55296x16x1024, .f32⟩
  | .hbm, ⟨17, _⟩ => ⟨S55296x16x1024, .f32⟩
  | .hbm, ⟨18, _⟩ => ⟨S55296x16x1024, .f32⟩
  | .hbm, ⟨19, _⟩ => ⟨S55296x16x1024, .f32⟩
  | .hbm, ⟨20, _⟩ => ⟨S16x2048x55296, .f32⟩
  | .hbm, ⟨21, _⟩ => ⟨S55296x16x2048, .f32⟩
  | .hbm, ⟨22, _⟩ => ⟨S216, .f32⟩
  | .hbm, ⟨23, _⟩ => ⟨S216x256, .f32⟩
  | .hbm, ⟨24, _⟩ => ⟨S55296, .f32⟩
  | .hbm, ⟨25, _⟩ => ⟨S216x256, .i32⟩
  | .hbm, ⟨26, _⟩ => ⟨S55296, .i32⟩
  | .hbm, ⟨27, _⟩ => ⟨S55296x1, .i32⟩
  | .hbm, ⟨28, _⟩ => ⟨S1x16, .i32⟩
  | .hbm, ⟨29, _⟩ => ⟨S55296x16, .i32⟩
  | .hbm, ⟨30, _⟩ => ⟨S55296x16, .i32⟩
  | .hbm, ⟨31, _⟩ => ⟨S55296x16, .i1⟩
  | .hbm, ⟨32, _⟩ => ⟨S55296x16, .f32⟩
  | .hbm, ⟨33, _⟩ => ⟨S55296x1, .f32⟩
  | .hbm, ⟨34, _⟩ => ⟨S55296x16, .f32⟩
  | .hbm, ⟨35, _⟩ => ⟨S55296x16, .f32⟩
  | .hbm, ⟨36, _⟩ => ⟨S216x256, .i32⟩
  | .hbm, ⟨37, _⟩ => ⟨S55296, .i32⟩
  | .hbm, ⟨38, _⟩ => ⟨S55296x1, .i32⟩
  | .hbm, ⟨39, _⟩ => ⟨S1x16, .i32⟩
  | .hbm, ⟨40, _⟩ => ⟨S55296x16, .i32⟩
  | .hbm, ⟨41, _⟩ => ⟨S55296x16, .i32⟩
  | .hbm, ⟨42, _⟩ => ⟨S55296x16, .i1⟩
  | .hbm, ⟨43, _⟩ => ⟨S55296x16, .f32⟩
  | .hbm, ⟨44, _⟩ => ⟨S55296x1, .f32⟩
  | .hbm, ⟨45, _⟩ => ⟨S55296x16, .f32⟩
  | .hbm, ⟨46, _⟩ => ⟨S55296x16, .f32⟩
  | .hbm, ⟨47, _⟩ => ⟨S55296x2048, .f32⟩
  | .hbm, ⟨48, _⟩ => ⟨S55296x2048, .f32⟩
  | .hbm, ⟨49, _⟩ => ⟨S55296x4096, .f32⟩
  | .hbm, ⟨50, _⟩ => ⟨S55296x4096, .bf16⟩
  | _, _ => ⟨S216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩

abbrev nD : Nat := 1
abbrev τ : Topo := Topo.v7x

variable {F : FTy → Type} [FloatOps F]
-- ==== Kernel3.lean ====
abbrev S4x8192x2048 : Shape := ⟨3, ![4, 8192, 2048]⟩
abbrev S1x2048 : Shape := ⟨2, ![1, 2048]⟩
abbrev S1x2048x2560 : Shape := ⟨3, ![1, 2048, 2560]⟩
abbrev S1x128 : Shape := ⟨2, ![1, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S32768x2048 : Shape := ⟨2, ![32768, 2048]⟩
abbrev S2048 : Shape := ⟨1, ![2048]⟩
abbrev S2048x2560 : Shape := ⟨2, ![2048, 2560]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S32768x1024 : Shape := ⟨2, ![32768, 1024]⟩
abbrev S32768x256 : Shape := ⟨2, ![32768, 256]⟩
abbrev S4x256x8192 : Shape := ⟨3, ![4, 256, 8192]⟩
abbrev S4x256x32768 : Shape := ⟨3, ![4, 256, 32768]⟩
abbrev S512x2048 : Shape := ⟨2, ![512, 2048]⟩
abbrev S512x128 : Shape := ⟨2, ![512, 128]⟩
abbrev S512x1024 : Shape := ⟨2, ![512, 1024]⟩
abbrev S512x256 : Shape := ⟨2, ![512, 256]⟩
abbrev S1x256x512 : Shape := ⟨3, ![1, 256, 512]⟩
abbrev S1x16x32768 : Shape := ⟨3, ![1, 16, 32768]⟩
abbrev S2048x1024 : Shape := ⟨2, ![2048, 1024]⟩
abbrev S2048x256 : Shape := ⟨2, ![2048, 256]⟩
abbrev S256x512 : Shape := ⟨2, ![256, 512]⟩
abbrev S16x1024 : Shape := ⟨2, ![16, 1024]⟩
abbrev S1x16x1024 : Shape := ⟨3, ![1, 16, 1024]⟩

abbrev nBuf : Space → Nat
  | .hbm => 106
  | .vmem => 21
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x2560, .f32⟩
  | .hbm, ⟨3, _⟩ => ⟨S1x128, .f32⟩
  | .hbm, ⟨4, _⟩ => ⟨S1x128, .f32⟩
  | .hbm, ⟨5, _⟩ => ⟨S128, .f32⟩
  | .hbm, ⟨6, _⟩ => ⟨S128x64, .f32⟩
  | .hbm, ⟨7, _⟩ => ⟨S8192, .f32⟩
  | .hbm, ⟨8, _⟩ => ⟨S64, .f32⟩
  | .hbm, ⟨9, _⟩ => ⟨S1x64, .f32⟩
  | .hbm, ⟨10, _⟩ => ⟨S128x64, .f32⟩
  | .hbm, ⟨11, _⟩ => ⟨S8192, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S_, .f32⟩
  | .hbm, ⟨35, _⟩ => ⟨S8192x32, .f32⟩
  | .hbm, ⟨36, _⟩ => ⟨S8192x128, .f32⟩
  | .hbm, ⟨37, _⟩ => ⟨S8192x32, .f32⟩
  | .hbm, ⟨38, _⟩ => ⟨S8192x32, .f32⟩
  | .hbm, ⟨39, _⟩ => ⟨S8192x128, .f32⟩
  | .hbm, ⟨40, _⟩ => ⟨S8192x128, .f32⟩
  | .hbm, ⟨41, _⟩ => ⟨S32768x2048, .f32⟩
  | .hbm, ⟨42, _⟩ => ⟨S2048, .f32⟩
  | .hbm, ⟨43, _⟩ => ⟨S1x2048, .f32⟩
  | .hbm, ⟨44, _⟩ => ⟨S2048x2560, .f32⟩
  | .hbm, ⟨45, _⟩ => ⟨S2048x2560, .bf16⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S512, .i32⟩
  | .hbm, ⟨51, _⟩ => ⟨S512, .i32⟩
  | .hbm, ⟨52, _⟩ => ⟨S1x512, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S512, .i32⟩
  | .hbm, ⟨60, _⟩ => ⟨S512, .i32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i1⟩
  | .hbm, ⟨67, _⟩ => ⟨S_, .i32⟩
  | .hbm, ⟨68, _⟩ => ⟨S_, .i1⟩
  | .hbm, ⟨69, _⟩ => ⟨S512, .i1⟩
  | .hbm, ⟨70, _⟩ => ⟨S512, .i1⟩
  | .hbm, ⟨71, _⟩ => ⟨S512, .i1⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S_, .i32⟩
  | .hbm, ⟨76, _⟩ => ⟨S512, .i32⟩
  | .hbm, ⟨77, _⟩ => ⟨S512, .i32⟩
  | .hbm, ⟨78, _⟩ => ⟨S_, .i32⟩
  | .hbm, ⟨79, _⟩ => ⟨S_, .i32⟩
  | .hbm, ⟨80, _⟩ => ⟨S512, .i32⟩
  | .hbm, ⟨81, _⟩ => ⟨S512, .i32⟩
  | .hbm, ⟨82, _⟩ => ⟨S512, .i32⟩
  | .hbm, ⟨83, _⟩ => ⟨S_, .i32⟩
  | .hbm, ⟨84, _⟩ => ⟨S512, .i32⟩
  | .hbm, ⟨85, _⟩ => ⟨S512, .i1⟩
  | .hbm, ⟨86, _⟩ => ⟨S512, .i32⟩
  | .hbm, ⟨87, _⟩ => ⟨S512, .i32⟩
  | .hbm, ⟨88, _⟩ => ⟨S_, .i32⟩
  | .hbm, ⟨89, _⟩ => ⟨S512, .i32⟩
  | .hbm, ⟨90, _⟩ => ⟨S512, .i1⟩
  | .hbm, ⟨91, _⟩ => ⟨S512, .i1⟩
  | .hbm, ⟨92, _⟩ => ⟨S_, .i32⟩
  | .hbm, ⟨93, _⟩ => ⟨S512, .i32⟩
  | .hbm, ⟨94, _⟩ => ⟨S512, .i32⟩
  | .hbm, ⟨95, _⟩ => ⟨S512, .i32⟩
  | .hbm, ⟨96, _⟩ => ⟨S512, .i32⟩
  | .hbm, ⟨97, _⟩ => ⟨S512x1, .i32⟩
  | .hbm, ⟨98, _⟩ => ⟨S512x512, .i32⟩
  | .hbm, ⟨99, _⟩ => ⟨S512x512, .i32⟩
  | .hbm, ⟨100, _⟩ => ⟨S512x512, .i1⟩
  | .hbm, ⟨101, _⟩ => ⟨S512x512, .bf16⟩
  | .hbm, ⟨102, _⟩ => ⟨S32768x1024, .bf16⟩
  | .hbm, ⟨103, _⟩ => ⟨S32768x256, .bf16⟩
  | .hbm, ⟨104, _⟩ => ⟨S4x256x8192, .bf16⟩
  | .hbm, ⟨105, _⟩ => ⟨S4x256x32768, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2560, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S512x256, .bf16⟩
  | .local _ .vmem, ⟨16, _⟩ => ⟨S512x256, .bf16⟩
  | .local _ .vmem, ⟨17, _⟩ => ⟨S1x256x512, .bf16⟩
  | .local _ .vmem, ⟨18, _⟩ => ⟨S1x256x512, .bf16⟩
  | .local _ .vmem, ⟨19, _⟩ => ⟨S1x16x32768, .bf16⟩
  | .local _ .vmem, ⟨20, _⟩ => ⟨S1x16x32768, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_c : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_1 : Ref sig .tc := ⟨.hbm, 61, rfl⟩
abbrev main_call0_v5 : Ref sig .tc := ⟨.hbm, 62, rfl⟩
abbrev main_call0_v6 : Ref sig .tc := ⟨.hbm, 63, rfl⟩
abbrev main_call0_c_2 : Ref sig .tc := ⟨.hbm, 64, rfl⟩
abbrev main_call0_v7 : Ref sig .tc := ⟨.hbm, 65, rfl⟩
abbrev main_call0_v8 : Ref sig .tc := ⟨.hbm, 66, rfl⟩
abbrev main_call0_c_3 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_v12 : Ref sig .tc := ⟨.hbm, 71, rfl⟩
abbrev main_call0_v13 : Ref sig .tc := ⟨.hbm, 72, rfl⟩
abbrev main_call0_v14 : Ref sig .tc := ⟨.hbm, 73, rfl⟩
abbrev main_v45 : Ref sig .tc := ⟨.hbm, 74, rfl⟩
abbrev main_c_2 : Ref sig .tc := ⟨.hbm, 75, rfl⟩
abbrev main_v46 : Ref sig .tc := ⟨.hbm, 76, rfl⟩
abbrev main_v47 : Ref sig .tc := ⟨.hbm, 77, rfl⟩
abbrev main_c_3 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_c : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_0 : Ref sig .tc := ⟨.hbm, 92, rfl⟩
abbrev main_call1_v12 : Ref sig .tc := ⟨.hbm, 93, rfl⟩
abbrev main_call1_v13 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55_0 : Ref sig .tc := ⟨.hbm, 102, rfl⟩
abbrev main_v55_1 : Ref sig .tc := ⟨.hbm, 103, rfl⟩
abbrev main_v55_2 : Ref sig .tc := ⟨.hbm, 104, rfl⟩
abbrev main_v55_3 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x32768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel3Ideal.lean ====
abbrev S4x8192x2048 : Shape := ⟨3, ![4, 8192, 2048]⟩
abbrev S1x2048 : Shape := ⟨2, ![1, 2048]⟩
abbrev S1x2048x2560 : Shape := ⟨3, ![1, 2048, 2560]⟩
abbrev S1x128 : Shape := ⟨2, ![1, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S32768x2048 : Shape := ⟨2, ![32768, 2048]⟩
abbrev S2048 : Shape := ⟨1, ![2048]⟩
abbrev S2048x2560 : Shape := ⟨2, ![2048, 2560]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S32768x1024 : Shape := ⟨2, ![32768, 1024]⟩
abbrev S32768x256 : Shape := ⟨2, ![32768, 256]⟩
abbrev S4x256x8192 : Shape := ⟨3, ![4, 256, 8192]⟩
abbrev S4x256x32768 : Shape := ⟨3, ![4, 256, 32768]⟩
abbrev S512x2048 : Shape := ⟨2, ![512, 2048]⟩
abbrev S512x128 : Shape := ⟨2, ![512, 128]⟩
abbrev S512x1024 : Shape := ⟨2, ![512, 1024]⟩
abbrev S512x256 : Shape := ⟨2, ![512, 256]⟩
abbrev S1x256x512 : Shape := ⟨3, ![1, 256, 512]⟩
abbrev S1x16x32768 : Shape := ⟨3, ![1, 16, 32768]⟩
abbrev S2048x1024 : Shape := ⟨2, ![2048, 1024]⟩
abbrev S2048x256 : Shape := ⟨2, ![2048, 256]⟩
abbrev S256x512 : Shape := ⟨2, ![256, 512]⟩
abbrev S16x1024 : Shape := ⟨2, ![16, 1024]⟩
abbrev S1x16x1024 : Shape := ⟨3, ![1, 16, 1024]⟩

abbrev nBuf : Space → Nat
  | .hbm => 106
  | .vmem => 21
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x2560, .f32⟩
  | .hbm, ⟨3, _⟩ => ⟨S1x128, .f32⟩
  | .hbm, ⟨4, _⟩ => ⟨S1x128, .f32⟩
  | .hbm, ⟨5, _⟩ => ⟨S128, .f32⟩
  | .hbm, ⟨6, _⟩ => ⟨S128x64, .f32⟩
  | .hbm, ⟨7, _⟩ => ⟨S8192, .f32⟩
  | .hbm, ⟨8, _⟩ => ⟨S64, .f32⟩
  | .hbm, ⟨9, _⟩ => ⟨S1x64, .f32⟩
  | .hbm, ⟨10, _⟩ => ⟨S128x64, .f32⟩
  | .hbm, ⟨11, _⟩ => ⟨S8192, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S_, .f32⟩
  | .hbm, ⟨35, _⟩ => ⟨S8192x32, .f32⟩
  | .hbm, ⟨36, _⟩ => ⟨S8192x128, .f32⟩
  | .hbm, ⟨37, _⟩ => ⟨S8192x32, .f32⟩
  | .hbm, ⟨38, _⟩ => ⟨S8192x32, .f32⟩
  | .hbm, ⟨39, _⟩ => ⟨S8192x128, .f32⟩
  | .hbm, ⟨40, _⟩ => ⟨S8192x128, .f32⟩
  | .hbm, ⟨41, _⟩ => ⟨S32768x2048, .f32⟩
  | .hbm, ⟨42, _⟩ => ⟨S2048, .f32⟩
  | .hbm, ⟨43, _⟩ => ⟨S1x2048, .f32⟩
  | .hbm, ⟨44, _⟩ => ⟨S2048x2560, .f32⟩
  | .hbm, ⟨45, _⟩ => ⟨S2048x2560, .bf16⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S512, .i32⟩
  | .hbm, ⟨51, _⟩ => ⟨S512, .i32⟩
  | .hbm, ⟨52, _⟩ => ⟨S1x512, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S512, .i32⟩
  | .hbm, ⟨60, _⟩ => ⟨S512, .i32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i1⟩
  | .hbm, ⟨67, _⟩ => ⟨S_, .i32⟩
  | .hbm, ⟨68, _⟩ => ⟨S_, .i1⟩
  | .hbm, ⟨69, _⟩ => ⟨S512, .i1⟩
  | .hbm, ⟨70, _⟩ => ⟨S512, .i1⟩
  | .hbm, ⟨71, _⟩ => ⟨S512, .i1⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S_, .i32⟩
  | .hbm, ⟨76, _⟩ => ⟨S512, .i32⟩
  | .hbm, ⟨77, _⟩ => ⟨S512, .i32⟩
  | .hbm, ⟨78, _⟩ => ⟨S_, .i32⟩
  | .hbm, ⟨79, _⟩ => ⟨S_, .i32⟩
  | .hbm, ⟨80, _⟩ => ⟨S512, .i32⟩
  | .hbm, ⟨81, _⟩ => ⟨S512, .i32⟩
  | .hbm, ⟨82, _⟩ => ⟨S512, .i32⟩
  | .hbm, ⟨83, _⟩ => ⟨S_, .i32⟩
  | .hbm, ⟨84, _⟩ => ⟨S512, .i32⟩
  | .hbm, ⟨85, _⟩ => ⟨S512, .i1⟩
  | .hbm, ⟨86, _⟩ => ⟨S512, .i32⟩
  | .hbm, ⟨87, _⟩ => ⟨S512, .i32⟩
  | .hbm, ⟨88, _⟩ => ⟨S_, .i32⟩
  | .hbm, ⟨89, _⟩ => ⟨S512, .i32⟩
  | .hbm, ⟨90, _⟩ => ⟨S512, .i1⟩
  | .hbm, ⟨91, _⟩ => ⟨S512, .i1⟩
  | .hbm, ⟨92, _⟩ => ⟨S_, .i32⟩
  | .hbm, ⟨93, _⟩ => ⟨S512, .i32⟩
  | .hbm, ⟨94, _⟩ => ⟨S512, .i32⟩
  | .hbm, ⟨95, _⟩ => ⟨S512, .i32⟩
  | .hbm, ⟨96, _⟩ => ⟨S512, .i32⟩
  | .hbm, ⟨97, _⟩ => ⟨S512x1, .i32⟩
  | .hbm, ⟨98, _⟩ => ⟨S512x512, .i32⟩
  | .hbm, ⟨99, _⟩ => ⟨S512x512, .i32⟩
  | .hbm, ⟨100, _⟩ => ⟨S512x512, .i1⟩
  | .hbm, ⟨101, _⟩ => ⟨S512x512, .bf16⟩
  | .hbm, ⟨102, _⟩ => ⟨S32768x1024, .bf16⟩
  | .hbm, ⟨103, _⟩ => ⟨S32768x256, .bf16⟩
  | .hbm, ⟨104, _⟩ => ⟨S4x256x8192, .bf16⟩
  | .hbm, ⟨105, _⟩ => ⟨S4x256x32768, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2560, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S512x256, .bf16⟩
  | .local _ .vmem, ⟨16, _⟩ => ⟨S512x256, .bf16⟩
  | .local _ .vmem, ⟨17, _⟩ => ⟨S1x256x512, .bf16⟩
  | .local _ .vmem, ⟨18, _⟩ => ⟨S1x256x512, .bf16⟩
  | .local _ .vmem, ⟨19, _⟩ => ⟨S1x16x32768, .bf16⟩
  | .local _ .vmem, ⟨20, _⟩ => ⟨S1x16x32768, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_c : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_1 : Ref sig .tc := ⟨.hbm, 61, rfl⟩
abbrev main_call0_v5 : Ref sig .tc := ⟨.hbm, 62, rfl⟩
abbrev main_call0_v6 : Ref sig .tc := ⟨.hbm, 63, rfl⟩
abbrev main_call0_c_2 : Ref sig .tc := ⟨.hbm, 64, rfl⟩
abbrev main_call0_v7 : Ref sig .tc := ⟨.hbm, 65, rfl⟩
abbrev main_call0_v8 : Ref sig .tc := ⟨.hbm, 66, rfl⟩
abbrev main_call0_c_3 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_v12 : Ref sig .tc := ⟨.hbm, 71, rfl⟩
abbrev main_call0_v13 : Ref sig .tc := ⟨.hbm, 72, rfl⟩
abbrev main_call0_v14 : Ref sig .tc := ⟨.hbm, 73, rfl⟩
abbrev main_v45 : Ref sig .tc := ⟨.hbm, 74, rfl⟩
abbrev main_c_2 : Ref sig .tc := ⟨.hbm, 75, rfl⟩
abbrev main_v46 : Ref sig .tc := ⟨.hbm, 76, rfl⟩
abbrev main_v47 : Ref sig .tc := ⟨.hbm, 77, rfl⟩
abbrev main_c_3 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_c : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_0 : Ref sig .tc := ⟨.hbm, 92, rfl⟩
abbrev main_call1_v12 : Ref sig .tc := ⟨.hbm, 93, rfl⟩
abbrev main_call1_v13 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55_0 : Ref sig .tc := ⟨.hbm, 102, rfl⟩
abbrev main_v55_1 : Ref sig .tc := ⟨.hbm, 103, rfl⟩
abbrev main_v55_2 : Ref sig .tc := ⟨.hbm, 104, rfl⟩
abbrev main_v55_3 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x32768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S4x8192x2048 : Shape := ⟨3, ![4, 8192, 2048]⟩
abbrev S1x2048 : Shape := ⟨2, ![1, 2048]⟩
abbrev S1x2048x2560 : Shape := ⟨3, ![1, 2048, 2560]⟩
abbrev S1x128 : Shape := ⟨2, ![1, 128]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S2048x2560 : Shape := ⟨2, ![2048, 2560]⟩
abbrev S4x8192x2560 : Shape := ⟨3, ![4, 8192, 2560]⟩
abbrev S4x8192x1024 : Shape := ⟨3, ![4, 8192, 1024]⟩
abbrev S4x8192x8x128 : Shape := ⟨4, ![4, 8192, 8, 128]⟩
abbrev S4x8192x256 : Shape := ⟨3, ![4, 8192, 256]⟩
abbrev S4x8192x2x128 : Shape := ⟨4, ![4, 8192, 2, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x2x32 : Shape := ⟨3, ![8192, 2, 32]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x8x2x2x32 : Shape := ⟨6, ![4, 8192, 8, 2, 2, 32]⟩
abbrev S4x8192x8x2x1x32 : Shape := ⟨6, ![4, 8192, 8, 2, 1, 32]⟩
abbrev S4x8192x8x2x32 : Shape := ⟨5, ![4, 8192, 8, 2, 32]⟩
abbrev S8192x1x2x32 : Shape := ⟨4, ![8192, 1, 2, 32]⟩
abbrev S1x8192x1x2x32 : Shape := ⟨5, ![1, 8192, 1, 2, 32]⟩
abbrev S4x8192x2 : Shape := ⟨3, ![4, 8192, 2]⟩
abbrev S4x8192x2x1 : Shape := ⟨4, ![4, 8192, 2, 1]⟩
abbrev S4x8192x2x2x2x32 : Shape := ⟨6, ![4, 8192, 2, 2, 2, 32]⟩
abbrev S4x8192x2x2x1x32 : Shape := ⟨6, ![4, 8192, 2, 2, 1, 32]⟩
abbrev S4x8192x2x2x32 : Shape := ⟨5, ![4, 8192, 2, 2, 32]⟩
abbrev S32768x1024 : Shape := ⟨2, ![32768, 1024]⟩
abbrev S32768x256 : Shape := ⟨2, ![32768, 256]⟩
abbrev S4x256x8192 : Shape := ⟨3, ![4, 256, 8192]⟩
abbrev S4x256x32768 : Shape := ⟨3, ![4, 256, 32768]⟩

abbrev nBuf : Space → Nat
  | .hbm => 152
  | .vmem => 0
  | .smem => 0
  | _ => 0

abbrev hbmTy0_0 (i : Nat) : BufTy := match i % 128 with
  | 0 => ⟨S4x8192x2048, .f32⟩
  | 1 => ⟨S1x2048, .f32⟩
  | 2 => ⟨S1x2048x2560, .f32⟩
  | 3 => ⟨S1x128, .f32⟩
  | 4 => ⟨S1x128, .f32⟩
  | 5 => ⟨S2048, .f32⟩
  | 6 => ⟨S4x8192x2048, .f32⟩
  | 7 => ⟨S_, .f32⟩
  | 8 => ⟨S4x8192, .f32⟩
  | 9 => ⟨S4x8192x1, .f32⟩
  | 10 => ⟨S_, .f32⟩
  | 11 => ⟨S4x8192x1, .f32⟩
  | 12 => ⟨S4x8192x1, .f32⟩
  | 13 => ⟨S_, .f32⟩
  | 14 => ⟨S4x8192x1, .f32⟩
  | 15 => ⟨S4x8192x1, .f32⟩
  | 16 => ⟨S4x8192x1, .f32⟩
  | 17 => ⟨S4x8192x2048, .f32⟩
  | 18 => ⟨S4x8192x2048, .f32⟩
  | 19 => ⟨S1x1x2048, .f32⟩
  | 20 => ⟨S4x8192x2048, .f32⟩
  | 21 => ⟨S4x8192x2048, .f32⟩
  | 22 => ⟨S2048x2560, .f32⟩
  | 23 => ⟨S4x8192x2560, .f32⟩
  | 24 => ⟨S4x8192x1024, .f32⟩
  | 25 => ⟨S4x8192x8x128, .f32⟩
  | 26 => ⟨S4x8192x256, .f32⟩
  | 27 => ⟨S4x8192x2x128, .f32⟩
  | 28 => ⟨S4x8192x256, .f32⟩
  | 29 => ⟨S4x8192x1024, .f32⟩
  | 30 => ⟨S128, .f32⟩
  | 31 => ⟨S128x64, .f32⟩
  | 32 => ⟨S8192, .f32⟩
  | 33 => ⟨S64, .f32⟩
  | 34 => ⟨S1x64, .f32⟩
  | 35 => ⟨S128x64, .f32⟩
  | 36 => ⟨S8192, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S32, .f32⟩
  | 45 => ⟨S8192x1, .f32⟩
  | 46 => ⟨S1x32, .f32⟩
  | 47 => ⟨S8192x32, .f32⟩
  | 48 => ⟨S8192x32, .f32⟩
  | 49 => ⟨S8192x32, .f32⟩
  | 50 => ⟨S8192x1, .f32⟩
  | 51 => ⟨S1x32, .f32⟩
  | 52 => ⟨S8192x32, .f32⟩
  | 53 => ⟨S8192x32, .f32⟩
  | 54 => ⟨S8192x32, .f32⟩
  | 55 => ⟨S8192x1x32, .f32⟩
  | 56 => ⟨S8192x1x32, .f32⟩
  | 57 => ⟨S8192x2x32, .f32⟩
  | 58 => ⟨S8192x2x32, .f32⟩
  | 59 => ⟨S8192x2x32, .f32⟩
  | 60 => ⟨S128, .f32⟩
  | 61 => ⟨S4x8192x8x128, .f32⟩
  | 62 => ⟨S_, .f32⟩
  | 63 => ⟨S4x8192x8, .f32⟩
  | 64 => ⟨S4x8192x8x1, .f32⟩
  | 65 => ⟨S_, .f32⟩
  | 66 => ⟨S4x8192x8x1, .f32⟩
  | 67 => ⟨S4x8192x8x1, .f32⟩
  | 68 => ⟨S_, .f32⟩
  | 69 => ⟨S4x8192x8x1, .f32⟩
  | 70 => ⟨S4x8192x8x1, .f32⟩
  | 71 => ⟨S4x8192x8x1, .f32⟩
  | 72 => ⟨S4x8192x8x128, .f32⟩
  | 73 => ⟨S4x8192x8x128, .f32⟩
  | 74 => ⟨S1x1x1x128, .f32⟩
  | 75 => ⟨S4x8192x8x128, .f32⟩
  | 76 => ⟨S4x8192x8x128, .f32⟩
  | 77 => ⟨S4x8192x8x2x2x32, .f32⟩
  | 78 => ⟨S4x8192x8x2x1x32, .f32⟩
  | 79 => ⟨S4x8192x8x2x32, .f32⟩
  | 80 => ⟨S4x8192x8x2x1x32, .f32⟩
  | 81 => ⟨S4x8192x8x2x32, .f32⟩
  | 82 => ⟨S8192x1x2x32, .f32⟩
  | 83 => ⟨S8192x1x2x32, .f32⟩
  | 84 => ⟨S1x8192x1x2x32, .f32⟩
  | 85 => ⟨S4x8192x8x2x32, .f32⟩
  | 86 => ⟨S4x8192x8x2x32, .f32⟩
  | 87 => ⟨S1x8192x1x2x32, .f32⟩
  | 88 => ⟨S4x8192x8x2x32, .f32⟩
  | 89 => ⟨S4x8192x8x2x32, .f32⟩
  | 90 => ⟨S4x8192x8x2x32, .f32⟩
  | 91 => ⟨S1x8192x1x2x32, .f32⟩
  | 92 => ⟨S4x8192x8x2x32, .f32⟩
  | 93 => ⟨S4x8192x8x2x32, .f32⟩
  | 94 => ⟨S1x8192x1x2x32, .f32⟩
  | 95 => ⟨S4x8192x8x2x32, .f32⟩
  | 96 => ⟨S4x8192x8x2x32, .f32⟩
  | 97 => ⟨S4x8192x8x2x32, .f32⟩
  | 98 => ⟨S4x8192x8x2x1x32, .f32⟩
  | 99 => ⟨S4x8192x8x2x1x32, .f32⟩
  | 100 => ⟨S4x8192x8x2x2x32, .f32⟩
  | 101 => ⟨S4x8192x8x128, .f32⟩
  | 102 => ⟨S128, .f32⟩
  | 103 => ⟨S4x8192x2x128, .f32⟩
  | 104 => ⟨S_, .f32⟩
  | 105 => ⟨S4x8192x2, .f32⟩
  | 106 => ⟨S4x8192x2x1, .f32⟩
  | 107 => ⟨S_, .f32⟩
  | 108 => ⟨S4x8192x2x1, .f32⟩
  | 109 => ⟨S4x8192x2x1, .f32⟩
  | 110 => ⟨S_, .f32⟩
  | 111 => ⟨S4x8192x2x1, .f32⟩
  | 112 => ⟨S4x8192x2x1, .f32⟩
  | 113 => ⟨S4x8192x2x1, .f32⟩
  | 114 => ⟨S4x8192x2x128, .f32⟩
  | 115 => ⟨S4x8192x2x128, .f32⟩
  | 116 => ⟨S1x1x1x128, .f32⟩
  | 117 => ⟨S4x8192x2x128, .f32⟩
  | 118 => ⟨S4x8192x2x128, .f32⟩
  | 119 => ⟨S4x8192x2x2x2x32, .f32⟩
  | 120 => ⟨S4x8192x2x2x1x32, .f32⟩
  | 121 => ⟨S4x8192x2x2x32, .f32⟩
  | 122 => ⟨S4x8192x2x2x1x32, .f32⟩
  | 123 => ⟨S4x8192x2x2x32, .f32⟩
  | 124 => ⟨S8192x1x2x32, .f32⟩
  | 125 => ⟨S8192x1x2x32, .f32⟩
  | 126 => ⟨S1x8192x1x2x32, .f32⟩
  | 127 => ⟨S4x8192x2x2x32, .f32⟩
  | _ => ⟨S4x8192x2048, .f32⟩

abbrev hbmTy0_1 (i : Nat) : BufTy := match i % 128 with
  | 0 => ⟨S4x8192x2x2x32, .f32⟩
  | 1 => ⟨S1x8192x1x2x32, .f32⟩
  | 2 => ⟨S4x8192x2x2x32, .f32⟩
  | 3 => ⟨S4x8192x2x2x32, .f32⟩
  | 4 => ⟨S4x8192x2x2x32, .f32⟩
  | 5 => ⟨S1x8192x1x2x32, .f32⟩
  | 6 => ⟨S4x8192x2x2x32, .f32⟩
  | 7 => ⟨S4x8192x2x2x32, .f32⟩
  | 8 => ⟨S1x8192x1x2x32, .f32⟩
  | 9 => ⟨S4x8192x2x2x32, .f32⟩
  | 10 => ⟨S4x8192x2x2x32, .f32⟩
  | 11 => ⟨S4x8192x2x2x32, .f32⟩
  | 12 => ⟨S4x8192x2x2x1x32, .f32⟩
  | 13 => ⟨S4x8192x2x2x1x32, .f32⟩
  | 14 => ⟨S4x8192x2x2x2x32, .f32⟩
  | 15 => ⟨S4x8192x2x128, .f32⟩
  | 16 => ⟨S32768x1024, .f32⟩
  | 17 => ⟨S32768x1024, .bf16⟩
  | 18 => ⟨S32768x256, .f32⟩
  | 19 => ⟨S32768x256, .bf16⟩
  | 20 => ⟨S4x256x8192, .f32⟩
  | 21 => ⟨S4x256x8192, .bf16⟩
  | 22 => ⟨S4x256x32768, .f32⟩
  | 23 => ⟨S4x256x32768, .bf16⟩
  | _ => ⟨S4x8192x2048, .f32⟩

abbrev hbmTy (i : Nat) : BufTy := match i / 128 with
  | 0 => hbmTy0_0 i
  | 1 => hbmTy0_1 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_cst_7 : Ref sig .tc := ⟨.hbm, 104, rfl⟩
abbrev main_v91 : Ref sig .tc := ⟨.hbm, 105, rfl⟩
abbrev main_v92 : Ref sig .tc := ⟨.hbm, 106, rfl⟩
abbrev main_cst_8 : Ref sig .tc := ⟨.hbm, 107, rfl⟩
abbrev main_v93 : Ref sig .tc := ⟨.hbm, 108, rfl⟩
abbrev main_v94 : Ref sig .tc := ⟨.hbm, 109, rfl⟩
abbrev main_cst_9 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩

abbrev nD : Nat := 1
abbrev τ : Topo := Topo.v7x

variable {F : FTy → Type} [FloatOps F]
-- ==== Kernel4.lean ====
abbrev S8x2048x2048 : Shape := ⟨3, ![8, 2048, 2048]⟩
abbrev S1x2048 : Shape := ⟨2, ![1, 2048]⟩
abbrev S1x2048x2560 : Shape := ⟨3, ![1, 2048, 2560]⟩
abbrev S1x128 : Shape := ⟨2, ![1, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x2048 : Shape := ⟨2, ![16384, 2048]⟩
abbrev S2048x2560 : Shape := ⟨2, ![2048, 2560]⟩
abbrev S128 : Shape := ⟨1, ![128]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S16384x1024 : Shape := ⟨2, ![16384, 1024]⟩
abbrev S16384x256 : Shape := ⟨2, ![16384, 256]⟩
abbrev S8x256x2048 : Shape := ⟨3, ![8, 256, 2048]⟩
abbrev S8x64x32768 : Shape := ⟨3, ![8, 64, 32768]⟩
abbrev S512x2048 : Shape := ⟨2, ![512, 2048]⟩
abbrev S512x128 : Shape := ⟨2, ![512, 128]⟩
abbrev S512x1024 : Shape := ⟨2, ![512, 1024]⟩
abbrev S512x256 : Shape := ⟨2, ![512, 256]⟩
abbrev S1x256x512 : Shape := ⟨3, ![1, 256, 512]⟩
abbrev S1x16x32768 : Shape := ⟨3, ![1, 16, 32768]⟩
abbrev S2048x1024 : Shape := ⟨2, ![2048, 1024]⟩
abbrev S2048x256 : Shape := ⟨2, ![2048, 256]⟩
abbrev S256x512 : Shape := ⟨2, ![256, 512]⟩
abbrev S16x1024 : Shape := ⟨2, ![16, 1024]⟩
abbrev S1x16x1024 : Shape := ⟨3, ![1, 16, 1024]⟩

abbrev nBuf : Space → Nat
  | .hbm => 106
  | .vmem => 21
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x2560, .f32⟩
  | .hbm, ⟨3, _⟩ => ⟨S1x128, .f32⟩
  | .hbm, ⟨4, _⟩ => ⟨S1x128, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S_, .f32⟩
  | .hbm, ⟨35, _⟩ => ⟨S2048x32, .f32⟩
  | .hbm, ⟨36, _⟩ => ⟨S2048x128, .f32⟩
  | .hbm, ⟨37, _⟩ => ⟨S2048x32, .f32⟩
  | .hbm, ⟨38, _⟩ => ⟨S2048x32, .f32⟩
  | .hbm, ⟨39, _⟩ => ⟨S2048x128, .f32⟩
  | .hbm, ⟨40, _⟩ => ⟨S2048x128, .f32⟩
  | .hbm, ⟨41, _⟩ => ⟨S16384x2048, .f32⟩
  | .hbm, ⟨42, _⟩ => ⟨S2048, .f32⟩
  | .hbm, ⟨43, _⟩ => ⟨S1x2048, .f32⟩
  | .hbm, ⟨44, _⟩ => ⟨S2048x2560, .f32⟩
  | .hbm, ⟨45, _⟩ => ⟨S2048x2560, .bf16⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S512, .i32⟩
  | .hbm, ⟨51, _⟩ => ⟨S512, .i32⟩
  | .hbm, ⟨52, _⟩ => ⟨S1x512, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S512, .i32⟩
  | .hbm, ⟨60, _⟩ => ⟨S512, .i32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i1⟩
  | .hbm, ⟨67, _⟩ => ⟨S_, .i32⟩
  | .hbm, ⟨68, _⟩ => ⟨S_, .i1⟩
  | .hbm, ⟨69, _⟩ => ⟨S512, .i1⟩
  | .hbm, ⟨70, _⟩ => ⟨S512, .i1⟩
  | .hbm, ⟨71, _⟩ => ⟨S512, .i1⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S_, .i32⟩
  | .hbm, ⟨76, _⟩ => ⟨S512, .i32⟩
  | .hbm, ⟨77, _⟩ => ⟨S512, .i32⟩
  | .hbm, ⟨78, _⟩ => ⟨S_, .i32⟩
  | .hbm, ⟨79, _⟩ => ⟨S_, .i32⟩
  | .hbm, ⟨80, _⟩ => ⟨S512, .i32⟩
  | .hbm, ⟨81, _⟩ => ⟨S512, .i32⟩
  | .hbm, ⟨82, _⟩ => ⟨S512, .i32⟩
  | .hbm, ⟨83, _⟩ => ⟨S_, .i32⟩
  | .hbm, ⟨84, _⟩ => ⟨S512, .i32⟩
  | .hbm, ⟨85, _⟩ => ⟨S512, .i1⟩
  | .hbm, ⟨86, _⟩ => ⟨S512, .i32⟩
  | .hbm, ⟨87, _⟩ => ⟨S512, .i32⟩
  | .hbm, ⟨88, _⟩ => ⟨S_, .i32⟩
  | .hbm, ⟨89, _⟩ => ⟨S512, .i32⟩
  | .hbm, ⟨90, _⟩ => ⟨S512, .i1⟩
  | .hbm, ⟨91, _⟩ => ⟨S512, .i1⟩
  | .hbm, ⟨92, _⟩ => ⟨S_, .i32⟩
  | .hbm, ⟨93, _⟩ => ⟨S512, .i32⟩
  | .hbm, ⟨94, _⟩ => ⟨S512, .i32⟩
  | .hbm, ⟨95, _⟩ => ⟨S512, .i32⟩
  | .hbm, ⟨96, _⟩ => ⟨S512, .i32⟩
  | .hbm, ⟨97, _⟩ => ⟨S512x1, .i32⟩
  | .hbm, ⟨98, _⟩ => ⟨S512x512, .i32⟩
  | .hbm, ⟨99, _⟩ => ⟨S512x512, .i32⟩
  | .hbm, ⟨100, _⟩ => ⟨S512x512, .i1⟩
  | .hbm, ⟨101, _⟩ => ⟨S512x512, .bf16⟩
  | .hbm, ⟨102, _⟩ => ⟨S16384x1024, .bf16⟩
  | .hbm, ⟨103, _⟩ => ⟨S16384x256, .bf16⟩
  | .hbm, ⟨104, _⟩ => ⟨S8x256x2048, .bf16⟩
  | .hbm, ⟨105, _⟩ => ⟨S8x64x32768, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2560, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S512x256, .bf16⟩
  | .local _ .vmem, ⟨16, _⟩ => ⟨S512x256, .bf16⟩
  | .local _ .vmem, ⟨17, _⟩ => ⟨S1x256x512, .bf16⟩
  | .local _ .vmem, ⟨18, _⟩ => ⟨S1x256x512, .bf16⟩
  | .local _ .vmem, ⟨19, _⟩ => ⟨S1x16x32768, .bf16⟩
  | .local _ .vmem, ⟨20, _⟩ => ⟨S1x16x32768, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_c : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_1 : Ref sig .tc := ⟨.hbm, 61, rfl⟩
abbrev main_call0_v5 : Ref sig .tc := ⟨.hbm, 62, rfl⟩
abbrev main_call0_v6 : Ref sig .tc := ⟨.hbm, 63, rfl⟩
abbrev main_call0_c_2 : Ref sig .tc := ⟨.hbm, 64, rfl⟩
abbrev main_call0_v7 : Ref sig .tc := ⟨.hbm, 65, rfl⟩
abbrev main_call0_v8 : Ref sig .tc := ⟨.hbm, 66, rfl⟩
abbrev main_call0_c_3 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_v12 : Ref sig .tc := ⟨.hbm, 71, rfl⟩
abbrev main_call0_v13 : Ref sig .tc := ⟨.hbm, 72, rfl⟩
abbrev main_call0_v14 : Ref sig .tc := ⟨.hbm, 73, rfl⟩
abbrev main_v45 : Ref sig .tc := ⟨.hbm, 74, rfl⟩
abbrev main_c_2 : Ref sig .tc := ⟨.hbm, 75, rfl⟩
abbrev main_v46 : Ref sig .tc := ⟨.hbm, 76, rfl⟩
abbrev main_v47 : Ref sig .tc := ⟨.hbm, 77, rfl⟩
abbrev main_c_3 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_c : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_0 : Ref sig .tc := ⟨.hbm, 92, rfl⟩
abbrev main_call1_v12 : Ref sig .tc := ⟨.hbm, 93, rfl⟩
abbrev main_call1_v13 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55_0 : Ref sig .tc := ⟨.hbm, 102, rfl⟩
abbrev main_v55_1 : Ref sig .tc := ⟨.hbm, 103, rfl⟩
abbrev main_v55_2 : Ref sig .tc := ⟨.hbm, 104, rfl⟩
abbrev main_v55_3 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x32768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S8x2048x2048 : Shape := ⟨3, ![8, 2048, 2048]⟩
abbrev S1x2048 : Shape := ⟨2, ![1, 2048]⟩
abbrev S1x2048x2560 : Shape := ⟨3, ![1, 2048, 2560]⟩
abbrev S1x128 : Shape := ⟨2, ![1, 128]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x2560 : Shape := ⟨2, ![2048, 2560]⟩
abbrev S8x2048x2560 : Shape := ⟨3, ![8, 2048, 2560]⟩
abbrev S8x2048x1024 : Shape := ⟨3, ![8, 2048, 1024]⟩
abbrev S8x2048x8x128 : Shape := ⟨4, ![8, 2048, 8, 128]⟩
abbrev S8x2048x256 : Shape := ⟨3, ![8, 2048, 256]⟩
abbrev S8x2048x2x128 : Shape := ⟨4, ![8, 2048, 2, 128]⟩
abbrev S32 : Shape := ⟨1, ![32]⟩
abbrev S32x64 : Shape := ⟨2, ![32, 64]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x2x32 : Shape := ⟨3, ![2048, 2, 32]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x8x2x2x32 : Shape := ⟨6, ![8, 2048, 8, 2, 2, 32]⟩
abbrev S8x2048x8x2x1x32 : Shape := ⟨6, ![8, 2048, 8, 2, 1, 32]⟩
abbrev S8x2048x8x2x32 : Shape := ⟨5, ![8, 2048, 8, 2, 32]⟩
abbrev S2048x1x2x32 : Shape := ⟨4, ![2048, 1, 2, 32]⟩
abbrev S1x2048x1x2x32 : Shape := ⟨5, ![1, 2048, 1, 2, 32]⟩
abbrev S8x2048x2 : Shape := ⟨3, ![8, 2048, 2]⟩
abbrev S8x2048x2x1 : Shape := ⟨4, ![8, 2048, 2, 1]⟩
abbrev S8x2048x2x2x2x32 : Shape := ⟨6, ![8, 2048, 2, 2, 2, 32]⟩
abbrev S8x2048x2x2x1x32 : Shape := ⟨6, ![8, 2048, 2, 2, 1, 32]⟩
abbrev S8x2048x2x2x32 : Shape := ⟨5, ![8, 2048, 2, 2, 32]⟩
abbrev S16384x1024 : Shape := ⟨2, ![16384, 1024]⟩
abbrev S16384x256 : Shape := ⟨2, ![16384, 256]⟩
abbrev S8x256x2048 : Shape := ⟨3, ![8, 256, 2048]⟩
abbrev S8x64x32768 : Shape := ⟨3, ![8, 64, 32768]⟩

abbrev nBuf : Space → Nat
  | .hbm => 152
  | .vmem => 0
  | .smem => 0
  | _ => 0

abbrev hbmTy0_0 (i : Nat) : BufTy := match i % 128 with
  | 0 => ⟨S8x2048x2048, .f32⟩
  | 1 => ⟨S1x2048, .f32⟩
  | 2 => ⟨S1x2048x2560, .f32⟩
  | 3 => ⟨S1x128, .f32⟩
  | 4 => ⟨S1x128, .f32⟩
  | 5 => ⟨S2048, .f32⟩
  | 6 => ⟨S8x2048x2048, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x2048, .f32⟩
  | 18 => ⟨S8x2048x2048, .f32⟩
  | 19 => ⟨S1x1x2048, .f32⟩
  | 20 => ⟨S8x2048x2048, .f32⟩
  | 21 => ⟨S8x2048x2048, .f32⟩
  | 22 => ⟨S2048x2560, .f32⟩
  | 23 => ⟨S8x2048x2560, .f32⟩
  | 24 => ⟨S8x2048x1024, .f32⟩
  | 25 => ⟨S8x2048x8x128, .f32⟩
  | 26 => ⟨S8x2048x256, .f32⟩
  | 27 => ⟨S8x2048x2x128, .f32⟩
  | 28 => ⟨S8x2048x256, .f32⟩
  | 29 => ⟨S8x2048x1024, .f32⟩
  | 30 => ⟨S32, .f32⟩
  | 31 => ⟨S32x64, .f32⟩
  | 32 => ⟨S2048, .f32⟩
  | 33 => ⟨S64, .f32⟩
  | 34 => ⟨S1x64, .f32⟩
  | 35 => ⟨S32x64, .f32⟩
  | 36 => ⟨S2048, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S32, .f32⟩
  | 45 => ⟨S2048x1, .f32⟩
  | 46 => ⟨S1x32, .f32⟩
  | 47 => ⟨S2048x32, .f32⟩
  | 48 => ⟨S2048x32, .f32⟩
  | 49 => ⟨S2048x32, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x1x32, .f32⟩
  | 56 => ⟨S2048x1x32, .f32⟩
  | 57 => ⟨S2048x2x32, .f32⟩
  | 58 => ⟨S2048x2x32, .f32⟩
  | 59 => ⟨S2048x2x32, .f32⟩
  | 60 => ⟨S128, .f32⟩
  | 61 => ⟨S8x2048x8x128, .f32⟩
  | 62 => ⟨S_, .f32⟩
  | 63 => ⟨S8x2048x8, .f32⟩
  | 64 => ⟨S8x2048x8x1, .f32⟩
  | 65 => ⟨S_, .f32⟩
  | 66 => ⟨S8x2048x8x1, .f32⟩
  | 67 => ⟨S8x2048x8x1, .f32⟩
  | 68 => ⟨S_, .f32⟩
  | 69 => ⟨S8x2048x8x1, .f32⟩
  | 70 => ⟨S8x2048x8x1, .f32⟩
  | 71 => ⟨S8x2048x8x1, .f32⟩
  | 72 => ⟨S8x2048x8x128, .f32⟩
  | 73 => ⟨S8x2048x8x128, .f32⟩
  | 74 => ⟨S1x1x1x128, .f32⟩
  | 75 => ⟨S8x2048x8x128, .f32⟩
  | 76 => ⟨S8x2048x8x128, .f32⟩
  | 77 => ⟨S8x2048x8x2x2x32, .f32⟩
  | 78 => ⟨S8x2048x8x2x1x32, .f32⟩
  | 79 => ⟨S8x2048x8x2x32, .f32⟩
  | 80 => ⟨S8x2048x8x2x1x32, .f32⟩
  | 81 => ⟨S8x2048x8x2x32, .f32⟩
  | 82 => ⟨S2048x1x2x32, .f32⟩
  | 83 => ⟨S2048x1x2x32, .f32⟩
  | 84 => ⟨S1x2048x1x2x32, .f32⟩
  | 85 => ⟨S8x2048x8x2x32, .f32⟩
  | 86 => ⟨S8x2048x8x2x32, .f32⟩
  | 87 => ⟨S1x2048x1x2x32, .f32⟩
  | 88 => ⟨S8x2048x8x2x32, .f32⟩
  | 89 => ⟨S8x2048x8x2x32, .f32⟩
  | 90 => ⟨S8x2048x8x2x32, .f32⟩
  | 91 => ⟨S1x2048x1x2x32, .f32⟩
  | 92 => ⟨S8x2048x8x2x32, .f32⟩
  | 93 => ⟨S8x2048x8x2x32, .f32⟩
  | 94 => ⟨S1x2048x1x2x32, .f32⟩
  | 95 => ⟨S8x2048x8x2x32, .f32⟩
  | 96 => ⟨S8x2048x8x2x32, .f32⟩
  | 97 => ⟨S8x2048x8x2x32, .f32⟩
  | 98 => ⟨S8x2048x8x2x1x32, .f32⟩
  | 99 => ⟨S8x2048x8x2x1x32, .f32⟩
  | 100 => ⟨S8x2048x8x2x2x32, .f32⟩
  | 101 => ⟨S8x2048x8x128, .f32⟩
  | 102 => ⟨S128, .f32⟩
  | 103 => ⟨S8x2048x2x128, .f32⟩
  | 104 => ⟨S_, .f32⟩
  | 105 => ⟨S8x2048x2, .f32⟩
  | 106 => ⟨S8x2048x2x1, .f32⟩
  | 107 => ⟨S_, .f32⟩
  | 108 => ⟨S8x2048x2x1, .f32⟩
  | 109 => ⟨S8x2048x2x1, .f32⟩
  | 110 => ⟨S_, .f32⟩
  | 111 => ⟨S8x2048x2x1, .f32⟩
  | 112 => ⟨S8x2048x2x1, .f32⟩
  | 113 => ⟨S8x2048x2x1, .f32⟩
  | 114 => ⟨S8x2048x2x128, .f32⟩
  | 115 => ⟨S8x2048x2x128, .f32⟩
  | 116 => ⟨S1x1x1x128, .f32⟩
  | 117 => ⟨S8x2048x2x128, .f32⟩
  | 118 => ⟨S8x2048x2x128, .f32⟩
  | 119 => ⟨S8x2048x2x2x2x32, .f32⟩
  | 120 => ⟨S8x2048x2x2x1x32, .f32⟩
  | 121 => ⟨S8x2048x2x2x32, .f32⟩
  | 122 => ⟨S8x2048x2x2x1x32, .f32⟩
  | 123 => ⟨S8x2048x2x2x32, .f32⟩
  | 124 => ⟨S2048x1x2x32, .f32⟩
  | 125 => ⟨S2048x1x2x32, .f32⟩
  | 126 => ⟨S1x2048x1x2x32, .f32⟩
  | 127 => ⟨S8x2048x2x2x32, .f32⟩
  | _ => ⟨S8x2048x2048, .f32⟩

abbrev hbmTy0_1 (i : Nat) : BufTy := match i % 128 with
  | 0 => ⟨S8x2048x2x2x32, .f32⟩
  | 1 => ⟨S1x2048x1x2x32, .f32⟩
  | 2 => ⟨S8x2048x2x2x32, .f32⟩
  | 3 => ⟨S8x2048x2x2x32, .f32⟩
  | 4 => ⟨S8x2048x2x2x32, .f32⟩
  | 5 => ⟨S1x2048x1x2x32, .f32⟩
  | 6 => ⟨S8x2048x2x2x32, .f32⟩
  | 7 => ⟨S8x2048x2x2x32, .f32⟩
  | 8 => ⟨S1x2048x1x2x32, .f32⟩
  | 9 => ⟨S8x2048x2x2x32, .f32⟩
  | 10 => ⟨S8x2048x2x2x32, .f32⟩
  | 11 => ⟨S8x2048x2x2x32, .f32⟩
  | 12 => ⟨S8x2048x2x2x1x32, .f32⟩
  | 13 => ⟨S8x2048x2x2x1x32, .f32⟩
  | 14 => ⟨S8x2048x2x2x2x32, .f32⟩
  | 15 => ⟨S8x2048x2x128, .f32⟩
  | 16 => ⟨S16384x1024, .f32⟩
  | 17 => ⟨S16384x1024, .bf16⟩
  | 18 => ⟨S16384x256, .f32⟩
  | 19 => ⟨S16384x256, .bf16⟩
  | 20 => ⟨S8x256x2048, .f32⟩
  | 21 => ⟨S8x256x2048, .bf16⟩
  | 22 => ⟨S8x64x32768, .f32⟩
  | 23 => ⟨S8x64x32768, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_cst_7 : Ref sig .tc := ⟨.hbm, 104, rfl⟩
abbrev main_v91 : Ref sig .tc := ⟨.hbm, 105, rfl⟩
abbrev main_v92 : Ref sig .tc := ⟨.hbm, 106, rfl⟩
abbrev main_cst_8 : Ref sig .tc := ⟨.hbm, 107, rfl⟩
abbrev main_v93 : Ref sig .tc := ⟨.hbm, 108, rfl⟩
abbrev main_v94 : Ref sig .tc := ⟨.hbm, 109, rfl⟩
abbrev main_cst_9 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x2048x256 : Shape := ⟨3, ![8, 2048, 256]⟩
abbrev S1x128 : Shape := ⟨2, ![1, 128]⟩
abbrev S_ : Shape := ⟨0, ![]⟩
abbrev S128 : Shape := ⟨1, ![128]⟩
abbrev S1 : Shape := ⟨1, ![1]⟩
abbrev S2 : Shape := ⟨1, ![2]⟩
abbrev S8x256x2048 : Shape := ⟨3, ![8, 256, 2048]⟩
abbrev S1x2048x512 : Shape := ⟨3, ![1, 2048, 512]⟩
abbrev S1x1024x128 : Shape := ⟨3, ![1, 1024, 128]⟩
abbrev S1x128x1024 : Shape := ⟨3, ![1, 128, 1024]⟩
abbrev S4x1x2048 : Shape := ⟨3, ![4, 1, 2048]⟩
abbrev S4x128x2048 : Shape := ⟨3, ![4, 128, 2048]⟩
abbrev S1x2048x128 : Shape := ⟨3, ![1, 2048, 128]⟩
abbrev S2048x128 : Shape := ⟨2, ![2048, 128]⟩
abbrev S1024x128 : Shape := ⟨2, ![1024, 128]⟩
abbrev S1024x2048 : Shape := ⟨2, ![1024, 2048]⟩
abbrev S1x1x2048 : Shape := ⟨3, ![1, 1, 2048]⟩
abbrev S1x2048 : Shape := ⟨2, ![1, 2048]⟩
abbrev S2048 : Shape := ⟨1, ![2048]⟩
abbrev S1x128x2048 : Shape := ⟨3, ![1, 128, 2048]⟩
abbrev S128x2048 : Shape := ⟨2, ![128, 2048]⟩
abbrev S128x1024 : Shape := ⟨2, ![128, 1024]⟩

abbrev nBuf : Space → Nat
  | .hbm => 48
  | .vmem => 11
  | .smem => 1
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x256, .f32⟩
  | .hbm, ⟨3, _⟩ => ⟨S1x128, .f32⟩
  | .hbm, ⟨4, _⟩ => ⟨S1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S1x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S1, .i32⟩
  | .hbm, ⟨41, _⟩ => ⟨S8x2048x1024, .f32⟩
  | .hbm, ⟨42, _⟩ => ⟨S8x2048x1024, .f32⟩
  | .hbm, ⟨43, _⟩ => ⟨S8x2048x1024, .bf16⟩
  | .hbm, ⟨44, _⟩ => ⟨S8x2048x256, .bf16⟩
  | .hbm, ⟨45, _⟩ => ⟨S8x256x2048, .f32⟩
  | .hbm, ⟨46, _⟩ => ⟨S8x256x2048, .bf16⟩
  | .hbm, ⟨47, _⟩ => ⟨S8x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S4x1x2048, .f32⟩
  | .local _ .vmem, ⟨9, _⟩ => ⟨S4x1x2048, .f32⟩
  | .local _ .vmem, ⟨10, _⟩ => ⟨S4x128x2048, .f32⟩
  | .local _ .smem, ⟨0, _⟩ => ⟨S2, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_cst_7 : Ref sig .tc := ⟨.hbm, 29, rfl⟩
abbrev main_v16 : Ref sig .tc := ⟨.hbm, 30, rfl⟩
abbrev main_v17 : Ref sig .tc := ⟨.hbm, 31, rfl⟩
abbrev main_cst_8 : Ref sig .tc := ⟨.hbm, 32, rfl⟩
abbrev main_v18 : Ref sig .tc := ⟨.hbm, 33, rfl⟩
abbrev main_cst_9 : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v24 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 2, 1, 2], ![false, false, false, false]⟩

abbrev pre0 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

def k0_cond4 (i : grid0.Coords) : BitVec 1 :=
  let arg3 : BitVec 32 := BitVec.ofNat 32 (i 3).val
  let c1_i32_3 : BitVec 32 := 1#32
  let v10 : BitVec 1 := Scalar.cmpi .eq arg3 c1_i32_3
  let v11 : BitVec 32 := Scalar.extui v10
  let c0_i32_4 : BitVec 32 := 0#32
  let v12 : BitVec 1 := Scalar.cmpi .ne v11 c0_i32_4
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference5Ideal.lean ====
abbrev S8x2048x1024 : Shape := ⟨3, ![8, 2048, 1024]⟩
abbrev S8x2048x256 : Shape := ⟨3, ![8, 2048, 256]⟩
abbrev S1x128 : Shape := ⟨2, ![1, 128]⟩
abbrev S8x2048x2x4x128 : Shape := ⟨5, ![8, 2048, 2, 4, 128]⟩
abbrev S8x2048x2x128 : Shape := ⟨4, ![8, 2048, 2, 128]⟩
abbrev S_ : Shape := ⟨0, ![]⟩
abbrev S8x2x2048x2048x4 : Shape := ⟨5, ![8, 2, 2048, 2048, 4]⟩
abbrev S8x2x4x2048x2048 : Shape := ⟨5, ![8, 2, 4, 2048, 2048]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x256, .f32⟩
  | .hbm, ⟨3, _⟩ => ⟨S1x128, .f32⟩
  | .hbm, ⟨4, _⟩ => ⟨S1x128, .f32⟩
  | .hbm, ⟨5, _⟩ => ⟨S8x2048x2x4x128, .f32⟩
  | .hbm, ⟨6, _⟩ => ⟨S8x2048x2x128, .f32⟩
  | .hbm, ⟨7, _⟩ => ⟨S8x2048x2x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x2x2048x2048x4, .f32⟩
  | .hbm, ⟨13, _⟩ => ⟨S8x2x4x2048x2048, .f32⟩
  | .hbm, ⟨14, _⟩ => ⟨S8x2x4x2048x2048, .f32⟩
  | .hbm, ⟨15, _⟩ => ⟨S8x2x4x2048x2048, .f32⟩
  | .hbm, ⟨16, _⟩ => ⟨S_, .f32⟩
  | .hbm, ⟨17, _⟩ => ⟨S8x2x4x2048, .f32⟩
  | .hbm, ⟨18, _⟩ => ⟨S_, .f32⟩
  | .hbm, ⟨19, _⟩ => ⟨S8x2x4x2048, .f32⟩
  | .hbm, ⟨20, _⟩ => ⟨S8x2x4x2048, .f32⟩
  | .hbm, ⟨21, _⟩ => ⟨S8x2x4x2048x1, .f32⟩
  | .hbm, ⟨22, _⟩ => ⟨S8x2x4x2048x2048, .f32⟩
  | .hbm, ⟨23, _⟩ => ⟨S8x2x4x2048x2048, .f32⟩
  | .hbm, ⟨24, _⟩ => ⟨S8x2x4x2048x2048, .f32⟩
  | .hbm, ⟨25, _⟩ => ⟨S_, .f32⟩
  | .hbm, ⟨26, _⟩ => ⟨S8x2x4x2048, .f32⟩
  | .hbm, ⟨27, _⟩ => ⟨S8x2x4x2048x1, .f32⟩
  | .hbm, ⟨28, _⟩ => ⟨S8x2x4x2048x2048, .f32⟩
  | .hbm, ⟨29, _⟩ => ⟨S8x2x4x2048x2048, .f32⟩
  | .hbm, ⟨30, _⟩ => ⟨S8x2x128x4x2048, .f32⟩
  | .hbm, ⟨31, _⟩ => ⟨S8x2048x2x4x128, .f32⟩
  | .hbm, ⟨32, _⟩ => ⟨S8x2048x1024, .f32⟩
  | .hbm, ⟨33, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Step.lean ====
/- What one grid point of the attention call computes: the online-softmax step on the running maximum, sum and
   accumulator, in its two forms (a fixed shift where the scores are bounded, a moving one elsewhere), and the block stored
   at the last key block. -/
module

public import proofs.«01_k».proof.Proof.Gen.KernelIdeal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.KernelIdeal.Step

open Cert.KernelIdeal Cert.KernelIdeal.Gen

/-- Lane `d` of head `h` in the block's 512 query lanes. -/
def lane (h : Fin 4) (d : Fin 128) : Fin 512 := ⟨128 * h.val + d.val, by omega⟩

theorem lane0 (d : Fin 128) : lane 0 d = ⟨d.val, by omega⟩ := Fin.ext (by simp [lane])
theorem lane1 (d : Fin 128) : lane 1 d = ⟨128 + d.val, by omega⟩ := Fin.ext (by simp [lane])
theorem lane2 (d : Fin 128) : lane 2 d = ⟨256 + d.val, by omega⟩ := Fin.ext (by simp [lane])
theorem lane3 (d : Fin 128) : lane 3 d = ⟨384 + d.val, by omega⟩ := Fin.ext (by simp [lane])

/-- The score of the block's key `r` for row `i` of head `h`. -/
def sc (q : Vec Ideal S1x2048x512 .bf16) (k : Vec Ideal S1x1024x128 .bf16) (h : Fin 4) (i : Fin 2048) (r : Fin 1024) : EReal :=
  ∑ d : Fin 128, k (ix3 0 r d) * q (ix3 0 i (lane h d))

/-- Fixed shift `w`: the running sum after the block. -/
def lB (q : Vec Ideal S1x2048x512 .bf16) (k : Vec Ideal S1x1024x128 .bf16) (w : BitVec 32) (l : Vec Ideal S4x1x2048 .f32) : Vec Ideal S4x1x2048 .f32 := fun y =>
  l y + ∑ r : Fin 1024, Ideal.exp2 (sc q k (y 0) (y 2) r - ((BitVec.toInt w : ℝ) : EReal))

/-- Fixed shift: the accumulator after the block. -/
def aB (q : Vec Ideal S1x2048x512 .bf16) (k : Vec Ideal S1x1024x128 .bf16) (v : Vec Ideal S1x128x1024 .bf16) (w : BitVec 32) (a : Vec Ideal S4x128x2048 .f32) : Vec Ideal S4x128x2048 .f32 := fun y =>
  a y + ∑ r : Fin 1024, v (ix3 0 (y 1) r) * Ideal.exp2 (sc q k (y 0) (y 2) r - ((BitVec.toInt w : ℝ) : EReal))

/-- Moving shift: the running maximum after the block. -/
def mO (q : Vec Ideal S1x2048x512 .bf16) (k : Vec Ideal S1x1024x128 .bf16) (m : Vec Ideal S4x1x2048 .f32) : Vec Ideal S4x1x2048 .f32 := fun y =>
  max (m y) (Finset.univ.fold max (Ideal.ofBits .f32 0xFF800000#32) fun r : Fin 1024 => sc q k (y 0) (y 2) r)

/-- Moving shift: the running sum after the block. -/
def lO (q : Vec Ideal S1x2048x512 .bf16) (k : Vec Ideal S1x1024x128 .bf16) (m l : Vec Ideal S4x1x2048 .f32) : Vec Ideal S4x1x2048 .f32 := fun y =>
  Ideal.exp2 (m y - mO q k m y) * l y + ∑ r : Fin 1024, Ideal.exp2 (sc q k (y 0) (y 2) r - mO q k m y)

/-- Moving shift: the accumulator after the block. -/
def aO (q : Vec Ideal S1x2048x512 .bf16) (k : Vec Ideal S1x1024x128 .bf16) (v : Vec Ideal S1x128x1024 .bf16) (m : Vec Ideal S4x1x2048 .f32) (a : Vec Ideal S4x128x2048 .f32) : Vec Ideal S4x128x2048 .f32 := fun y =>
  Ideal.exp2 (m (ix3 (y 0) 0 (y 2)) - mO q k m (ix3 (y 0) 0 (y 2))) * a y
    + ∑ r : Fin 1024, v (ix3 0 (y 1) r) * Ideal.exp2 (sc q k (y 0) (y 2) r - mO q k m (ix3 (y 0) 0 (y 2)))

/-- The block stored: the accumulator over the running sum, transposed. -/
def outO (l : Vec Ideal S4x1x2048 .f32) (a : Vec Ideal S4x128x2048 .f32) : Vec Ideal S1x2048x512 .bf16 := fun y =>
  a (ix3 ⟨(y 2).val / 128, by have := (y 2).isLt; change (y 2).val < 512 at this; omega⟩ ⟨(y 2).val % 128, by omega⟩ (y 1)) * Ideal.div 1 (l (ix3 ⟨(y 2).val / 128, by have := (y 2).isLt; change (y 2).val < 512 at this; omega⟩ 0 (y 1)))

theorem outO_at (l : Vec Ideal S4x1x2048 .f32) (a : Vec Ideal S4x128x2048 .f32) (i : Fin 2048) (h : Fin 4) (d : Fin 128) :
    outO l a (ix3 0 i (lane h d)) = a (ix3 h d i) * Ideal.div 1 (l (ix3 h 0 i)) := by
  have e1 : (⟨(lane h d).val / 128, by have := (lane h d).isLt; omega⟩ : Fin 4) = h := Fin.ext (by simp only [lane]; omega)
  have e2 : (⟨(lane h d).val % 128, by omega⟩ : Fin 128) = d := Fin.ext (by simp only [lane]; omega)
  show a (ix3 ⟨(lane h d).val / 128, _⟩ ⟨(lane h d).val % 128, _⟩ i) * Ideal.div 1 (l (ix3 ⟨(lane h d).val / 128, _⟩ 0 i)) = _
  rw [e1, e2]

theorem ofBits_one : Ideal.ofBits .f32 0x3F800000#32 = 1 := by
  simp [Ideal.ofBits, Ideal.ieee, -EReal.coe_mul]; norm_num

theorem eL0 (a : Fin 1) (d : Fin 1) (i : Fin 2048) : (Rect.unit (s := S4x1x2048) ![0, 0, 0] ![1, 1, 2048] inb_S4x1x2048_S1x1x2048_0_0_0).emb (ix3 a d i) = ix3 0 0 i := by
  obtain rfl := Subsingleton.elim d 0
  funext x; apply Fin.ext; fin_cases x <;> simp [Rect.emb, Rect.unit]
theorem eA0 (a : Fin 1) (d : Fin 128) (i : Fin 2048) : (Rect.unit (s := S4x128x2048) ![0, 0, 0] ![1, 128, 2048] inb_S4x128x2048_S1x128x2048_0_0_0).emb (ix3 a d i) = ix3 0 d i := by
  funext x; apply Fin.ext; fin_cases x <;> simp [Rect.emb, Rect.unit]
theorem eO0 (a : Fin 1) (i : Fin 2048) (d : Fin 128) : (Rect.unit (s := S1x2048x512) ![0, 0, 0] ![1, 2048, 128] inb_S1x2048x512_S1x2048x128_0_0_0).emb (ix3 a i d) = ix3 0 i (lane 0 d) := by
  funext x; apply Fin.ext; fin_cases x <;> simp [Rect.emb, Rect.unit, lane]

theorem eL1 (a : Fin 1) (d : Fin 1) (i : Fin 2048) : (Rect.unit (s := S4x1x2048) ![1, 0, 0] ![1, 1, 2048] inb_S4x1x2048_S1x1x2048_1_0_0).emb (ix3 a d i) = ix3 1 0 i := by
  obtain rfl := Subsingleton.elim d 0
  funext x; apply Fin.ext; fin_cases x <;> simp [Rect.emb, Rect.unit]
theorem eA1 (a : Fin 1) (d : Fin 128) (i : Fin 2048) : (Rect.unit (s := S4x128x2048) ![1, 0, 0] ![1, 128, 2048] inb_S4x128x2048_S1x128x2048_1_0_0).emb (ix3 a d i) = ix3 1 d i := by
  funext x; apply Fin.ext; fin_cases x <;> simp [Rect.emb, Rect.unit]
theorem eO1 (a : Fin 1) (i : Fin 2048) (d : Fin 128) : (Rect.unit (s := S1x2048x512) ![0, 0, 128] ![1, 2048, 128] inb_S1x2048x512_S1x2048x128_0_0_128).emb (ix3 a i d) = ix3 0 i (lane 1 d) := by
  funext x; apply Fin.ext; fin_cases x <;> simp [Rect.emb, Rect.unit, lane]

theorem eL2 (a : Fin 1) (d : Fin 1) (i : Fin 2048) : (Rect.unit (s := S4x1x2048) ![2, 0, 0] ![1, 1, 2048] inb_S4x1x2048_S1x1x2048_2_0_0).emb (ix3 a d i) = ix3 2 0 i := by
  obtain rfl := Subsingleton.elim d 0
  funext x; apply Fin.ext; fin_cases x <;> simp [Rect.emb, Rect.unit]
theorem eA2 (a : Fin 1) (d : Fin 128) (i : Fin 2048) : (Rect.unit (s := S4x128x2048) ![2, 0, 0] ![1, 128, 2048] inb_S4x128x2048_S1x128x2048_2_0_0).emb (ix3 a d i) = ix3 2 d i := by
  funext x; apply Fin.ext; fin_cases x <;> simp [Rect.emb, Rect.unit]
theorem eO2 (a : Fin 1) (i : Fin 2048) (d : Fin 128) : (Rect.unit (s := S1x2048x512) ![0, 0, 256] ![1, 2048, 128] inb_S1x2048x512_S1x2048x128_0_0_256).emb (ix3 a i d) = ix3 0 i (lane 2 d) := by
  funext x; apply Fin.ext; fin_cases x <;> simp [Rect.emb, Rect.unit, lane]

theorem eL3 (a : Fin 1) (d : Fin 1) (i : Fin 2048) : (Rect.unit (s := S4x1x2048) ![3, 0, 0] ![1, 1, 2048] inb_S4x1x2048_S1x1x2048_3_0_0).emb (ix3 a d i) = ix3 3 0 i := by
  obtain rfl := Subsingleton.elim d 0
  funext x; apply Fin.ext; fin_cases x <;> simp [Rect.emb, Rect.unit]
theorem eA3 (a : Fin 1) (d : Fin 128) (i : Fin 2048) : (Rect.unit (s := S4x128x2048) ![3, 0, 0] ![1, 128, 2048] inb_S4x128x2048_S1x128x2048_3_0_0).emb (ix3 a d i) = ix3 3 d i := by
  funext x; apply Fin.ext; fin_cases x <;> simp [Rect.emb, Rect.unit]
theorem eO3 (a : Fin 1) (i : Fin 2048) (d : Fin 128) : (Rect.unit (s := S1x2048x512) ![0, 0, 384] ![1, 2048, 128] inb_S1x2048x512_S1x2048x128_0_0_384).emb (ix3 a i d) = ix3 0 i (lane 3 d) := by
  funext x; apply Fin.ext; fin_cases x <;> simp [Rect.emb, Rect.unit, lane]

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

/-- Word 0 of the table: whether the scores are bounded. -/
abbrev w0 := tbM0_0.view.readAt (Elt Ideal) (Rect.unit (s := S2) ![0] S1.size inb_S2_S1_0).toLoadRect xt0 (Shape.Idx.first (numel1_S1.symm ▸ Nat.one_pos))

/-- Word 1 of the table: the fixed shift. -/
abbrev w1 : BitVec 32 := View.read (Elt Ideal) (View.whole main_v24) xt0 (ix1 1)

end Cert.KernelIdeal.Step
-- ==== Proof.CaseB.lean ====
/- The first key block of a row block, the scores bounded: the three running quantities start and take one step. -/
module

public import proofs.«01_k».proof.Proof.Step

@[expose] public section

set_option maxRecDepth 16384

noncomputable section

open Idealize.ShloMosaic Idealize.ShloMosaic.TcCoe Idealize.SL.Sem

namespace Cert.KernelIdeal.Step

open Cert.KernelIdeal Cert.KernelIdeal.Gen

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

theorem caseB_m (hc0 : cond0_0 i) (hc3 : ¬cond0_3 i) (hc1 : cond0_1 i (w0 c xt0)) (hc2 : ¬cond0_2 i (w0 c xt0)) :
   sout0_B_0 c i arg5 harg5 arg6 harg6 arg7 harg7 arg8 harg8 arg9 harg9 arg10 harg10 arg11 harg11 hc0 hc3 x0 x1 x2 xt0 hc1 hc2 = (k0_pay1 (F := Ideal)) := by
  frame_open
  frame_out
  done

theorem caseB_l (hc0 : cond0_0 i) (hc3 : ¬cond0_3 i) (hc1 : cond0_1 i (w0 c xt0)) (hc2 : ¬cond0_2 i (w0 c xt0)) :
   sout0_B_1 c i arg5 harg5 arg6 harg6 arg7 harg7 arg8 harg8 arg9 harg9 arg10 harg10 arg11 harg11 hc0 hc3 x0 x1 x2 xt0 hc1 hc2 = lB x0 x1 (w1 c xt0) (k0_pay2 (F := Ideal)) := by
  frame_open
  simp (disch := decide) only [↓ View.readCov_skip, ↓ View.readCov_cons_toLoadRect, ↓ View.readCov_fill]
  frame_out
  generalize (k0_pay1 (F := Ideal)) = xs0
  generalize (k0_pay2 (F := Ideal)) = xs1
  generalize (k0_pay3 (F := Ideal)) = xs2
  revert xs0 xs1 xs2
  intro (xs0 : Vec Ideal S4x1x2048 .f32) (xs1 : Vec Ideal S4x1x2048 .f32) (xs2 : Vec Ideal S4x128x2048 .f32)
  clear hc0 hc1 hc2 hc3
  funext y
  refine View.canon_append_of_piecesOf (Val := Elt Ideal) (lB x0 x1 (w1 c xt0) xs1) [_] [_, _, _, _] ⟨?_, ?_, ?_, ?_, trivial⟩ y (View.cover_of_tiledL _ ![1,1,2048] (by rfl) _)
  all_goals intro x; idx_vars x; simp only [eL0, eL1, eL2, eL3]
  all_goals unfold_payloads
  all_goals pointwise [lB, lO, mO, sc]
  all_goals simp only [lane0, lane1, lane2, lane3]
  all_goals exact congrArg _ rfl

theorem caseB_a (hc0 : cond0_0 i) (hc3 : ¬cond0_3 i) (hc1 : cond0_1 i (w0 c xt0)) (hc2 : ¬cond0_2 i (w0 c xt0)) :
   sout0_B_2 c i arg5 harg5 arg6 harg6 arg7 harg7 arg8 harg8 arg9 harg9 arg10 harg10 arg11 harg11 hc0 hc3 x0 x1 x2 xt0 hc1 hc2 = aB x0 x1 x2 (w1 c xt0) (k0_pay3 (F := Ideal)) := by
  frame_open
  simp (disch := decide) only [↓ View.readCov_skip, ↓ View.readCov_cons_toLoadRect, ↓ View.readCov_fill]
  frame_out
  generalize (k0_pay1 (F := Ideal)) = xs0
  generalize (k0_pay2 (F := Ideal)) = xs1
  generalize (k0_pay3 (F := Ideal)) = xs2
  revert xs0 xs1 xs2
  intro (xs0 : Vec Ideal S4x1x2048 .f32) (xs1 : Vec Ideal S4x1x2048 .f32) (xs2 : Vec Ideal S4x128x2048 .f32)
  clear hc0 hc1 hc2 hc3
  funext y
  refine View.canon_append_of_piecesOf (Val := Elt Ideal) (aB x0 x1 x2 (w1 c xt0) xs2) [_] [_, _, _, _] ⟨?_, ?_, ?_, ?_, trivial⟩ y (View.cover_of_tiledL _ ![1,128,2048] (by rfl) _)
  all_goals intro x; idx_vars x; simp only [eA0, eA1, eA2, eA3]
  all_goals unfold_payloads
  all_goals pointwise [aB, aO, mO, sc]
  all_goals simp only [lane0, lane1, lane2, lane3]
  all_goals exact congrArg _ rfl

end Cert.KernelIdeal.Step
-- ==== Proof.CaseC.lean ====
/- The first key block of a row block, the shift moving: the three running quantities start and take one step. -/
module

public import proofs.«01_k».proof.Proof.Step

@[expose] public section

set_option maxRecDepth 16384

noncomputable section

open Idealize.ShloMosaic Idealize.ShloMosaic.TcCoe Idealize.SL.Sem

namespace Cert.KernelIdeal.Step

open Cert.KernelIdeal Cert.KernelIdeal.Gen

theorem pay_m3 (q : Vec Ideal S1x2048x512 .bf16) (k : Vec Ideal S1x1024x128 .bf16) (xs0 : Vec Ideal S4x1x2048 .f32) (a0 : Fin 1) (a1 : Fin 1) (a2 : Fin 2048) :
    k0_pay10
      (k0_pay57 (View.ld q (Rect.unit ![0, 0, 384] ![1, 2048, 128] inb_S1x2048x512_S1x2048x128_0_0_384)) k
        (View.ld xs0 (Rect.unit ![3, 0, 0] ![1, 1, 2048] inb_S4x1x2048_S1x1x2048_3_0_0)))
      (ix3 a0 a1 a2) =
    mO q k xs0 (ix3 3 0 a2) := by
  unfold_payloads
  pointwise [mO, sc]
  simp only [lane0, lane1, lane2, lane3]

theorem pay_m2 (q : Vec Ideal S1x2048x512 .bf16) (k : Vec Ideal S1x1024x128 .bf16) (xs0 : Vec Ideal S4x1x2048 .f32) (a0 : Fin 1) (a1 : Fin 1) (a2 : Fin 2048) :
    k0_pay54
      (k0_pay47 (View.ld q (Rect.unit ![0, 0, 256] ![1, 2048, 128] inb_S1x2048x512_S1x2048x128_0_0_256)) k
        (View.ld xs0 (Rect.unit ![2, 0, 0] ![1, 1, 2048] inb_S4x1x2048_S1x1x2048_2_0_0)))
      (ix3 a0 a1 a2) =
    mO q k xs0 (ix3 2 0 a2) := by
  unfold_payloads
  pointwise [mO, sc]
  simp only [lane0, lane1, lane2, lane3]

theorem pay_m1 (q : Vec Ideal S1x2048x512 .bf16) (k : Vec Ideal S1x1024x128 .bf16) (xs0 : Vec Ideal S4x1x2048 .f32) (a0 : Fin 1) (a1 : Fin 1) (a2 : Fin 2048) :
    k0_pay44
      (k0_pay39 (View.ld q (Rect.unit ![0, 0, 128] ![1, 2048, 128] inb_S1x2048x512_S1x2048x128_0_0_128)) k
        (View.ld xs0 (Rect.unit ![1, 0, 0] ![1, 1, 2048] inb_S4x1x2048_S1x1x2048_1_0_0)))
      (ix3 a0 a1 a2) =
    mO q k xs0 (ix3 1 0 a2) := by
  unfold_payloads
  pointwise [mO, sc]
  simp only [lane0, lane1, lane2, lane3]

theorem pay_m0 (q : Vec Ideal S1x2048x512 .bf16) (k : Vec Ideal S1x1024x128 .bf16) (xs0 : Vec Ideal S4x1x2048 .f32) (a0 : Fin 1) (a1 : Fin 1) (a2 : Fin 2048) :
    k0_pay36
      (k0_pay30 (View.ld q (Rect.unit ![0, 0, 0] ![1, 2048, 128] inb_S1x2048x512_S1x2048x128_0_0_0)) k
        (View.ld xs0 (Rect.unit ![0, 0, 0] ![1, 1, 2048] inb_S4x1x2048_S1x1x2048_0_0_0)))
      (ix3 a0 a1 a2) =
    mO q k xs0 (ix3 0 0 a2) := by
  unfold_payloads
  pointwise [mO, sc]
  simp only [lane0, lane1, lane2, lane3]

theorem pay_l3 (q : Vec Ideal S1x2048x512 .bf16) (k : Vec Ideal S1x1024x128 .bf16) (xs0 xs1 : Vec Ideal S4x1x2048 .f32) (a0 : Fin 1) (a1 : Fin 1) (a2 : Fin 2048) :
    k0_pay8 (k0_pay55 (View.ld q (Rect.unit ![0, 0, 384] ![1, 2048, 128] inb_S1x2048x512_S1x2048x128_0_0_384)) k)
      (k0_pay56 (View.ld xs0 (Rect.unit ![3, 0, 0] ![1, 1, 2048] inb_S4x1x2048_S1x1x2048_3_0_0)))
      (k0_pay57 (View.ld q (Rect.unit ![0, 0, 384] ![1, 2048, 128] inb_S1x2048x512_S1x2048x128_0_0_384)) k
        (View.ld xs0 (Rect.unit ![3, 0, 0] ![1, 1, 2048] inb_S4x1x2048_S1x1x2048_3_0_0)))
      (View.ld xs1 (Rect.unit ![3, 0, 0] ![1, 1, 2048] inb_S4x1x2048_S1x1x2048_3_0_0)) (ix3 a0 a1 a2) =
    lO q k xs0 xs1 (ix3 3 0 a2) := by
  unfold_payloads
  pointwise [lO, mO, sc]
  simp only [lane0, lane1, lane2, lane3]
  exact congrArg _ rfl

theorem pay_l2 (q : Vec Ideal S1x2048x512 .bf16) (k : Vec Ideal S1x1024x128 .bf16) (xs0 xs1 : Vec Ideal S4x1x2048 .f32) (a0 : Fin 1) (a1 : Fin 1) (a2 : Fin 2048) :
    k0_pay52
      (k0_pay50 (View.ld q (Rect.unit ![0, 0, 256] ![1, 2048, 128] inb_S1x2048x512_S1x2048x128_0_0_256)) k
        (View.ld xs0 (Rect.unit ![2, 0, 0] ![1, 1, 2048] inb_S4x1x2048_S1x1x2048_2_0_0))
        (View.ld xs1 (Rect.unit ![2, 0, 0] ![1, 1, 2048] inb_S4x1x2048_S1x1x2048_2_0_0)))
      (k0_pay51 (View.ld q (Rect.unit ![0, 0, 256] ![1, 2048, 128] inb_S1x2048x512_S1x2048x128_0_0_256)) k
        (View.ld xs0 (Rect.unit ![2, 0, 0] ![1, 1, 2048] inb_S4x1x2048_S1x1x2048_2_0_0)))
      (ix3 a0 a1 a2) =
    lO q k xs0 xs1 (ix3 2 0 a2) := by
  unfold_payloads
  pointwise [lO, mO, sc]
  simp only [lane0, lane1, lane2, lane3]
  exact congrArg _ rfl

theorem pay_l1 (q : Vec Ideal S1x2048x512 .bf16) (k : Vec Ideal S1x1024x128 .bf16) (xs0 xs1 : Vec Ideal S4x1x2048 .f32) (a0 : Fin 1) (a1 : Fin 1) (a2 : Fin 2048) :
    k0_pay42 (View.ld q (Rect.unit ![0, 0, 128] ![1, 2048, 128] inb_S1x2048x512_S1x2048x128_0_0_128)) k
      (View.ld xs0 (Rect.unit ![1, 0, 0] ![1, 1, 2048] inb_S4x1x2048_S1x1x2048_1_0_0))
      (View.ld xs1 (Rect.unit ![1, 0, 0] ![1, 1, 2048] inb_S4x1x2048_S1x1x2048_1_0_0)) (ix3 a0 a1 a2) =
    lO q k xs0 xs1 (ix3 1 0 a2) := by
  unfold_payloads
  pointwise [lO, mO, sc]
  simp only [lane0, lane1, lane2, lane3]
  exact congrArg _ rfl

theorem pay_l0 (q : Vec Ideal S1x2048x512 .bf16) (k : Vec Ideal S1x1024x128 .bf16) (xs0 xs1 : Vec Ideal S4x1x2048 .f32) (a0 : Fin 1) (a1 : Fin 1) (a2 : Fin 2048) :
    k0_pay33 (View.ld q (Rect.unit ![0, 0, 0] ![1, 2048, 128] inb_S1x2048x512_S1x2048x128_0_0_0)) k
      (View.ld xs0 (Rect.unit ![0, 0, 0] ![1, 1, 2048] inb_S4x1x2048_S1x1x2048_0_0_0))
      (View.ld xs1 (Rect.unit ![0, 0, 0] ![1, 1, 2048] inb_S4x1x2048_S1x1x2048_0_0_0)) (ix3 a0 a1 a2) =
    lO q k xs0 xs1 (ix3 0 0 a2) := by
  unfold_payloads
  pointwise [lO, mO, sc]
  simp only [lane0, lane1, lane2, lane3]
  exact congrArg _ rfl

theorem pay_a3 (q : Vec Ideal S1x2048x512 .bf16) (k : Vec Ideal S1x1024x128 .bf16) (v : Vec Ideal S1x128x1024 .bf16) (xs0 : Vec Ideal S4x1x2048 .f32) (xs2 : Vec Ideal S4x128x2048 .f32) (a0 : Fin 1) (a1 : Fin 128) (a2 : Fin 2048) :
    k0_pay9 (k0_pay55 (View.ld q (Rect.unit ![0, 0, 384] ![1, 2048, 128] inb_S1x2048x512_S1x2048x128_0_0_384)) k)
      (k0_pay56 (View.ld xs0 (Rect.unit ![3, 0, 0] ![1, 1, 2048] inb_S4x1x2048_S1x1x2048_3_0_0)))
      (k0_pay57 (View.ld q (Rect.unit ![0, 0, 384] ![1, 2048, 128] inb_S1x2048x512_S1x2048x128_0_0_384)) k
        (View.ld xs0 (Rect.unit ![3, 0, 0] ![1, 1, 2048] inb_S4x1x2048_S1x1x2048_3_0_0)))
      (View.ld xs2 (Rect.unit ![3, 0, 0] ![1, 128, 2048] inb_S4x128x2048_S1x128x2048_3_0_0)) v (ix3 a0 a1 a2) =
    aO q k v xs0 xs2 (ix3 3 a1 a2) := by
  unfold_payloads
  pointwise [aO, mO, sc]
  simp only [lane0, lane1, lane2, lane3]
  exact congrArg _ rfl

theorem pay_a2 (q : Vec Ideal S1x2048x512 .bf16) (k : Vec Ideal S1x1024x128 .bf16) (v : Vec Ideal S1x128x1024 .bf16) (xs0 : Vec Ideal S4x1x2048 .f32) (xs2 : Vec Ideal S4x128x2048 .f32) (a0 : Fin 1) (a1 : Fin 128) (a2 : Fin 2048) :
    k0_pay53
      (k0_pay48 (View.ld q (Rect.unit ![0, 0, 256] ![1, 2048, 128] inb_S1x2048x512_S1x2048x128_0_0_256)) k
        (View.ld xs0 (Rect.unit ![2, 0, 0] ![1, 1, 2048] inb_S4x1x2048_S1x1x2048_2_0_0)))
      (k0_pay49 (View.ld q (Rect.unit ![0, 0, 256] ![1, 2048, 128] inb_S1x2048x512_S1x2048x128_0_0_256)) k
        (View.ld xs0 (Rect.unit ![2, 0, 0] ![1, 1, 2048] inb_S4x1x2048_S1x1x2048_2_0_0)))
      (View.ld xs2 (Rect.unit ![2, 0, 0] ![1, 128, 2048] inb_S4x128x2048_S1x128x2048_2_0_0)) v (ix3 a0 a1 a2) =
    aO q k v xs0 xs2 (ix3 2 a1 a2) := by
  unfold_payloads
  pointwise [aO, mO, sc]
  simp only [lane0, lane1, lane2, lane3]
  exact congrArg _ rfl

theorem pay_a1 (q : Vec Ideal S1x2048x512 .bf16) (k : Vec Ideal S1x1024x128 .bf16) (v : Vec Ideal S1x128x1024 .bf16) (xs0 : Vec Ideal S4x1x2048 .f32) (xs2 : Vec Ideal S4x128x2048 .f32) (a0 : Fin 1) (a1 : Fin 128) (a2 : Fin 2048) :
    k0_pay43
      (k0_pay40 (View.ld q (Rect.unit ![0, 0, 128] ![1, 2048, 128] inb_S1x2048x512_S1x2048x128_0_0_128)) k
        (View.ld xs0 (Rect.unit ![1, 0, 0] ![1, 1, 2048] inb_S4x1x2048_S1x1x2048_1_0_0)))
      (k0_pay41 (View.ld q (Rect.unit ![0, 0, 128] ![1, 2048, 128] inb_S1x2048x512_S1x2048x128_0_0_128)) k
        (View.ld xs0 (Rect.unit ![1, 0, 0] ![1, 1, 2048] inb_S4x1x2048_S1x1x2048_1_0_0)))
      (View.ld xs2 (Rect.unit ![1, 0, 0] ![1, 128, 2048] inb_S4x128x2048_S1x128x2048_1_0_0)) v (ix3 a0 a1 a2) =
    aO q k v xs0 xs2 (ix3 1 a1 a2) := by
  unfold_payloads
  pointwise [aO, mO, sc]
  simp only [lane0, lane1, lane2, lane3]
  exact congrArg _ rfl

theorem pay_a0 (q : Vec Ideal S1x2048x512 .bf16) (k : Vec Ideal S1x1024x128 .bf16) (v : Vec Ideal S1x128x1024 .bf16) (xs0 : Vec Ideal S4x1x2048 .f32) (xs2 : Vec Ideal S4x128x2048 .f32) (a0 : Fin 1) (a1 : Fin 128) (a2 : Fin 2048) :
    k0_pay35
      (k0_pay34 (View.ld q (Rect.unit ![0, 0, 0] ![1, 2048, 128] inb_S1x2048x512_S1x2048x128_0_0_0)) k
        (View.ld xs0 (Rect.unit ![0, 0, 0] ![1, 1, 2048] inb_S4x1x2048_S1x1x2048_0_0_0))
        (View.ld xs2 (Rect.unit ![0, 0, 0] ![1, 128, 2048] inb_S4x128x2048_S1x128x2048_0_0_0)) v)
      (ix3 a0 a1 a2) =
    aO q k v xs0 xs2 (ix3 0 a1 a2) := by
  unfold_payloads
  pointwise [aO, mO, sc]
  simp only [lane0, lane1, lane2, lane3]
  exact congrArg _ rfl

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

theorem caseC_m (hc0 : cond0_0 i) (hc3 : ¬cond0_3 i) (hc1 : ¬cond0_1 i (w0 c xt0)) (hc2 : cond0_2 i (w0 c xt0)) :
   sout0_C_0 c i arg5 harg5 arg6 harg6 arg7 harg7 arg8 harg8 arg9 harg9 arg10 harg10 arg11 harg11 hc0 hc3 x0 x1 x2 xt0 hc1 hc2 = mO x0 x1 (k0_pay1 (F := Ideal)) := by
  frame_open
  simp (disch := decide) only [↓ View.readCov_skip, ↓ View.readCov_cons_toLoadRect, ↓ View.readCov_fill]
  frame_out
  generalize (k0_pay1 (F := Ideal)) = xs0
  generalize (k0_pay2 (F := Ideal)) = xs1
  generalize (k0_pay3 (F := Ideal)) = xs2
  revert xs0 xs1 xs2
  intro (xs0 : Vec Ideal S4x1x2048 .f32) (xs1 : Vec Ideal S4x1x2048 .f32) (xs2 : Vec Ideal S4x128x2048 .f32)
  clear hc0 hc1 hc2 hc3
  funext y
  refine View.canon_append_of_piecesOf (Val := Elt Ideal) (mO x0 x1 xs0) [_] [_, _, _, _] ⟨?_, ?_, ?_, ?_, trivial⟩ y (View.cover_of_tiledL _ ![1,1,2048] (by rfl) _)
  all_goals intro x; idx_vars x; simp only [eL0, eL1, eL2, eL3]
  · exact pay_m3 _ _ _ _ _ _
  · exact pay_m2 _ _ _ _ _ _
  · exact pay_m1 _ _ _ _ _ _
  · exact pay_m0 _ _ _ _ _ _

theorem caseC_l (hc0 : cond0_0 i) (hc3 : ¬cond0_3 i) (hc1 : ¬cond0_1 i (w0 c xt0)) (hc2 : cond0_2 i (w0 c xt0)) :
   sout0_C_1 c i arg5 harg5 arg6 harg6 arg7 harg7 arg8 harg8 arg9 harg9 arg10 harg10 arg11 harg11 hc0 hc3 x0 x1 x2 xt0 hc1 hc2 = lO x0 x1 (k0_pay1 (F := Ideal)) (k0_pay2 (F := Ideal)) := by
  frame_open
  simp (disch := decide) only [↓ View.readCov_skip, ↓ View.readCov_cons_toLoadRect, ↓ View.readCov_fill]
  frame_out
  generalize (k0_pay1 (F := Ideal)) = xs0
  generalize (k0_pay2 (F := Ideal)) = xs1
  generalize (k0_pay3 (F := Ideal)) = xs2
  revert xs0 xs1 xs2
  intro (xs0 : Vec Ideal S4x1x2048 .f32) (xs1 : Vec Ideal S4x1x2048 .f32) (xs2 : Vec Ideal S4x128x2048 .f32)
  clear hc0 hc1 hc2 hc3
  funext y
  refine View.canon_append_of_piecesOf (Val := Elt Ideal) (lO x0 x1 xs0 xs1) [_] [_, _, _, _] ⟨?_, ?_, ?_, ?_, trivial⟩ y (View.cover_of_tiledL _ ![1,1,2048] (by rfl) _)
  all_goals intro x; idx_vars x; simp only [eL0, eL1, eL2, eL3]
  · exact pay_l3 _ _ _ _ _ _ _
  · exact pay_l2 _ _ _ _ _ _ _
  · exact pay_l1 _ _ _ _ _ _ _
  · exact pay_l0 _ _ _ _ _ _ _

theorem caseC_a (hc0 : cond0_0 i) (hc3 : ¬cond0_3 i) (hc1 : ¬cond0_1 i (w0 c xt0)) (hc2 : cond0_2 i (w0 c xt0)) :
   sout0_C_2 c i arg5 harg5 arg6 harg6 arg7 harg7 arg8 harg8 arg9 harg9 arg10 harg10 arg11 harg11 hc0 hc3 x0 x1 x2 xt0 hc1 hc2 = aO x0 x1 x2 (k0_pay1 (F := Ideal)) (k0_pay3 (F := Ideal)) := by
  frame_open
  simp (disch := decide) only [↓ View.readCov_skip, ↓ View.readCov_cons_toLoadRect, ↓ View.readCov_fill]
  frame_out
  generalize (k0_pay1 (F := Ideal)) = xs0
  generalize (k0_pay2 (F := Ideal)) = xs1
  generalize (k0_pay3 (F := Ideal)) = xs2
  revert xs0 xs1 xs2
  intro (xs0 : Vec Ideal S4x1x2048 .f32) (xs1 : Vec Ideal S4x1x2048 .f32) (xs2 : Vec Ideal S4x128x2048 .f32)
  clear hc0 hc1 hc2 hc3
  funext y
  refine View.canon_append_of_piecesOf (Val := Elt Ideal) (aO x0 x1 x2 xs0 xs2) [_] [_, _, _, _] ⟨?_, ?_, ?_, ?_, trivial⟩ y (View.cover_of_tiledL _ ![1,128,2048] (by rfl) _)
  all_goals intro x; idx_vars x; simp only [eA0, eA1, eA2, eA3]
  · exact pay_a3 _ _ _ _ _ _ _ _
  · exact pay_a2 _ _ _ _ _ _ _ _
  · exact pay_a1 _ _ _ _ _ _ _ _
  · exact pay_a0 _ _ _ _ _ _ _ _

end Cert.KernelIdeal.Step
-- ==== Proof.CaseF.lean ====
/- A middle key block, the scores bounded: one step with the fixed shift. -/
module

public import proofs.«01_k».proof.Proof.Step

@[expose] public section

set_option maxRecDepth 16384

noncomputable section

open Idealize.ShloMosaic Idealize.ShloMosaic.TcCoe Idealize.SL.Sem

namespace Cert.KernelIdeal.Step

open Cert.KernelIdeal Cert.KernelIdeal.Gen

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

theorem caseF_m (hc0 : ¬cond0_0 i) (hc3 : ¬cond0_3 i) (hc1 : cond0_1 i (w0 c xt0)) (hc2 : ¬cond0_2 i (w0 c xt0)) :
   sout0_F_0 c i arg5 harg5 arg6 harg6 arg7 harg7 arg8 harg8 arg9 harg9 arg10 harg10 arg11 harg11 hc0 hc3 x0 x1 x2 xt0 xs0 xs1 xs2 hc1 hc2 = xs0 := by
  rfl

theorem caseF_l (hc0 : ¬cond0_0 i) (hc3 : ¬cond0_3 i) (hc1 : cond0_1 i (w0 c xt0)) (hc2 : ¬cond0_2 i (w0 c xt0)) :
   sout0_F_1 c i arg5 harg5 arg6 harg6 arg7 harg7 arg8 harg8 arg9 harg9 arg10 harg10 arg11 harg11 hc0 hc3 x0 x1 x2 xt0 xs0 xs1 xs2 hc1 hc2 = lB x0 x1 (w1 c xt0) xs1 := by
  frame_open
  simp (disch := decide) only [↓ View.readCov_skip, ↓ View.readCov_cons_toLoadRect, ↓ View.readCov_fill]
  frame_out
  funext y
  refine View.canon_append_of_piecesOf (Val := Elt Ideal) (lB x0 x1 (w1 c xt0) xs1) [] [_, _, _, _] ⟨?_, ?_, ?_, ?_, trivial⟩ y (View.cover_of_tiledL _ ![1,1,2048] (by rfl) _)
  all_goals intro x; idx_vars x; simp only [eL0, eL1, eL2, eL3]
  all_goals unfold_payloads
  all_goals pointwise [lB, lO, mO, sc]
  all_goals simp only [lane0, lane1, lane2, lane3]
  all_goals exact congrArg _ rfl

theorem caseF_a (hc0 : ¬cond0_0 i) (hc3 : ¬cond0_3 i) (hc1 : cond0_1 i (w0 c xt0)) (hc2 : ¬cond0_2 i (w0 c xt0)) :
   sout0_F_2 c i arg5 harg5 arg6 harg6 arg7 harg7 arg8 harg8 arg9 harg9 arg10 harg10 arg11 harg11 hc0 hc3 x0 x1 x2 xt0 xs0 xs1 xs2 hc1 hc2 = aB x0 x1 x2 (w1 c xt0) xs2 := by
  frame_open
  simp (disch := decide) only [↓ View.readCov_skip, ↓ View.readCov_cons_toLoadRect, ↓ View.readCov_fill]
  frame_out
  funext y
  refine View.canon_append_of_piecesOf (Val := Elt Ideal) (aB x0 x1 x2 (w1 c xt0) xs2) [] [_, _, _, _] ⟨?_, ?_, ?_, ?_, trivial⟩ y (View.cover_of_tiledL _ ![1,128,2048] (by rfl) _)
  all_goals intro x; idx_vars x; simp only [eA0, eA1, eA2, eA3]
  all_goals unfold_payloads
  all_goals pointwise [aB, aO, mO, sc]
  all_goals simp only [lane0, lane1, lane2, lane3]
  all_goals exact congrArg _ rfl

end Cert.KernelIdeal.Step
-- ==== Proof.CaseG.lean ====
/- A middle key block, the shift moving: one step. -/
module

public import proofs.«01_k».proof.Proof.Step

@[expose] public section

set_option maxRecDepth 16384

noncomputable section

open Idealize.ShloMosaic Idealize.ShloMosaic.TcCoe Idealize.SL.Sem

namespace Cert.KernelIdeal.Step

open Cert.KernelIdeal Cert.KernelIdeal.Gen

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

theorem caseG_m (hc0 : ¬cond0_0 i) (hc3 : ¬cond0_3 i) (hc1 : ¬cond0_1 i (w0 c xt0)) (hc2 : cond0_2 i (w0 c xt0)) :
   sout0_G_0 c i arg5 harg5 arg6 harg6 arg7 harg7 arg8 harg8 arg9 harg9 arg10 harg10 arg11 harg11 hc0 hc3 x0 x1 x2 xt0 xs0 xs1 xs2 hc1 hc2 = mO x0 x1 xs0 := by
  frame_open
  simp (disch := decide) only [↓ View.readCov_skip, ↓ View.readCov_cons_toLoadRect, ↓ View.readCov_fill]
  frame_out
  funext y
  refine View.canon_append_of_piecesOf (Val := Elt Ideal) (mO x0 x1 xs0) [] [_, _, _, _] ⟨?_, ?_, ?_, ?_, trivial⟩ y (View.cover_of_tiledL _ ![1,1,2048] (by rfl) _)
  all_goals intro x; idx_vars x; simp only [eL0, eL1, eL2, eL3]
  all_goals unfold_payloads
  all_goals pointwise [mO, sc]
  all_goals simp only [lane0, lane1, lane2, lane3]
  all_goals exact congrArg _ rfl

theorem caseG_l (hc0 : ¬cond0_0 i) (hc3 : ¬cond0_3 i) (hc1 : ¬cond0_1 i (w0 c xt0)) (hc2 : cond0_2 i (w0 c xt0)) :
   sout0_G_1 c i arg5 harg5 arg6 harg6 arg7 harg7 arg8 harg8 arg9 harg9 arg10 harg10 arg11 harg11 hc0 hc3 x0 x1 x2 xt0 xs0 xs1 xs2 hc1 hc2 = lO x0 x1 xs0 xs1 := by
  frame_open
  simp (disch := decide) only [↓ View.readCov_skip, ↓ View.readCov_cons_toLoadRect, ↓ View.readCov_fill]
  frame_out
  funext y
  refine View.canon_append_of_piecesOf (Val := Elt Ideal) (lO x0 x1 xs0 xs1) [] [_, _, _, _] ⟨?_, ?_, ?_, ?_, trivial⟩ y (View.cover_of_tiledL _ ![1,1,2048] (by rfl) _)
  all_goals intro x; idx_vars x; simp only [eL0, eL1, eL2, eL3]
  all_goals unfold_payloads
  all_goals pointwise [lB, lO, mO, sc]
  all_goals simp only [lane0, lane1, lane2, lane3]
  all_goals exact congrArg _ rfl

theorem caseG_a (hc0 : ¬cond0_0 i) (hc3 : ¬cond0_3 i) (hc1 : ¬cond0_1 i (w0 c xt0)) (hc2 : cond0_2 i (w0 c xt0)) :
   sout0_G_2 c i arg5 harg5 arg6 harg6 arg7 harg7 arg8 harg8 arg9 harg9 arg10 harg10 arg11 harg11 hc0 hc3 x0 x1 x2 xt0 xs0 xs1 xs2 hc1 hc2 = aO x0 x1 x2 xs0 xs2 := by
  frame_open
  simp (disch := decide) only [↓ View.readCov_skip, ↓ View.readCov_cons_toLoadRect, ↓ View.readCov_fill]
  frame_out
  funext y
  refine View.canon_append_of_piecesOf (Val := Elt Ideal) (aO x0 x1 x2 xs0 xs2) [] [_, _, _, _] ⟨?_, ?_, ?_, ?_, trivial⟩ y (View.cover_of_tiledL _ ![1,128,2048] (by rfl) _)
  all_goals intro x; idx_vars x; simp only [eA0, eA1, eA2, eA3]
  all_goals unfold_payloads
  all_goals pointwise [aB, aO, mO, sc]
  all_goals simp only [lane0, lane1, lane2, lane3]
  all_goals exact congrArg _ rfl

end Cert.KernelIdeal.Step
-- ==== Proof.CaseJ.lean ====
/- The last key block, the scores bounded: one step, then the block stored. -/
module

public import proofs.«01_k».proof.Proof.Step

@[expose] public section

set_option maxRecDepth 16384

noncomputable section

open Idealize.ShloMosaic Idealize.ShloMosaic.TcCoe Idealize.SL.Sem

namespace Cert.KernelIdeal.Step

open Cert.KernelIdeal Cert.KernelIdeal.Gen

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

theorem caseJ_o (hc0 : ¬cond0_0 i) (hc3 : cond0_3 i) (hc1 : cond0_1 i (w0 c xt0)) (hc2 : ¬cond0_2 i (w0 c xt0)) :
   out0_J_3 c i arg5 harg5 arg6 harg6 arg7 harg7 arg8 harg8 arg9 harg9 arg10 harg10 arg11 harg11 hc0 hc3 x0 x1 x2 xt0 xs0 xs1 xs2 hc1 hc2 = outO (lB x0 x1 (w1 c xt0) xs1) (aB x0 x1 x2 (w1 c xt0) xs2) := by
  frame_open
  simp (disch := decide) only [↓ View.readCov_skip, ↓ View.readCov_cons_toLoadRect, ↓ View.readCov_fill]
  frame_out
  funext y
  refine View.canon_append_of_piecesOf (Val := Elt Ideal) (outO (lB x0 x1 (w1 c xt0) xs1) (aB x0 x1 x2 (w1 c xt0) xs2)) [] [_, _, _, _] ⟨?_, ?_, ?_, ?_, trivial⟩ y (View.cover_of_tiledL _ ![1,2048,128] (by rfl) _)
  all_goals intro x; idx_vars x; simp only [eO0, eO1, eO2, eO3, outO_at]
  all_goals unfold_payloads
  all_goals pointwise [lB, aB, lO, aO, mO, sc, ofBits_one]
  all_goals simp only [lane0, lane1, lane2, lane3]
  all_goals exact congrArg _ rfl

end Cert.KernelIdeal.Step
-- ==== Proof.CaseK.lean ====
/- The last key block, the shift moving: one step, then the block stored. -/
module

public import proofs.«01_k».proof.Proof.Step

@[expose] public section

set_option maxRecDepth 16384

noncomputable section

open Idealize.ShloMosaic Idealize.ShloMosaic.TcCoe Idealize.SL.Sem

namespace Cert.KernelIdeal.Step

open Cert.KernelIdeal Cert.KernelIdeal.Gen

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

theorem caseK_o (hc0 : ¬cond0_0 i) (hc3 : cond0_3 i) (hc1 : ¬cond0_1 i (w0 c xt0)) (hc2 : cond0_2 i (w0 c xt0)) :
   out0_K_3 c i arg5 harg5 arg6 harg6 arg7 harg7 arg8 harg8 arg9 harg9 arg10 harg10 arg11 harg11 hc0 hc3 x0 x1 x2 xt0 xs0 xs1 xs2 hc1 hc2 = outO (lO x0 x1 xs0 xs1) (aO x0 x1 x2 xs0 xs2) := by
  frame_open
  simp (disch := decide) only [↓ View.readCov_skip, ↓ View.readCov_cons_toLoadRect, ↓ View.readCov_fill]
  frame_out
  funext y
  refine View.canon_append_of_piecesOf (Val := Elt Ideal) (outO (lO x0 x1 xs0 xs1) (aO x0 x1 x2 xs0 xs2)) [] [_, _, _, _] ⟨?_, ?_, ?_, ?_, trivial⟩ y (View.cover_of_tiledL _ ![1,2048,128] (by rfl) _)
  all_goals intro x; idx_vars x; simp only [eO0, eO1, eO2, eO3, outO_at]
  all_goals unfold_payloads
  all_goals pointwise [lB, aB, lO, aO, mO, sc, ofBits_one]
  all_goals simp only [lane0, lane1, lane2, lane3]
  all_goals exact congrArg _ rfl

end Cert.KernelIdeal.Step
-- ==== Proof.SoftmaxRow.lean ====
/- One row of softmax attention computed block by block: the sum of the weights and the weighted sum of the values over the
   keys seen so far, both relative to a real shift. The shift may be moved at every block; it cancels in the quotient. -/
module

public import Idealize.ShloMosaic.Lib.Pointwise

@[expose] public section

noncomputable section

namespace Cert.Proof.SoftmaxRow

open Idealize.ShloMosaic

/-- The weight of key `j` in base two, relative to the shift `μ`. -/
def wt (s : ℕ → ℝ) (μ : ℝ) (j : ℕ) : ℝ := (2 : ℝ) ^ (s j - μ)

theorem wt_pos (s : ℕ → ℝ) (μ : ℝ) (j : ℕ) : 0 < wt s μ j := Real.rpow_pos_of_pos (by norm_num) _

/-- Moving the shift multiplies every weight by one positive factor. -/
theorem wt_shift (s : ℕ → ℝ) (μ μ' : ℝ) (j : ℕ) : (2 : ℝ) ^ (μ - μ') * wt s μ j = wt s μ' j := by
  unfold wt
  rw [← Real.rpow_add (by norm_num)]
  congr 1; ring

/-- After `n` blocks of 1024 keys: `l` is the sum of the weights, `a` the weighted sum of the values, relative to `μ`. -/
def Part (s : ℕ → ℝ) (w : ℕ → EReal) (n : ℕ) (μ : ℝ) (l a : EReal) : Prop :=
  l = ((∑ j ∈ Finset.range (1024 * n), wt s μ j : ℝ) : EReal) ∧ a = ∑ j ∈ Finset.range (1024 * n), w j * (wt s μ j : EReal)

theorem part_zero (s : ℕ → ℝ) (w : ℕ → EReal) (μ : ℝ) : Part s w 0 μ 0 0 := by
  constructor <;> simp

/-- A nonnegative real factor goes into a sum of extended reals. -/
theorem coe_mul_sum {ι : Type*} (S : Finset ι) (f : ι → EReal) (c : ℝ) (hc : 0 ≤ c) : (c : EReal) * ∑ i ∈ S, f i = ∑ i ∈ S, (c : EReal) * f i := by
  classical
  induction S using Finset.induction_on with
  | empty => simp
  | insert i S hi ih =>
    rw [Finset.sum_insert hi, Finset.sum_insert hi, EReal.left_distrib_of_nonneg_of_ne_top (by exact_mod_cast hc) (EReal.coe_ne_top c), ih]

theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The keys of `n + 1` blocks are those of `n` blocks and the 1024 of block `n`. -/
theorem sum_block {M : Type*} [AddCommMonoid M] (f : ℕ → M) (n : ℕ) :
    ∑ j ∈ Finset.range (1024 * (n + 1)), f j = ∑ j ∈ Finset.range (1024 * n), f j + ∑ r : Fin 1024, f (1024 * n + r.val) := by
  rw [Nat.mul_add, Nat.mul_one, Finset.sum_range_add, Finset.sum_range (fun x => f (1024 * n + x))]

/-- One block, with the shift moved from `μ` to `μ'`. -/
theorem part_step {s : ℕ → ℝ} {w : ℕ → EReal} {n : ℕ} {μ : ℝ} {l a : EReal} (h : Part s w n μ l a) (μ' : ℝ) :
    Part s w (n + 1) μ' (((2 : ℝ) ^ (μ - μ') : ℝ) * l + ∑ r : Fin 1024, (wt s μ' (1024 * n + r.val) : EReal))
      (((2 : ℝ) ^ (μ - μ') : ℝ) * a + ∑ r : Fin 1024, w (1024 * n + r.val) * (wt s μ' (1024 * n + r.val) : EReal)) := by
  obtain ⟨rfl, rfl⟩ := h
  have hc : (0 : ℝ) ≤ (2 : ℝ) ^ (μ - μ') := Real.rpow_nonneg (by norm_num) _
  constructor
  · rw [sum_block, EReal.coe_add, coe_sum Finset.univ, ← EReal.coe_mul, Finset.mul_sum]
    simp only [wt_shift]
  · rw [sum_block, coe_mul_sum _ _ _ hc]
    congr 1
    refine Finset.sum_congr rfl fun j _ => ?_
    rw [mul_left_comm, ← EReal.coe_mul, wt_shift]

/-- One block, the shift kept. -/
theorem part_step_same {s : ℕ → ℝ} {w : ℕ → EReal} {n : ℕ} {μ : ℝ} {l a : EReal} (h : Part s w n μ l a) :
    Part s w (n + 1) μ (l + ∑ r : Fin 1024, (wt s μ (1024 * n + r.val) : EReal))
      (a + ∑ r : Fin 1024, w (1024 * n + r.val) * (wt s μ (1024 * n + r.val) : EReal)) := by
  have := part_step h μ
  rwa [sub_self, Real.rpow_zero, EReal.coe_one, one_mul, one_mul] at this

/-- The weight of key `j` among the first `N`, in base e. -/
def prob (x : ℕ → ℝ) (N j : ℕ) : ℝ := Real.exp (x j) / ∑ i ∈ Finset.range N, Real.exp (x i)

/-- The quotient of the two running quantities is the sum of the values by the softmax weights, whatever the shift. -/
theorem part_final {s : ℕ → ℝ} {w : ℕ → EReal} {n : ℕ} {μ : ℝ} {l a : EReal} (hn : 0 < n) (h : Part s w n μ l a) :
    a * Ideal.div 1 l = ∑ j ∈ Finset.range (1024 * n), w j * (prob (fun i => s i * Real.log 2) (1024 * n) j : EReal) := by
  obtain ⟨rfl, rfl⟩ := h
  have hpos : 0 < ∑ j ∈ Finset.range (1024 * n), wt s μ j :=
    Finset.sum_pos (fun j _ => wt_pos s μ j) ⟨0, by simp; omega⟩
  rw [Ideal.div_coe hpos.ne', one_mul, mul_comm, coe_mul_sum _ _ _ (by positivity)]
  refine Finset.sum_congr rfl fun j _ => ?_
  rw [mul_left_comm, ← EReal.coe_mul]
  congr 2
  have he : ∀ i, wt s μ i = Real.exp (s i * Real.log 2) * (2 : ℝ) ^ (-μ) := fun i => by
    unfold wt
    rw [sub_eq_add_neg, Real.rpow_add (by norm_num), Real.rpow_def_of_pos (by norm_num), mul_comm (Real.log 2)]
  unfold prob
  simp only [he, ← Finset.sum_mul]
  have h2 : (2 : ℝ) ^ (-μ) ≠ 0 := (Real.rpow_pos_of_pos (by norm_num) _).ne'
  rw [one_div, mul_comm, ← div_eq_mul_inv, mul_div_mul_right _ _ h2]

/-- The softmax weight with the maximum (any real) subtracted first. -/
theorem prob_sub (x : ℕ → ℝ) (N : ℕ) (M : ℝ) (j : ℕ) :
    Real.exp (x j - M) / ∑ i ∈ Finset.range N, Real.exp (x i - M) = prob x N j := by
  unfold prob
  simp only [Real.exp_sub, ← Finset.sum_div]
  have := Real.exp_pos M
  rw [div_div_div_cancel_right₀ this.ne']

/-- The running maximum of real numbers from a real number or from below all of them is real. -/
theorem fold_max_real {ι : Type*} (S : Finset ι) (f : ι → ℝ) (b : ℝ) :
    ∃ M : ℝ, max (b : EReal) (S.fold max ⊥ fun i => (f i : EReal)) = (M : EReal) := by
  classical
  induction S using Finset.induction_on generalizing b with
  | empty => exact ⟨b, by simp⟩
  | insert i S hi ih =>
    rw [Finset.fold_insert hi, ← max_assoc, ← EReal.coe_strictMono.monotone.map_max]
    exact ih _

theorem fold_max_real' {ι : Type*} (S : Finset ι) (hS : S.Nonempty) (f : ι → ℝ) :
    ∃ M : ℝ, (S.fold max ⊥ fun i => (f i : EReal)) = (M : EReal) := by
  classical
  obtain ⟨i, hi⟩ := hS
  rw [← Finset.insert_erase hi, Finset.fold_insert (Finset.notMem_erase i S)]
  exact fold_max_real _ _ _

end Cert.Proof.SoftmaxRow
-- ==== Proof.Invariant.lean ====
/- The running quantities of the attention call, point by point: after each key block they are the partial softmax sums of
   `SoftmaxRow.lean` over the keys seen so far. -/
module

public import proofs.«01_k».proof.Proof.CaseB
public import proofs.«01_k».proof.Proof.CaseC
public import proofs.«01_k».proof.Proof.CaseF
public import proofs.«01_k».proof.Proof.CaseG
public import proofs.«01_k».proof.Proof.CaseJ
public import proofs.«01_k».proof.Proof.CaseK
public import proofs.«01_k».proof.Proof.SoftmaxRow

@[expose] public section

set_option maxRecDepth 16384

noncomputable section

open Idealize.ShloMosaic Idealize.ShloMosaic.TcCoe Idealize.SL.Sem

namespace Cert.KernelIdeal.Invariant

open Cert.KernelIdeal Cert.KernelIdeal.Gen Cert.KernelIdeal.Step Cert.Proof.SoftmaxRow

theorem exp2_sub (x y : ℝ) : Ideal.exp2 ((x : EReal) - (y : EReal)) = (((2 : ℝ) ^ (x - y) : ℝ) : EReal) := by
  rw [← EReal.coe_sub]; rfl

theorem ofBits_negInf : Ideal.ofBits .f32 0xFF800000#32 = (⊥ : EReal) := by
  simp [Ideal.ofBits, Ideal.ieee]

theorem ofBits_start : ∃ r : ℝ, Ideal.ofBits .f32 0xF149F2CA#32 = (r : EReal) := by
  simp only [Ideal.ofBits, Ideal.ieee]
  norm_num
  exact ⟨_, rfl⟩

section Block

variable {s : ℕ → ℝ} {w : Fin 128 → ℕ → EReal} {n : ℕ} {q : Vec Ideal S1x2048x512 .bf16} {k : Vec Ideal S1x1024x128 .bf16} {v : Vec Ideal S1x128x1024 .bf16}
  {h : Fin 4} {i : Fin 2048} {m l : Vec Ideal S4x1x2048 .f32} {a : Vec Ideal S4x128x2048 .f32} {μ : ℝ}
  (hs : ∀ r, sc q k h i r = (s (1024 * n + r.val) : EReal)) (hv : ∀ d r, v (ix3 0 d r) = w d (1024 * n + r.val))

include hs hv

/-- One block with the fixed shift. -/
theorem bounded (wd : BitVec 32) (hμ : μ = (BitVec.toInt wd : ℝ)) (H : ∀ d, Part s (w d) n μ (l (ix3 h 0 i)) (a (ix3 h d i))) (d : Fin 128) :
    Part s (w d) (n + 1) μ (lB q k wd l (ix3 h 0 i)) (aB q k v wd a (ix3 h d i)) := by
  have e := part_step_same (H d)
  subst hμ
  have e1 : ∀ r : Fin 1024, Ideal.exp2 (sc q k h i r - (((BitVec.toInt wd : ℤ) : ℝ) : EReal)) = (wt s (BitVec.toInt wd) (1024 * n + r.val) : EReal) := fun r => by
    rw [hs, exp2_sub]; rfl
  show Part _ _ _ _ (l (ix3 h 0 i) + ∑ r : Fin 1024, Ideal.exp2 (sc q k h i r - (((BitVec.toInt wd : ℤ) : ℝ) : EReal)))
    (a (ix3 h d i) + ∑ r : Fin 1024, v (ix3 0 d r) * Ideal.exp2 (sc q k h i r - (((BitVec.toInt wd : ℤ) : ℝ) : EReal)))
  simp only [e1, hv]
  exact e

/-- One block with the shift moving to the new maximum. -/
theorem moving (hm : m (ix3 h 0 i) = (μ : EReal)) (H : ∀ d, Part s (w d) n μ (l (ix3 h 0 i)) (a (ix3 h d i))) :
    ∃ μ' : ℝ, mO q k m (ix3 h 0 i) = (μ' : EReal) ∧ ∀ d, Part s (w d) (n + 1) μ' (lO q k m l (ix3 h 0 i)) (aO q k v m a (ix3 h d i)) := by
  obtain ⟨μ', hμ'⟩ := fold_max_real (Finset.univ : Finset (Fin 1024)) (fun r => s (1024 * n + r.val)) μ
  have e : mO q k m (ix3 h 0 i) = (μ' : EReal) := by
    show max (m (ix3 h 0 i)) (Finset.univ.fold max (Ideal.ofBits .f32 0xFF800000#32) fun r : Fin 1024 => sc q k h i r) = _
    simp only [hm, hs, ofBits_negInf]
    exact hμ'
  refine ⟨μ', e, fun d => ?_⟩
  show Part _ _ _ _ (Ideal.exp2 (m (ix3 h 0 i) - mO q k m (ix3 h 0 i)) * l (ix3 h 0 i) + ∑ r : Fin 1024, Ideal.exp2 (sc q k h i r - mO q k m (ix3 h 0 i)))
    (Ideal.exp2 (m (ix3 h 0 i) - mO q k m (ix3 h 0 i)) * a (ix3 h d i) + ∑ r : Fin 1024, v (ix3 0 d r) * Ideal.exp2 (sc q k h i r - mO q k m (ix3 h 0 i)))
  simp only [e, hm, hs, hv, exp2_sub]
  exact part_step (H d) μ'

end Block

variable (m : (ℓ : Loc nD τ sig) → Buf (Elt Ideal) ℓ) (hO : Ok m) (c : Dev nD)

/-- What the blocks at the points hold: scores `s` (by batch, group, head, row, key) and values `w` (by batch, group, lane, key). -/
structure Blocks (s : ℕ → ℕ → Fin 4 → ℕ → ℕ → ℝ) (w : ℕ → ℕ → Fin 128 → ℕ → EReal) : Prop where
  score : ∀ (t : Fin (cfgM m hO).N) (h : Fin 4) (i : Fin 2048) (r : Fin 1024),
    sc (iblk m hO c 0 t) (iblk m hO c 1 t) h i r = (s (t.val / 64) (t.val / 32 % 2) h (2048 * (t.val / 8 % 4) + i.val) (1024 * (t.val % 8) + r.val) : EReal)
  value : ∀ (t : Fin (cfgM m hO).N) (d : Fin 128) (r : Fin 1024),
    (iblk m hO c 2 t : Vec Ideal S1x128x1024 .bf16) (ix3 0 d r) = w (t.val / 64) (t.val / 32 % 2) d (1024 * (t.val % 8) + r.val)

/-- The second condition is the first's negation. -/
theorem cond_not (i : grid0.Coords) (v : BitVec 32) : cond0_2 i v ↔ ¬ cond0_1 i v := by
  unfold cond0_1 cond0_2
  generalize Scalar.cmpi .eq v 1#32 = b
  revert b
  decide

theorem start_m (y : S4x1x2048.Idx) : ∃ r : ℝ, k0_pay1 (F := Ideal) y = (r : EReal) := ofBits_start

theorem start_l (y : S4x1x2048.Idx) : k0_pay2 (F := Ideal) y = (0 : EReal) := by
  show Ideal.ofBits .f32 0x00000000#32 = 0
  simp [Ideal.ofBits, Ideal.ieee]

theorem start_a (y : S4x128x2048.Idx) : k0_pay3 (F := Ideal) y = (0 : EReal) := by
  show Ideal.ofBits .f32 0x00000000#32 = 0
  simp [Ideal.ofBits, Ideal.ieee]

/-! What each kind of point leaves. -/

theorem pt_B (t : Fin (cfgM m hO).N) (h0 : t.val % 8 = 0) (hb : cond0_1 (grid0.coords t) (w0 c (tbl m 0))) (h7 : ¬ t.val % 8 = 7) :
    (outsAt0 m hO c t.val t.isLt).2.2.1 = lB (iblk m hO c 0 t) (iblk m hO c 1 t) (w1 c (tbl m 0)) (k0_pay2 (F := Ideal)) ∧ (outsAt0 m hO c t.val t.isLt).2.2.2 = aB (iblk m hO c 0 t) (iblk m hO c 1 t) (iblk m hO c 2 t) (w1 c (tbl m 0)) (k0_pay3 (F := Ideal)) := by
  rw [outsAt0_B m hO c t h0 hb (fun h => (cond_not _ _).mp h hb) h7]
  dsimp only
  refine ⟨?_, ?_⟩
  · exact caseB_l c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) ((hcond0_0 t).mpr h0) (fun h => h7 ((hcond0_3 t).mp h)) hb (fun h => (cond_not _ _).mp h hb)
  · exact caseB_a c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) ((hcond0_0 t).mpr h0) (fun h => h7 ((hcond0_3 t).mp h)) hb (fun h => (cond_not _ _).mp h hb)

theorem pt_F (t : Fin (cfgM m hO).N) (h0 : ¬ t.val % 8 = 0) (hb : cond0_1 (grid0.coords t) (w0 c (tbl m 0))) (h7 : ¬ t.val % 8 = 7) :
    (outsAt0 m hO c t.val t.isLt).2.2.1 = lB (iblk m hO c 0 t) (iblk m hO c 1 t) (w1 c (tbl m 0)) (outsAt0 m hO c (t.val - 1) (Nat.lt_of_le_of_lt (Nat.sub_le _ _) t.isLt)).2.2.1 ∧ (outsAt0 m hO c t.val t.isLt).2.2.2 = aB (iblk m hO c 0 t) (iblk m hO c 1 t) (iblk m hO c 2 t) (w1 c (tbl m 0)) (outsAt0 m hO c (t.val - 1) (Nat.lt_of_le_of_lt (Nat.sub_le _ _) t.isLt)).2.2.2 := by
  rw [outsAt0_F m hO c t h0 hb (fun h => (cond_not _ _).mp h hb) h7]
  dsimp only
  refine ⟨?_, ?_⟩
  · exact caseF_l c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h7 ((hcond0_3 t).mp h)) hb (fun h => (cond_not _ _).mp h hb)
  · exact caseF_a c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h7 ((hcond0_3 t).mp h)) hb (fun h => (cond_not _ _).mp h hb)

theorem pt_J (t : Fin (cfgM m hO).N) (h0 : ¬ t.val % 8 = 0) (hb : cond0_1 (grid0.coords t) (w0 c (tbl m 0))) (h7 : t.val % 8 = 7) :
    (outsAt0 m hO c t.val t.isLt).1 = outO (lB (iblk m hO c 0 t) (iblk m hO c 1 t) (w1 c (tbl m 0)) (outsAt0 m hO c (t.val - 1) (Nat.lt_of_le_of_lt (Nat.sub_le _ _) t.isLt)).2.2.1) (aB (iblk m hO c 0 t) (iblk m hO c 1 t) (iblk m hO c 2 t) (w1 c (tbl m 0)) (outsAt0 m hO c (t.val - 1) (Nat.lt_of_le_of_lt (Nat.sub_le _ _) t.isLt)).2.2.2) := by
  rw [outsAt0_J m hO c t h0 hb (fun h => (cond_not _ _).mp h hb) h7]
  dsimp only
  exact caseJ_o c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_3 t).mpr h7) hb (fun h => (cond_not _ _).mp h hb)

theorem pt_C (t : Fin (cfgM m hO).N) (h0 : t.val % 8 = 0) (hb : ¬ cond0_1 (grid0.coords t) (w0 c (tbl m 0))) (h7 : ¬ t.val % 8 = 7) :
    (outsAt0 m hO c t.val t.isLt).2.1 = mO (iblk m hO c 0 t) (iblk m hO c 1 t) (k0_pay1 (F := Ideal)) ∧ (outsAt0 m hO c t.val t.isLt).2.2.1 = lO (iblk m hO c 0 t) (iblk m hO c 1 t) (k0_pay1 (F := Ideal)) (k0_pay2 (F := Ideal)) ∧ (outsAt0 m hO c t.val t.isLt).2.2.2 = aO (iblk m hO c 0 t) (iblk m hO c 1 t) (iblk m hO c 2 t) (k0_pay1 (F := Ideal)) (k0_pay3 (F := Ideal)) := by
  rw [outsAt0_C m hO c t h0 hb ((cond_not _ _).mpr hb) h7]
  dsimp only
  refine ⟨?_, ?_, ?_⟩
  · exact caseC_m c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) ((hcond0_0 t).mpr h0) (fun h => h7 ((hcond0_3 t).mp h)) hb ((cond_not _ _).mpr hb)
  · exact caseC_l c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) ((hcond0_0 t).mpr h0) (fun h => h7 ((hcond0_3 t).mp h)) hb ((cond_not _ _).mpr hb)
  · exact caseC_a c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) ((hcond0_0 t).mpr h0) (fun h => h7 ((hcond0_3 t).mp h)) hb ((cond_not _ _).mpr hb)

theorem pt_G (t : Fin (cfgM m hO).N) (h0 : ¬ t.val % 8 = 0) (hb : ¬ cond0_1 (grid0.coords t) (w0 c (tbl m 0))) (h7 : ¬ t.val % 8 = 7) :
    (outsAt0 m hO c t.val t.isLt).2.1 = mO (iblk m hO c 0 t) (iblk m hO c 1 t) (outsAt0 m hO c (t.val - 1) (Nat.lt_of_le_of_lt (Nat.sub_le _ _) t.isLt)).2.1 ∧ (outsAt0 m hO c t.val t.isLt).2.2.1 = lO (iblk m hO c 0 t) (iblk m hO c 1 t) (outsAt0 m hO c (t.val - 1) (Nat.lt_of_le_of_lt (Nat.sub_le _ _) t.isLt)).2.1 (outsAt0 m hO c (t.val - 1) (Nat.lt_of_le_of_lt (Nat.sub_le _ _) t.isLt)).2.2.1 ∧ (outsAt0 m hO c t.val t.isLt).2.2.2 = aO (iblk m hO c 0 t) (iblk m hO c 1 t) (iblk m hO c 2 t) (outsAt0 m hO c (t.val - 1) (Nat.lt_of_le_of_lt (Nat.sub_le _ _) t.isLt)).2.1 (outsAt0 m hO c (t.val - 1) (Nat.lt_of_le_of_lt (Nat.sub_le _ _) t.isLt)).2.2.2 := by
  rw [outsAt0_G m hO c t h0 hb ((cond_not _ _).mpr hb) h7]
  dsimp only
  refine ⟨?_, ?_, ?_⟩
  · exact caseG_m c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h7 ((hcond0_3 t).mp h)) hb ((cond_not _ _).mpr hb)
  · exact caseG_l c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h7 ((hcond0_3 t).mp h)) hb ((cond_not _ _).mpr hb)
  · exact caseG_a c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) (fun h => h7 ((hcond0_3 t).mp h)) hb ((cond_not _ _).mpr hb)

theorem pt_K (t : Fin (cfgM m hO).N) (h0 : ¬ t.val % 8 = 0) (hb : ¬ cond0_1 (grid0.coords t) (w0 c (tbl m 0))) (h7 : t.val % 8 = 7) :
    (outsAt0 m hO c t.val t.isLt).1 = outO (lO (iblk m hO c 0 t) (iblk m hO c 1 t) (outsAt0 m hO c (t.val - 1) (Nat.lt_of_le_of_lt (Nat.sub_le _ _) t.isLt)).2.1 (outsAt0 m hO c (t.val - 1) (Nat.lt_of_le_of_lt (Nat.sub_le _ _) t.isLt)).2.2.1) (aO (iblk m hO c 0 t) (iblk m hO c 1 t) (iblk m hO c 2 t) (outsAt0 m hO c (t.val - 1) (Nat.lt_of_le_of_lt (Nat.sub_le _ _) t.isLt)).2.1 (outsAt0 m hO c (t.val - 1) (Nat.lt_of_le_of_lt (Nat.sub_le _ _) t.isLt)).2.2.2) := by
  rw [outsAt0_K m hO c t h0 hb ((cond_not _ _).mpr hb) h7]
  dsimp only
  exact caseK_o c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_3 t).mpr h7) hb ((cond_not _ _).mpr hb)

variable {m hO c} {s : ℕ → ℕ → Fin 4 → ℕ → ℕ → ℝ} {w : ℕ → ℕ → Fin 128 → ℕ → EReal} (B : Blocks m hO c s w)

include B

/-- Bounded: the two running sums after point `n`, short of the last key block. -/
theorem inv_bounded (hb : ∀ i, cond0_1 i (w0 c (tbl m 0))) (n : ℕ) : ∀ (hn : n < (cfgM m hO).N) (_ : ¬ n % 8 = 7) (h : Fin 4) (i : Fin 2048) (d : Fin 128),
    Part (s (n / 64) (n / 32 % 2) h (2048 * (n / 8 % 4) + i.val)) (w (n / 64) (n / 32 % 2) d) (n % 8 + 1) (BitVec.toInt (w1 c (tbl m 0)) : ℝ)
      ((outsAt0 m hO c n hn).2.2.1 (ix3 h 0 i)) ((outsAt0 m hO c n hn).2.2.2 (ix3 h d i)) := by
  induction n with
  | zero =>
    intro hn h7 h i d
    obtain ⟨el, ea⟩ := pt_B m hO c ⟨0, hn⟩ rfl (hb _) h7
    dsimp only at el ea
    rw [el, ea]
    have hs := fun r => B.score ⟨0, hn⟩ h i r
    have hv := fun d r => B.value ⟨0, hn⟩ d r
    simp only [Nat.zero_div, Nat.zero_mod] at hs hv ⊢
    refine bounded (n := 0) (w := fun d => w 0 0 d) hs hv _ rfl (fun d => ?_) d
    rw [start_l, start_a]
    exact part_zero _ _ _
  | succ n ih =>
    intro hn h7 h i d
    by_cases h0 : (n + 1) % 8 = 0
    · obtain ⟨el, ea⟩ := pt_B m hO c ⟨n + 1, hn⟩ h0 (hb _) h7
      dsimp only at el ea
      rw [el, ea]
      have hs := fun r => B.score ⟨n + 1, hn⟩ h i r
      have hv := fun d r => B.value ⟨n + 1, hn⟩ d r
      dsimp only at hs hv
      rw [h0] at hs hv ⊢
      refine bounded (n := 0) (w := fun d => w ((n + 1) / 64) ((n + 1) / 32 % 2) d) hs hv _ rfl (fun d => ?_) d
      rw [start_l, start_a]
      exact part_zero _ _ _
    · obtain ⟨el, ea⟩ := pt_F m hO c ⟨n + 1, hn⟩ h0 (hb _) h7
      dsimp only at el ea
      rw [el, ea]
      have hp := ih (by omega) (by omega) h i
      rw [show n / 64 = (n + 1) / 64 by omega, show n / 32 % 2 = (n + 1) / 32 % 2 by omega, show n / 8 % 4 = (n + 1) / 8 % 4 by omega, show n % 8 + 1 = (n + 1) % 8 by omega] at hp
      exact bounded (w := fun d => w ((n + 1) / 64) ((n + 1) / 32 % 2) d) (fun r => B.score ⟨n + 1, hn⟩ h i r) (fun d r => B.value ⟨n + 1, hn⟩ d r) _ rfl hp d

/-- Moving: the running maximum and the two sums after point `n`, short of the last key block. -/
theorem inv_moving (hb : ∀ i, ¬ cond0_1 i (w0 c (tbl m 0))) (n : ℕ) : ∀ (hn : n < (cfgM m hO).N) (_ : ¬ n % 8 = 7) (h : Fin 4) (i : Fin 2048),
    ∃ μ : ℝ, (outsAt0 m hO c n hn).2.1 (ix3 h 0 i) = (μ : EReal) ∧ ∀ d : Fin 128,
    Part (s (n / 64) (n / 32 % 2) h (2048 * (n / 8 % 4) + i.val)) (w (n / 64) (n / 32 % 2) d) (n % 8 + 1) μ
      ((outsAt0 m hO c n hn).2.2.1 (ix3 h 0 i)) ((outsAt0 m hO c n hn).2.2.2 (ix3 h d i)) := by
  induction n with
  | zero =>
    intro hn h7 h i
    obtain ⟨em, el, ea⟩ := pt_C m hO c ⟨0, hn⟩ rfl (hb _) h7
    dsimp only at em el ea
    rw [em, el, ea]
    have hs := fun r => B.score ⟨0, hn⟩ h i r
    have hv := fun d r => B.value ⟨0, hn⟩ d r
    simp only [Nat.zero_div, Nat.zero_mod] at hs hv ⊢
    obtain ⟨μ, hμ⟩ := start_m (ix3 h 0 i)
    refine moving (n := 0) (w := fun d => w 0 0 d) hs hv hμ (fun d => ?_)
    rw [start_l, start_a]
    exact part_zero _ _ _
  | succ n ih =>
    intro hn h7 h i
    by_cases h0 : (n + 1) % 8 = 0
    · obtain ⟨em, el, ea⟩ := pt_C m hO c ⟨n + 1, hn⟩ h0 (hb _) h7
      dsimp only at em el ea
      rw [em, el, ea]
      have hs := fun r => B.score ⟨n + 1, hn⟩ h i r
      have hv := fun d r => B.value ⟨n + 1, hn⟩ d r
      dsimp only at hs hv
      rw [h0] at hs hv ⊢
      obtain ⟨μ, hμ⟩ := start_m (ix3 h 0 i)
      refine moving (n := 0) (w := fun d => w ((n + 1) / 64) ((n + 1) / 32 % 2) d) hs hv hμ (fun d => ?_)
      rw [start_l, start_a]
      exact part_zero _ _ _
    · obtain ⟨em, el, ea⟩ := pt_G m hO c ⟨n + 1, hn⟩ h0 (hb _) h7
      dsimp only at em el ea
      rw [em, el, ea]
      obtain ⟨μ, hμ, hp⟩ := ih (by omega) (by omega) h i
      rw [show n / 64 = (n + 1) / 64 by omega, show n / 32 % 2 = (n + 1) / 32 % 2 by omega, show n / 8 % 4 = (n + 1) / 8 % 4 by omega, show n % 8 + 1 = (n + 1) % 8 by omega] at hp
      exact moving (w := fun d => w ((n + 1) / 64) ((n + 1) / 32 % 2) d) (fun r => B.score ⟨n + 1, hn⟩ h i r) (fun d r => B.value ⟨n + 1, hn⟩ d r) hμ hp

/-- The block stored at a row block's last point: each row's attention. -/
theorem out_last (t : Fin (cfgM m hO).N) (h7 : t.val % 8 = 7) (h : Fin 4) (i : Fin 2048) (d : Fin 128) :
    (outsAt0 m hO c t.val t.isLt).1 (ix3 0 i (lane h d))
      = ∑ j ∈ Finset.range 8192, w (t.val / 64) (t.val / 32 % 2) d j
          * (prob (fun j => s (t.val / 64) (t.val / 32 % 2) h (2048 * (t.val / 8 % 4) + i.val) j * Real.log 2) 8192 j : EReal) := by
  have ht : t.val - 1 < (cfgM m hO).N := by have := t.isLt; omega
  have e1 : (t.val - 1) / 64 = t.val / 64 := by omega
  have e2 : (t.val - 1) / 32 % 2 = t.val / 32 % 2 := by omega
  have e3 : (t.val - 1) / 8 % 4 = t.val / 8 % 4 := by omega
  have e4 : (t.val - 1) % 8 + 1 = t.val % 8 := by omega
  have h8 : t.val % 8 + 1 = 8 := by omega
  by_cases hb : cond0_1 (grid0.coords t) (w0 c (tbl m 0))
  · have hp := inv_bounded B (fun _ => hb) (t.val - 1) ht (by omega) h i
    rw [e1, e2, e3, e4] at hp
    have hq := bounded (w := fun d => w (t.val / 64) (t.val / 32 % 2) d) (fun r => B.score t h i r) (fun d r => B.value t d r) _ rfl hp d
    rw [h8] at hq
    rw [pt_J m hO c t (by omega) hb h7, outO_at]
    have hf := part_final (by norm_num) hq
    rw [show 1024 * 8 = 8192 from rfl] at hf
    exact hf
  · obtain ⟨μ, hμ, hp⟩ := inv_moving B (fun _ => hb) (t.val - 1) ht (by omega) h i
    rw [e1, e2, e3, e4] at hp
    obtain ⟨μ', -, hq⟩ := moving (w := fun d => w (t.val / 64) (t.val / 32 % 2) d) (fun r => B.score t h i r) (fun d r => B.value t d r) hμ hp
    have hq := hq d
    rw [h8] at hq
    rw [pt_K m hO c t (by omega) hb h7, outO_at]
    have hf := part_final (by norm_num) hq
    rw [show 1024 * 8 = 8192 from rfl] at hf
    exact hf

end Cert.KernelIdeal.Invariant
-- ==== Proof.Attention.lean ====
/- What both programs compute: grouped-query softmax attention read at one element of the result. -/
module

public import proofs.«01_k».proof.Proof.SoftmaxRow
public import proofs.«01_k».proof.ReferenceIdeal

@[expose] public section

set_option maxRecDepth 16384

noncomputable section

namespace Cert.Proof.Attention

open Idealize.ShloMosaic Cert.Proof.SoftmaxRow Cert.ReferenceIdeal

/-- Key number `j` as a position of the key axis. -/
abbrev pos (j : ℕ) : Fin 8192 := ⟨j % 8192, Nat.mod_lt _ (by norm_num)⟩

/-- Lane `d` of query head `h` of group `g`. -/
abbrev qlane (g : Fin 2) (h : Fin 4) (d : Fin 128) : Fin 1024 := ⟨512 * g.val + 128 * h.val + d.val, by omega⟩

/-- Lane `d` of key head `g`. -/
abbrev klane (g : Fin 2) (d : Fin 128) : Fin 256 := ⟨128 * g.val + d.val, by omega⟩

/-- The dot product of query row `i` of head `(g, h)` with key `j`, as a real number. -/
def dot (q : Vec Ideal S4x8192x1024 .f32) (k : Vec Ideal S4x8192x256 .f32) (b : Fin 4) (g : Fin 2) (h : Fin 4) (i : Fin 8192) (j : ℕ) : ℝ :=
  ∑ d : Fin 128, (k (ix3 b (pos j) (klane g d))).toReal * (q (ix3 b i (qlane g h d))).toReal

/-- The score: the dot product over the square root of the head's width. -/
def score (q : Vec Ideal S4x8192x1024 .f32) (k : Vec Ideal S4x8192x256 .f32) (b : Fin 4) (g : Fin 2) (h : Fin 4) (i : Fin 8192) (j : ℕ) : ℝ :=
  dot q k b g h i j * (1 / Real.sqrt 128)

/-- The values that lane `d` of key head `g` holds, by key number. -/
def vals (v : Vec Ideal S4x8192x256 .f32) (b : Fin 4) (g : Fin 2) (d : Fin 128) (j : ℕ) : EReal := v (ix3 b (pos j) (klane g d))

/-- The attention's result at batch `b`, row `i`, head `(g, h)`, lane `d`. -/
def att (q : Vec Ideal S4x8192x1024 .f32) (k v : Vec Ideal S4x8192x256 .f32) (b : Fin 4) (i : Fin 8192) (g : Fin 2) (h : Fin 4) (d : Fin 128) : EReal :=
  ∑ j ∈ Finset.range 8192, vals v b g d j * (prob (score q k b g h i) 8192 j : EReal)

/-- Every element is a real number. -/
def Finite {s : Shape} (x : s.Idx → EReal) : Prop := ∀ j, x j ≠ ⊤ ∧ x j ≠ ⊥

theorem Finite.coe {s : Shape} {x : s.Idx → EReal} (h : Finite x) (j : s.Idx) : ((x j).toReal : EReal) = x j := EReal.coe_toReal (h j).1 (h j).2

end Cert.Proof.Attention
-- ==== Proof.Arrays.lean ====
/- The arrays the attention call reads: the scaled queries, the keys and the transposed values, element by element, and the
   blocks cut from them. -/
module

public import proofs.«01_k».proof.Proof.Invariant
public import proofs.«01_k».proof.Proof.Attention
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Arrays

open Cert.KernelIdeal Cert.KernelIdeal.Gen Cert.KernelIdeal.Step Cert.KernelIdeal.Invariant Cert.Proof.Attention Cert.Proof.SoftmaxRow

variable (m : (ℓ : Loc nD τ sig) → Buf (Elt Ideal) ℓ) (c : Dev nD)

/-- The queries, keys and values of device `c`. -/
abbrev qs : Vec Ideal S4x8192x1024 .f32 := m ((c : Thread nD τ).loc main_arg0)
abbrev ks : Vec Ideal S4x8192x256 .f32 := m ((c : Thread nD τ).loc main_arg1)
abbrev vs : Vec Ideal S4x8192x256 .f32 := m ((c : Thread nD τ).loc main_arg2)

/-- The factor the queries are scaled by. -/
def factor : ℝ := 1 / (Real.log 2 * Real.sqrt 128)

theorem ofBits_two : Ideal.ofBits .f32 0x40000000#32 = ((2 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

theorem factor_eq : Ideal.div (Ideal.ofBits .f32 0x3F800000#32)
    (Ideal.log (Ideal.ofBits .f32 0x40000000#32) * Ideal.sqrt (Ideal.ofBits .f32 0x43000000#32)) = (factor : EReal) := by
  rw [ofBits_two, ofBits_128, ofBits_one, Ideal.log_coe, Ideal.sqrt_coe, if_neg (by norm_num), if_neg (by norm_num), ← EReal.coe_mul, Ideal.div_coe]
  · rw [← EReal.coe_mul, one_mul]; rfl
  · have := Real.log_pos (show (1 : ℝ) < 2 by norm_num)
    positivity

/-- No index map reads the table. -/
theorem ok : Ok m := trivial

theorem queries_eq : (V m c main_v27 : Vec Ideal S4x8192x1024 .bf16) = truncf .bf16 (mulf (qs m c) (broadcastInDim S4x8192x1024 ![] bcast_S_S4x8192x1024
    (Host.divf (constant (F := Ideal) S_ .f32 0x3F800000#32) (mulf (Host.log (constant (F := Ideal) S_ .f32 0x40000000#32)) (Host.sqrt (constant (F := Ideal) S_ .f32 0x43000000#32)))))) bitsLt_bf16_f32 := by
  unfold V
  simp only [hostOps0, hostOps0_1, hostOps0_2, List.flatten_cons, List.flatten_nil, List.append_nil, List.cons_append, List.nil_append]
  after_results

theorem keys_eq : (V m c main_v28 : Vec Ideal S4x8192x256 .bf16) = truncf (F := Ideal) .bf16 (ks m c) bitsLt_bf16_f32 := by
  unfold V
  simp only [hostOps0, hostOps0_1, hostOps0_2, List.flatten_cons, List.flatten_nil, List.append_nil, List.cons_append, List.nil_append]
  after_results

theorem values_eq : (V m c main_v30 : Vec Ideal S4x256x8192 .bf16) = truncf (F := Ideal) .bf16 (transpose S4x256x8192 [0, 2, 1] (vs m c) transposes_S4x8192x256_S4x256x8192_0_2_1) bitsLt_bf16_f32 := by
  unfold V
  simp only [hostOps0, hostOps0_1, hostOps0_2, List.flatten_cons, List.flatten_nil, List.append_nil, List.cons_append, List.nil_append]
  after_results

theorem queries (j : S4x8192x1024.Idx) : (V m c main_v27 : Vec Ideal S4x8192x1024 .bf16) j = qs m c j * (factor : EReal) := by
  rw [queries_eq, ← factor_eq]
  pointwise
  try rfl

theorem keys (j : S4x8192x256.Idx) : (V m c main_v28 : Vec Ideal S4x8192x256 .bf16) j = ks m c j := by
  rw [keys_eq]
  pointwise

theorem values (b : Fin 4) (e : Fin 256) (j : Fin 8192) : (V m c main_v30 : Vec Ideal S4x256x8192 .bf16) (ix3 b e j) = vs m c (ix3 b j e) := by
  rw [values_eq]
  pointwise

variable (hO : Ok m)

theorem block_index : ∀ t : Fin grid0.N, cc0_transform_0 (grid0.coords t) = ![t.val / 64, t.val / 8 % 4, t.val / 32 % 2]
    ∧ cc0_transform_1 (grid0.coords t) = ![t.val / 64, t.val % 8, t.val / 32 % 2]
    ∧ cc0_transform_2 (grid0.coords t) = ![t.val / 64, t.val / 32 % 2, t.val % 8]
    ∧ cc0_transform_3 (grid0.coords t) = ![t.val / 64, t.val / 8 % 4, t.val / 32 % 2] := by
  decide +kernel

theorem index0 (t : Fin (cfgM m hO).N) : ((cfgM m hO).win 0).index t = ![t.val / 64, t.val / 8 % 4, t.val / 32 % 2] := (block_index t).1
theorem index1 (t : Fin (cfgM m hO).N) : ((cfgM m hO).win 1).index t = ![t.val / 64, t.val % 8, t.val / 32 % 2] := (block_index t).2.1
theorem index2 (t : Fin (cfgM m hO).N) : ((cfgM m hO).win 2).index t = ![t.val / 64, t.val / 32 % 2, t.val % 8] := (block_index t).2.2.1
theorem index3 (t : Fin (cfgM m hO).N) : ((cfgM m hO).win 3).index t = ![t.val / 64, t.val / 8 % 4, t.val / 32 % 2] := (block_index t).2.2.2

theorem lt_points (t : Fin (cfgM m hO).N) : t.val < 256 := t.isLt

theorem query_block (t : Fin (cfgM m hO).N) (i : Fin 2048) (e : Fin 512) :
    iblk m hO c 0 t (ix3 0 i e) = (V m c main_v27 : Vec Ideal S4x8192x1024 .bf16)
      (ix3 ⟨t.val / 64, by have := lt_points m hO t; omega⟩ ⟨2048 * (t.val / 8 % 4) + i.val, by omega⟩ ⟨512 * (t.val / 32 % 2) + e.val, by omega⟩) := by
  blk_ext [iblk, index0 m hO t]

theorem key_block (t : Fin (cfgM m hO).N) (r : Fin 1024) (d : Fin 128) :
    iblk m hO c 1 t (ix3 0 r d) = (V m c main_v28 : Vec Ideal S4x8192x256 .bf16)
      (ix3 ⟨t.val / 64, by have := lt_points m hO t; omega⟩ ⟨1024 * (t.val % 8) + r.val, by omega⟩ ⟨128 * (t.val / 32 % 2) + d.val, by omega⟩) := by
  blk_ext [iblk, index1 m hO t]

theorem value_block (t : Fin (cfgM m hO).N) (d : Fin 128) (r : Fin 1024) :
    iblk m hO c 2 t (ix3 0 d r) = (V m c main_v30 : Vec Ideal S4x256x8192 .bf16)
      (ix3 ⟨t.val / 64, by have := lt_points m hO t; omega⟩ ⟨128 * (t.val / 32 % 2) + d.val, by omega⟩ ⟨1024 * (t.val % 8) + r.val, by omega⟩) := by
  blk_ext [iblk, index2 m hO t]

end Cert.KernelIdeal.Arrays

end
-- ==== Proof.Result.lean ====
/- The attention call's result array: softmax attention of the queries, keys and values it was launched with. -/
module

public import proofs.«01_k».proof.Proof.Arrays
public import Idealize.ShloMosaic.Lib.Pipeline.Covers

@[expose] public section

set_option maxRecDepth 16384

noncomputable section

open Idealize.ShloMosaic Idealize.ShloMosaic.TcCoe Idealize.SL.Sem

namespace Cert.KernelIdeal.Result

open Cert.KernelIdeal Cert.KernelIdeal.Gen Cert.KernelIdeal.Step Cert.KernelIdeal.Invariant Cert.KernelIdeal.Arrays
open Cert.Proof.Attention Cert.Proof.SoftmaxRow

variable (m : (ℓ : Loc nD τ sig) → Buf (Elt Ideal) ℓ) (c : Dev nD) (hO : Ok m)

/-- Batch number `b` and group number `g` as coordinates. -/
abbrev batch (b : ℕ) : Fin 4 := ⟨b % 4, Nat.mod_lt _ (by norm_num)⟩
abbrev group (g : ℕ) : Fin 2 := ⟨g % 2, Nat.mod_lt _ (by norm_num)⟩

/-- The scores in base two. -/
def s2 (b g : ℕ) (h : Fin 4) (i j : ℕ) : ℝ := dot (qs m c) (ks m c) (batch b) (group g) h (pos i) j * factor

/-- The values. -/
def w2 (b g : ℕ) (d : Fin 128) (j : ℕ) : EReal := vals (vs m c) (batch b) (group g) d j

theorem factor_log : factor * Real.log 2 = 1 / Real.sqrt 128 := by
  have h2 : Real.log 2 ≠ 0 := (Real.log_pos (by norm_num)).ne'
  have h3 : Real.sqrt 128 ≠ 0 := by positivity
  unfold factor
  field_simp

theorem s2_log (b g : ℕ) (h : Fin 4) (i : ℕ) : (fun j => s2 m c b g h i j * Real.log 2) = score (qs m c) (ks m c) (batch b) (group g) h (pos i) := by
  funext j
  unfold s2 score
  rw [mul_assoc, factor_log]

variable {m c} in
/-- A dot product of real rows, one of them scaled. -/
theorem dot_scaled (hq : Finite (qs m c)) (hk : Finite (ks m c)) (b : Fin 4) (g : Fin 2) (h : Fin 4) (i : Fin 8192) (j : ℕ) :
    (∑ d : Fin 128, ks m c (ix3 b (pos j) (klane g d)) * (qs m c (ix3 b i (qlane g h d)) * (factor : EReal)))
      = ((dot (qs m c) (ks m c) b g h i j * factor : ℝ) : EReal) := by
  have e : ∀ d : Fin 128, ks m c (ix3 b (pos j) (klane g d)) * (qs m c (ix3 b i (qlane g h d)) * (factor : EReal))
      = (((ks m c (ix3 b (pos j) (klane g d))).toReal * (qs m c (ix3 b i (qlane g h d))).toReal * factor : ℝ) : EReal) := fun d => by
    rw [EReal.coe_mul, EReal.coe_mul, hk.coe, hq.coe, mul_assoc]
  rw [Finset.sum_congr rfl fun d _ => e d, ← coe_sum, dot, Finset.sum_mul]

theorem blocks (hq : Finite (qs m c)) (hk : Finite (ks m c)) : Blocks m hO c (s2 m c) (w2 m c) where
  score t h i r := by
    have ht := lt_points m hO t
    unfold s2
    rw [← dot_scaled hq hk]
    unfold sc
    refine Finset.sum_congr rfl fun d _ => ?_
    rw [key_block, query_block, keys, queries]
    congr 2
    · congr 1 <;> apply Fin.ext <;> simp <;> omega
    · congr 2 <;> apply Fin.ext <;> simp [lane] <;> omega
  value t d r := by
    have ht := lt_points m hO t
    rw [value_block, values]
    unfold w2 vals
    congr 2 <;> apply Fin.ext <;> simp <;> omega

/-- What the result array holds. -/
def G : Vec Ideal S4x8192x1024 .bf16 := fun x =>
  att (qs m c) (ks m c) (vs m c) (x 0) (x 1) ⟨(x 2).val / 512, by have := (x 2).isLt; simp at this; omega⟩
    ⟨(x 2).val % 512 / 128, by omega⟩ ⟨(x 2).val % 128, by omega⟩

theorem block_of (β : (a : Fin 3) → Fin ((S4x8192x1024.size a + S1x2048x512.size a - 1) / S1x2048x512.size a)) :
    ∃ t : Fin grid0.N, ∀ a : Fin 3, (![t.val / 64, t.val / 8 % 4, t.val / 32 % 2] : Fin 3 → ℕ) a = (β a).val := by
  have h0 : (β 0).val < 4 := (β 0).isLt
  have h1 : (β 1).val < 4 := (β 1).isLt
  have h2 : (β 2).val < 2 := (β 2).isLt
  refine ⟨⟨64 * (β 0).val + 32 * (β 2).val + 8 * (β 1).val, by show _ < 256; omega⟩, fun a => ?_⟩
  match a with
  | 0 => show (64 * (β 0).val + 32 * (β 2).val + 8 * (β 1).val) / 64 = (β 0).val; omega
  | 1 => show (64 * (β 0).val + 32 * (β 2).val + 8 * (β 1).val) / 8 % 4 = (β 1).val; omega
  | 2 => show (64 * (β 0).val + 32 * (β 2).val + 8 * (β 1).val) / 32 % 2 = (β 2).val; omega

/-- The written blocks tile the result. -/
theorem covers : ((cfgM m hO).win 3).Covers :=
  ((cfgM m hO).win 3).covers_of_index_surj rfl (fun a => (by decide : ∀ a : Fin 3, 0 < S1x2048x512.size a) a) fun β => by
    obtain ⟨t, ht⟩ := block_of β
    exact ⟨t, fun a => (congrFun (index3 m hO t) a).trans (ht a)⟩

theorem result_point (hq : Finite (qs m c)) (hk : Finite (ks m c)) (t : Fin (cfgM m hO).N) (h7 : t.val % 8 = 7) (i : Fin 2048) (e : Fin 512) :
    (outsAt0 m hO c t.val t.isLt).1 (ix3 0 i e) = att (qs m c) (ks m c) (vs m c) (batch (t.val / 64)) (pos (2048 * (t.val / 8 % 4) + i.val))
      (group (t.val / 32 % 2)) ⟨e.val / 128, by omega⟩ ⟨e.val % 128, by omega⟩ := by
  have r := out_last (blocks m c hO hq hk) t h7 ⟨e.val / 128, by omega⟩ i ⟨e.val % 128, by omega⟩
  rw [s2_log] at r
  rw [show lane ⟨e.val / 128, by omega⟩ ⟨e.val % 128, by omega⟩ = e from Fin.ext (by simp only [lane]; omega)] at r
  exact r

theorem att_congr (q : Vec Ideal S4x8192x1024 .f32) (k v : Vec Ideal S4x8192x256 .f32) {b b' : Fin 4} {i i' : Fin 8192} {g g' : Fin 2} {h h' : Fin 4} {d d' : Fin 128}
    (hb : b.val = b'.val) (hi : i.val = i'.val) (hg : g.val = g'.val) (hh : h.val = h'.val) (hd : d.val = d'.val) :
    att q k v b i g h d = att q k v b' i' g' h' d' := by
  obtain rfl := Fin.ext hb; obtain rfl := Fin.ext hi; obtain rfl := Fin.ext hg; obtain rfl := Fin.ext hh; obtain rfl := Fin.ext hd; rfl

theorem place (t : Fin (cfgM m hO).N) (i : Fin 2048) (e : Fin 512) : ((((cfgM m hO).win 3).blk t).view.emb (ix3 0 i e : S1x2048x512.Idx) : S4x8192x1024.Idx)
    = ix3 (batch (t.val / 64)) (pos (2048 * (t.val / 8 % 4) + i.val)) ⟨512 * (t.val / 32 % 2) + e.val, by omega⟩ := by
  have ht := lt_points m hO t
  blk_ext [index3 m hO t]

theorem final_point (hq : Finite (qs m c)) (hk : Finite (ks m c)) (t : Fin (cfgM m hO).N) (h7 : t.val % 8 = 7) (y : S1x2048x512.Idx) :
    (outsAt0 m hO c t.val t.isLt).1 y = G m c ((((cfgM m hO).win 3).blk t).view.emb y) := by
  have hy : y = ix3 0 (y 1) (y 2) := by
    funext a; apply Fin.ext
    match a with
    | 0 => have h : (y 0).val < 1 := (y 0).isLt
           show (y 0).val = 0
           omega
    | 1 => rfl
    | 2 => rfl
  generalize (y 1 : Fin 2048) = i at hy
  generalize (y 2 : Fin 512) = e at hy
  subst hy
  refine (result_point m c hO hq hk t h7 i e).trans (Eq.trans ?_ (congrArg (G m c) (place m hO t i e)).symm)
  have h2 : e.val < 512 := e.isLt
  refine att_congr _ _ _ rfl rfl ?_ ?_ ?_
  · show t.val / 32 % 2 % 2 = (512 * (t.val / 32 % 2) + e.val) / 512; omega
  · show e.val / 128 = (512 * (t.val / 32 % 2) + e.val) % 512 / 128; omega
  · show e.val % 128 = (512 * (t.val / 32 % 2) + e.val) % 128; omega

theorem final (hq : Finite (qs m c)) (hk : Finite (ks m c)) : (dats m hO 0 c).arrAt 3 (cfgM m hO).N = G m c := by
  refine (dats m hO 0 c).arrAt_eq_of_covers 3 _ (covers m hO) fun t hf y => ?_
  have h7 := (flush0_3 (adm m hO) t).1 hf
  blk_simp
  rw [after0_3]
  exact final_point m c hO hq hk t h7 y

end Cert.KernelIdeal.Result

end
-- ==== Proof.Reference.lean ====
/- The reference program's result at an element is the attention of `Attention.lean`, for real queries and keys. -/
module

public import proofs.«01_k».proof.Proof.Attention
public import proofs.«01_k».proof.Proof.Gen.ReferenceIdeal.Read

@[expose] public section

set_option maxRecDepth 16384

noncomputable section

namespace Cert.Proof.Reference

open Idealize.ShloMosaic Cert.Proof.SoftmaxRow Cert.Proof.Attention Cert.ReferenceIdeal Cert.ReferenceIdeal.Read

variable (q : Vec Ideal S4x8192x1024 .f32) (k v : Vec Ideal S4x8192x256 .f32)

theorem ofBits_128 : Ideal.ofBits .f32 0x43000000#32 = ((128 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

/-- The scale. -/
theorem scale_eq (j : S_.Idx) : val_main_v4 (F := Ideal) j = ((1 / Real.sqrt 128 : ℝ) : EReal) := by
  pointwise [val_main_v4, val_main_cst, val_main_cst_0, val_main_v3]
  rw [ofBits_128]
  have h : Ideal.sqrt ((128 : ℝ) : EReal) = ((Real.sqrt 128 : ℝ) : EReal) := by
    rw [Ideal.sqrt_coe, if_neg (by norm_num)]
  rw [h, Ideal.div_coe (by positivity), one_mul]

theorem score_eq (hq : Finite q) (hk : Finite k) (b : Fin 4) (g : Fin 2) (h : Fin 4) (i j : Fin 8192) :
    val_main_v8 (F := Ideal) q k (ix5 b g h i j) = (score q k b g h i j.val : EReal) := by
  rw [val_main_v8_apply, val_main_v6_apply, val_main_v5_apply]
  pointwise [val_main_v7, val_main_v1, val_main_v0]
  rw [scale_eq]
  unfold score dot
  rw [EReal.coe_mul, coe_sum]
  congr 1
  refine Finset.sum_congr rfl fun d _ => ?_
  rw [EReal.coe_mul, hq.coe, hk.coe]
  congr 2 <;> congr 1 <;> apply Fin.ext <;> simp [pos, qlane, klane] <;> omega

theorem max_eq (hq : Finite q) (hk : Finite k) (b : Fin 4) (g : Fin 2) (h : Fin 4) (i : Fin 8192) :
    ∃ M : ℝ, val_main_v11 (F := Ideal) q k (ix4 b g h i) = (M : EReal) := by
  have hs : ∀ y, ∃ r : ℝ, val_main_v8 (F := Ideal) q k y = (r : EReal) := fun y => by
    idx_vars y
    exact ⟨_, score_eq q k hq hk _ _ _ _ _⟩
  choose f hf using hs
  rw [val_main_v11_apply, val_main_v10_apply]
  unfold val_main_v9
  rw [Host.reduce_eq_fold_single FloatOps.maximumf _ _ _ (by decide)]
  generalize val_main_v8 (F := Ideal) q k = X at *
  obtain rfl : X = fun y => (f y : EReal) := funext hf
  rw [show val_main_cst_1 (F := Ideal) (Shape.Idx.first Gen.h_S_) = (⊥ : EReal) from ofBits_negInf, show val_main_cst_2 (F := Ideal) _ = (⊥ : EReal) from ofBits_negInf]
  obtain ⟨M, hM⟩ := fold_max_real' (Finset.univ : Finset (Fin 8192)) ⟨0, Finset.mem_univ _⟩ fun x => f ((by decide : S4x2x4x8192x8192.Reduces [4] S4x2x4x8192).lift (ix4 b g h i) x)
  refine ⟨M, ?_⟩
  rw [← hM]
  exact max_eq_right bot_le

theorem prob_eq (hq : Finite q) (hk : Finite k) (b : Fin 4) (g : Fin 2) (h : Fin 4) (i j : Fin 8192) :
    val_main_v19 (F := Ideal) q k (ix5 b g h i j) = (prob (score q k b g h i) 8192 j.val : EReal) := by
  obtain ⟨M, hM⟩ := max_eq q k hq hk b g h i
  pointwise [val_main_v19, val_main_v18, val_main_v17, val_main_v16, val_main_v15, val_main_v14, val_main_v13, val_main_v12, val_main_cst_3]
  rw [hM]
  simp only [score_eq q k hq hk, ← EReal.coe_sub]
  have he : ∀ x : ℝ, Ideal.exp (x : EReal) = ((Real.exp x : ℝ) : EReal) := fun _ => rfl
  simp only [he]
  rw [← coe_sum, Ideal.div_coe (Finset.sum_pos (fun _ _ => Real.exp_pos _) ⟨0, Finset.mem_univ _⟩).ne', ← EReal.coe_mul, ← prob_sub _ _ M,
    ← Finset.sum_range fun x => Real.exp (score q k b g h i x - M), mul_one_div]

theorem result_eq (hq : Finite q) (hk : Finite k) (b : Fin 4) (i : Fin 8192) (c : Fin 1024) :
    val_main_v23 (F := Ideal) q k v (ix3 b i c) = att q k v b i ⟨c.val / 512, by omega⟩ ⟨c.val % 512 / 128, by omega⟩ ⟨c.val % 128, by omega⟩ := by
  pointwise [val_main_v23, val_main_v22, val_main_v21, val_main_v20, val_main_v2]
  simp only [prob_eq q k hq hk]
  unfold att
  rw [Finset.sum_range]
  refine Finset.sum_congr rfl fun j _ => ?_
  have e1 : (⟨c.val / 128 % 4, by omega⟩ : Fin 4) = ⟨c.val % 512 / 128, by omega⟩ := Fin.ext (by show c.val / 128 % 4 = c.val % 512 / 128; omega)
  rw [e1]
  congr 1
  unfold vals
  congr 1; congr 1 <;> apply Fin.ext <;> simp [pos, klane] <;> omega

end Cert.Proof.Reference
-- ==== Proof.Claims.lean ====
/- The attention call's claims: the frames, and that its result array is the reference's. -/
module

public import proofs.«01_k».proof.Defs
public import proofs.«01_k».proof.Proof.Result
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.ReduceAll
public import Idealize.ShloMosaic.Lib.Claim

@[expose] public section

set_option maxRecDepth 16384

noncomputable section

open Idealize.ShloMosaic Idealize.ShloMosaic.TcCoe Idealize.SL.Sem

namespace Cert.Proof.Claims

open Cert.Proof.Attention Cert.ReferenceIdeal

/-- The shapes of the precondition's operations fit. -/
instance facts_pre : Cert.Pre_finite_queries_and_keys.Facts where
  bcast_S_S4x8192x1024 := by decide
  reducesTo_S4x8192x1024_S_d0_1_2 := by decide
  h_S_ := by decide
  bcast_S_S4x8192x256 := by decide
  reducesTo_S4x8192x256_S_d0_1_2 := by decide

theorem ofBits_inf : Ideal.ofBits .f32 0x7F800000#32 = (⊤ : EReal) := by
  simp [Ideal.ofBits, Ideal.ieee]

/-- An element whose absolute value compares below infinity is a real number. -/
theorem finite_of_lt (x : EReal) (h : FloatOps.cmpf (F := Ideal) (φ := .f32) .olt (FloatOps.absf (F := Ideal) (φ := .f32) x) (Ideal.ofBits .f32 0x7F800000#32) = 1#1) : x ≠ ⊤ ∧ x ≠ ⊥ := by
  rw [ofBits_inf] at h
  have h1 : BitVec.ofBool (decide (max x (-x) < (⊤ : EReal))) = 1#1 := h
  induction x with
  | bot => exfalso; revert h1; simp
  | top => exfalso; revert h1; simp
  | coe r => exact ⟨EReal.coe_ne_top r, EReal.coe_ne_bot r⟩

variable (q : Vec Ideal S4x8192x1024 .f32) (k v : Vec Ideal S4x8192x256 .f32) (hq hk : Vec Ideal S1x128 .f32)

theorem finite_queries (h : (Cert.Pre_finite_queries_and_keys.fn (F := Ideal) q k v hq hk).1 = fun _ => 1#1) : Finite q := fun j => by
  refine finite_of_lt _ ?_
  have e := congrFun h ix0
  unfold Cert.Pre_finite_queries_and_keys.fn at e
  dsimp only at e
  exact Host.reduce_andi_all _ _ _ _ _ e j

theorem finite_keys (h : (Cert.Pre_finite_queries_and_keys.fn (F := Ideal) q k v hq hk).2 = fun _ => 1#1) : Finite k := fun j => by
  refine finite_of_lt _ ?_
  have e := congrFun h ix0
  unfold Cert.Pre_finite_queries_and_keys.fn at e
  dsimp only at e
  exact Host.reduce_andi_all _ _ _ _ _ e j

theorem frame_ideal : Cert.quiescent_KernelIdeal := fun m ρ _ => Cert.KernelIdeal.Gen.frame m ρ trivial

theorem frame_ideal_pre : Cert.quiescent_KernelIdeal_pre_finite_queries_and_keys := fun m ρ _ => Cert.KernelIdeal.Gen.frame m ρ trivial

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_finite_queries_and_keys := fun m ρ _ => frame_reference m ρ trivial

set_option maxHeartbeats 1000000 in
theorem run_kernel (m : (ℓ : Loc Cert.KernelIdeal.nD Cert.KernelIdeal.τ Cert.KernelIdeal.sig) → Buf (Elt Ideal) ℓ) (ρ : Dev Cert.KernelIdeal.nD → PrngReg)
    (h : Cert.Pre_KernelIdeal_finite_queries_and_keys m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v31) = Cert.KernelIdeal.Result.G m c) :=
  (θ_run Cert.KernelIdeal.defs _ _).mono (fun r hr c =>
    (hr.out_eq c 3).trans (Cert.KernelIdeal.Result.final m c trivial (finite_queries _ _ _ _ _ (h c).1) (finite_keys _ _ _ _ _ (h c).2)))
    (Cert.KernelIdeal.Gen.run_main m ρ trivial)

/-- The reference's result, from arguments that agree with the kernel's, is the kernel's. -/
theorem reference_value (m : (ℓ : Loc Cert.KernelIdeal.nD Cert.KernelIdeal.τ Cert.KernelIdeal.sig) → Buf (Elt Ideal) ℓ) (c : Dev Cert.KernelIdeal.nD)
    (hq : Finite (Cert.KernelIdeal.Arrays.qs m c)) (hk : Finite (Cert.KernelIdeal.Arrays.ks m c)) :
    Cert.ReferenceIdeal.Read.val_main_v23 (F := Ideal) (Cert.KernelIdeal.Arrays.qs m c) (Cert.KernelIdeal.Arrays.ks m c) (Cert.KernelIdeal.Arrays.vs m c)
      = Cert.KernelIdeal.Result.G m c := by
  funext x
  have hx : x = ix3 (x 0) (x 1) (x 2) := by
    funext a
    match a with
    | 0 => rfl
    | 1 => rfl
    | 2 => rfl
  refine (congrArg _ hx).trans ((Cert.Proof.Reference.result_eq _ _ _ hq hk (x 0) (x 1) (x 2)).trans ?_)
  rfl

set_option maxHeartbeats 1000000 in
/-- At `Ideal` the kernel's result array and the reference's agree. -/
theorem algebraic : Cert.algebraic_KernelIdeal_ReferenceIdeal_pre_finite_queries_and_keys := by
  intro m g m' g' h hagree
  refine ⟨fun c => Cert.KernelIdeal.Result.G m c, ?_, ?_⟩
  · exact (θ_run Cert.KernelIdeal.defs _ _).mono (fun r hr c => ⟨hr.1 c, hr.2 c⟩)
      (θ_run_and (run_kernel m g h) (Cert.KernelIdeal.Gen.unchanged m g trivial))
  · refine (θ_run Cert.ReferenceIdeal.defs _ _).mono (fun r hr c => ⟨?_, (hr c).2⟩) (Cert.ReferenceIdeal.Value.run (F := Ideal) m' g')
    refine (hr c).1.trans ((Cert.ReferenceIdeal.Read.val_main_v23_eq (F := Ideal) _ _ _).trans ?_)
    rw [(hagree c).1, (hagree c).2.1, (hagree c).2.2.1]
    exact reference_value m c (finite_queries _ _ _ _ _ (h c).1) (finite_keys _ _ _ _ _ (h c).2)

end Cert.Proof.Claims

end
-- ==== Proof.FrameKernel.lean ====
/- The attention call's frame at the bit patterns: the two programs have one text, and the run holds at any floats. -/
module

public import proofs.«01_k».proof.Defs
public import proofs.«01_k».proof.Proof.Gen.KernelIdeal.Frame
public import proofs.«01_k».proof.Proof.Gen.Kernel
public import proofs.«01_k».proof.Proof.Gen.KernelIdeal
public import Idealize.ShloMosaic.Lib.Claim

@[expose] public section

set_option maxRecDepth 16384

noncomputable section

open Idealize.ShloMosaic Idealize.ShloMosaic.TcCoe Idealize.SL.Sem

namespace Cert.Proof.Claims

-- the two texts are compared by unfolding both
set_option smartUnfolding false in
set_option maxHeartbeats 4000000 in
theorem frame_kernel : Cert.quiescent_Kernel := fun m ρ _ =>
  (θ_run Cert.KernelIdeal.defs _ _).mono (fun _ h => h) (Cert.KernelIdeal.Gen.frame (F := Bits) m ρ trivial)

end Cert.Proof.Claims

end
-- ==== Proof.Experts.Setup.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

/-! # The experts call: setting up its launch

The call has four prefetched tables (the low expert, the high expert, the tile of rows, and whether
the tile is in use), seven input windows and one output window.  Everything below holds for any
element values, on any launch memory whose tables keep every block inside its array. -/

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer holds once the casts before the call are done. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is its casts followed by the call. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no cast writes is as it was launched. -/
theorem V_of_unwritten (c : Dev nD) (b : Ref sig .tc)
    (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes,
      StableHlo.binary_writes, StableHlo.ternary_writes, StableHlo.reshape_writes, Finset.mem_singleton]
    exact ⟨StableHlo.devRef_ne_of_ne h0, StableHlo.devRef_ne_of_ne h1, StableHlo.devRef_ne_of_ne h2,
      StableHlo.devRef_ne_of_ne h3⟩))

/-! ## The tables -/

/-- The four tables, as the call finds them. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every table-driven block lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body is handed them. -/
abbrev tab0 : Memref sig .tc .smem S216 .i32 := Memref.whole main_arg0
abbrev tab1 : Memref sig .tc .smem S216 .i32 := Memref.whole main_arg1
abbrev tab2 : Memref sig .tc .smem S216 .i32 := Memref.whole main_arg2
abbrev tab3 : Memref sig .tc .smem S216 .i32 := Memref.whole main_arg3

/-- A table's contents on a core, and the half of it the body may read. -/
abbrev TabBuf (c : Dev nD) (M : Memref sig .tc .smem S216 .i32) : Type := Buf (Elt F) (M.view.loc (c : Thread nD τ))
abbrev tabPt (c : Dev nD) (M : Memref sig .tc .smem S216 .i32) (f : TabBuf (F := F) c M) : sProp 𝕄 :=
  M.view.loc (c : Thread nD τ) ↦{fullShare.right} f

/-- The words the body reads from the fourth table at a point: the same word, read twice. -/
abbrev used1 (c : Dev nD) (i : grid0.Coords) (x : TabBuf (F := F) c tab3) : BitVec 32 :=
  tab3.view.readAt (Elt F) (Rect.unit (s := S216) (k0_off1 i) S1.size (k0_off1_inb i)).toLoadRect x
    (Shape.Idx.first (numel1_S1.symm ▸ Nat.one_pos))
abbrev used2 (c : Dev nD) (i : grid0.Coords) (x : TabBuf (F := F) c tab3) : BitVec 32 :=
  tab3.view.readAt (Elt F) (Rect.unit (s := S216) (k0_off2 i) S1.size (k0_off2_inb i)).toLoadRect x
    (Shape.Idx.first (numel1_S1.symm ▸ Nat.one_pos))

theorem tables_eq (c : Dev nD) :
    (Pipeline.ΦT pre0 (tbl m) c : sProp 𝕄) = iprop(tabPt c tab0 (tbl m 0) ∗ tabPt c tab1 (tbl m 1)
      ∗ tabPt c tab2 (tbl m 2) ∗ tabPt c tab3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Each window's staging memref at a point. -/
abbrev stg0 (hO : Ok m) (t : Fin (cfgM m hO).N) : Memref sig .tc .vmem S256x2048 .bf16 := spec0_0.stage ((cfgM m hO).slots t 0)
abbrev stg1 (hO : Ok m) (t : Fin (cfgM m hO).N) : Memref sig .tc .vmem S1x2048x1024 .bf16 := spec0_1.stage ((cfgM m hO).slots t 1)
abbrev stg2 (hO : Ok m) (t : Fin (cfgM m hO).N) : Memref sig .tc .vmem S1x2048x1024 .bf16 := spec0_2.stage ((cfgM m hO).slots t 2)
abbrev stg3 (hO : Ok m) (t : Fin (cfgM m hO).N) : Memref sig .tc .vmem S1x1024x2048 .bf16 := spec0_3.stage ((cfgM m hO).slots t 3)
abbrev stg4 (hO : Ok m) (t : Fin (cfgM m hO).N) : Memref sig .tc .vmem S1x2048x1024 .bf16 := spec0_4.stage ((cfgM m hO).slots t 4)
abbrev stg5 (hO : Ok m) (t : Fin (cfgM m hO).N) : Memref sig .tc .vmem S1x2048x1024 .bf16 := spec0_5.stage ((cfgM m hO).slots t 5)
abbrev stg6 (hO : Ok m) (t : Fin (cfgM m hO).N) : Memref sig .tc .vmem S1x1024x2048 .bf16 := spec0_6.stage ((cfgM m hO).slots t 6)
abbrev stg7 (hO : Ok m) (t : Fin (cfgM m hO).N) : Memref sig .tc .vmem S256x4096 .bf16 := spec0_7.stage ((cfgM m hO).slots t 7)

/-- The body at point `t`, on the memrefs the pipeline calls it with. -/
abbrev bodyAt (hO : Ok m) (t : Fin (cfgM m hO).N) : Prog (TpuEff nD τ sig (Elt F) Λ₀ .tc) PUnit :=
  cc0_experts (grid0.coords t) tab0 (Memref.isWhole_whole _) tab1 (Memref.isWhole_whole _)
    tab2 (Memref.isWhole_whole _) tab3 (Memref.isWhole_whole _)
    (stg0 m hO t) (hstage0_0 (((cfgM m hO).slots t 0).cast nbuf0_0))
    (stg1 m hO t) (hstage0_1 (((cfgM m hO).slots t 1).cast nbuf0_1))
    (stg2 m hO t) (hstage0_2 (((cfgM m hO).slots t 2).cast nbuf0_2))
    (stg3 m hO t) (hstage0_3 (((cfgM m hO).slots t 3).cast nbuf0_3))
    (stg4 m hO t) (hstage0_4 (((cfgM m hO).slots t 4).cast nbuf0_4))
    (stg5 m hO t) (hstage0_5 (((cfgM m hO).slots t 5).cast nbuf0_5))
    (stg6 m hO t) (hstage0_6 (((cfgM m hO).slots t 6).cast nbuf0_6))
    (stg7 m hO t) (hstage0_7 (((cfgM m hO).slots t 7).cast nbuf0_7))

end Cert.Kernel2Ideal.Experts

end
-- ==== Proof.Experts.Body.lean ====
module

public import proofs.«01_k».proof.Proof.Experts.Setup
public import Idealize.ShloMosaic.Lib.Pipeline.ValueKit

/-! # The experts call: what its body does

A tile in use gets both experts' outputs side by side; a tile not in use gets zeros. -/

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The left and the right half of a block of rows. -/
def leftHalf (x : Vec F S256x2048 .bf16) : Vec F S256x1024 .bf16 :=
  View.ld x (Rect.unit (s := S256x2048) ![0, 0] S256x1024.size inb_S256x2048_S256x1024_0_0)
def rightHalf (x : Vec F S256x2048 .bf16) : Vec F S256x1024 .bf16 :=
  View.ld x (Rect.unit (s := S256x2048) ![0, 1024] S256x1024.size inb_S256x2048_S256x1024_0_1024)

/-- What the body stores for a tile in use. -/
def both (x0 : Vec F S256x2048 .bf16) (x1 x2 : Vec F S1x2048x1024 .bf16) (x3 : Vec F S1x1024x2048 .bf16)
    (x4 x5 : Vec F S1x2048x1024 .bf16) (x6 : Vec F S1x1024x2048 .bf16) : Vec F S256x4096 .bf16 :=
  k0_pay1 (k0_pay4 (leftHalf x0) (rightHalf x0) x1 x2 x3) (k0_pay5 (leftHalf x0) (rightHalf x0) x4)
    (k0_pay6 (leftHalf x0) (rightHalf x0) x5) x6

variable (c : Dev nD) (i : grid0.Coords)
  (a5 : Memref sig .tc .vmem S256x2048 .bf16) (h5 : a5.IsWhole)
  (a6 : Memref sig .tc .vmem S1x2048x1024 .bf16) (h6 : a6.IsWhole)
  (a7 : Memref sig .tc .vmem S1x2048x1024 .bf16) (h7 : a7.IsWhole)
  (a8 : Memref sig .tc .vmem S1x1024x2048 .bf16) (h8 : a8.IsWhole)
  (a9 : Memref sig .tc .vmem S1x2048x1024 .bf16) (h9 : a9.IsWhole)
  (a10 : Memref sig .tc .vmem S1x2048x1024 .bf16) (h10 : a10.IsWhole)
  (a11 : Memref sig .tc .vmem S1x1024x2048 .bf16) (h11 : a11.IsWhole)
  (a12 : Memref sig .tc .vmem S256x4096 .bf16) (h12 : a12.IsWhole)
  (x0 : Vec F S256x2048 .bf16) (x1 x2 : Vec F S1x2048x1024 .bf16) (x3 : Vec F S1x1024x2048 .bf16)
  (x4 x5 : Vec F S1x2048x1024 .bf16) (x6 : Vec F S1x1024x2048 .bf16)
  (t0 : TabBuf (F := F) c tab0) (t1 : TabBuf (F := F) c tab1) (t2 : TabBuf (F := F) c tab2)
  (t3 : TabBuf (F := F) c tab3)

/-- What the body holds of its inputs, before and after. -/
def held : sProp 𝕄 :=
  iprop(owns (c : Thread nD τ) a5 fullShare x0 ∗ owns (c : Thread nD τ) a6 fullShare x1
    ∗ owns (c : Thread nD τ) a7 fullShare x2 ∗ owns (c : Thread nD τ) a8 fullShare x3
    ∗ owns (c : Thread nD τ) a9 fullShare x4 ∗ owns (c : Thread nD τ) a10 fullShare x5
    ∗ owns (c : Thread nD τ) a11 fullShare x6
    ∗ tabPt c tab0 t0 ∗ tabPt c tab1 t1 ∗ tabPt c tab2 t2 ∗ tabPt c tab3 t3)

theorem zero2 : (![0, 0] : Fin 2 → ℕ) = fun _ => 0 := by decide
theorem zero3 : (![0, 0, 0] : Fin 3 → ℕ) = fun _ => 0 := by decide

/-- The body as called. -/
abbrev body : Prog (TpuEff nD τ sig (Elt F) Λ₀ .tc) PUnit :=
  cc0_experts i tab0 (Memref.isWhole_whole _) tab1 (Memref.isWhole_whole _) tab2 (Memref.isWhole_whole _)
    tab3 (Memref.isWhole_whole _) a5 h5 a6 h6 a7 h7 a8 h8 a9 h9 a10 h10 a11 h11 a12 h12

set_option maxHeartbeats 1000000 in
/-- A tile not in use: the body writes zeros. -/
theorem body_unused (hc1 : ¬ k0_cond1 (used1 c i t3) = 1#1) (hc2 : k0_cond2 (used2 c i t3) = 1#1)
    (E : Set ℕ) (K : PUnit → sProp 𝕄) :
    iprop(held c a5 a6 a7 a8 a9 a10 a11 x0 x1 x2 x3 x4 x5 x6 t0 t1 t2 t3
        ∗ (∃ d, owns (c : Thread nD τ) a12 fullShare d)
        ∗ (iprop(held c a5 a6 a7 a8 a9 a10 a11 x0 x1 x2 x3 x4 x5 x6 t0 t1 t2 t3
            ∗ owns (c : Thread nD τ) a12 fullShare k0_pay2) -∗ K ⟨⟩))
      ⊢ wp frame (wpE (defs₀ (F := F)) Variants.none c none) E
          (body i a5 h5 a6 h6 a7 h7 a8 h8 a9 h9 a10 h10 a11 h11 a12 h12) K := by
  unfold body
  simp only [cc0_experts_eq_skeleton]; unfold cc0_experts_skel
  iintro ⟨Hin, ⟨%d, Ho⟩, Hk⟩
  unfold held
  icases Hin with ⟨H0, H1, H2, H3, H4, H5, H6, HT0, HT1, HT2, HT3⟩
  unfold owns
  icases Ho with ⟨%f, -, Ho⟩
  sl_exec (disch := first | sl_exact hc1 | sl_exact hc2)
  sl_step
  iapply Hk
  isplitr [Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HT2]; · iexact HT2
    iexact HT3
  iexists _; isplitr
  swap; · iexact Ho
  ipureintro
  rw [View.read_writes_eq_canon _ _ _ (View.cover_of_tiledL _ S256x4096.size (by sl_kernel_rfl))]
  rw [View.canon_unit_zero zero2]

set_option maxHeartbeats 2000000 in
/-- A tile in use: the body writes both experts' outputs. -/
theorem body_used (hc1 : k0_cond1 (used1 c i t3) = 1#1) (hc2 : ¬ k0_cond2 (used2 c i t3) = 1#1)
    (E : Set ℕ) (K : PUnit → sProp 𝕄) :
    iprop(held c a5 a6 a7 a8 a9 a10 a11 x0 x1 x2 x3 x4 x5 x6 t0 t1 t2 t3
        ∗ (∃ d, owns (c : Thread nD τ) a12 fullShare d)
        ∗ (iprop(held c a5 a6 a7 a8 a9 a10 a11 x0 x1 x2 x3 x4 x5 x6 t0 t1 t2 t3
            ∗ owns (c : Thread nD τ) a12 fullShare (both x0 x1 x2 x3 x4 x5 x6)) -∗ K ⟨⟩))
      ⊢ wp frame (wpE (defs₀ (F := F)) Variants.none c none) E
          (body i a5 h5 a6 h6 a7 h7 a8 h8 a9 h9 a10 h10 a11 h11 a12 h12) K := by
  unfold body
  simp only [cc0_experts_eq_skeleton]; unfold cc0_experts_skel
  simp only [k0_part1_eq_skeleton]
  iintro ⟨Hin, ⟨%d, Ho⟩, Hk⟩
  unfold held
  unfold owns
  icases Hin with ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, HT0, HT1, HT2, HT3⟩
  icases Ho with ⟨%f, -, Ho⟩
  obtain rfl := h5.eq_unread e0; obtain rfl := h6.eq_unread e1; obtain rfl := h7.eq_unread e2
  obtain rfl := h8.eq_unread e3; obtain rfl := h9.eq_unread e4; obtain rfl := h10.eq_unread e5
  obtain rfl := h11.eq_unread e6
  sl_exec (disch := first | sl_exact hc1 | sl_exact hc2)
  sl_step
  iapply Hk
  isplitr [Ho]
  · isplitl [H0]; · iexists _; isplitr; · ipureintro; exact h5.read_unread _
                    iexact H0
    isplitl [H1]; · iexists _; isplitr; · ipureintro; exact h6.read_unread _
                    iexact H1
    isplitl [H2]; · iexists _; isplitr; · ipureintro; exact h7.read_unread _
                    iexact H2
    isplitl [H3]; · iexists _; isplitr; · ipureintro; exact h8.read_unread _
                    iexact H3
    isplitl [H4]; · iexists _; isplitr; · ipureintro; exact h9.read_unread _
                    iexact H4
    isplitl [H5]; · iexists _; isplitr; · ipureintro; exact h10.read_unread _
                    iexact H5
    isplitl [H6]; · iexists _; isplitr; · ipureintro; exact h11.read_unread _
                    iexact H6
    isplitl [HT0]; · iexact HT0
    isplitl [HT1]; · iexact HT1
    isplitl [HT2]; · iexact HT2
    iexact HT3
  iexists _; isplitr
  swap; · iexact Ho
  ipureintro
  rw [View.read_writes_eq_canon _ _ _ (View.cover_of_tiledL _ S256x4096.size (by sl_kernel_rfl))]
  rw [View.canon_unit_zero zero2]
  unfold body_used.sl.r_1 body_used.sl.r_2 body_used.sl.r_3
  simp only [View.readAt_eq_ld, h5.read_unread, h6.read_unread, h7.read_unread, h8.read_unread,
    h9.read_unread, h10.read_unread, h11.read_unread, View.ld_unit_zero (S := S1x2048x1024) zero3,
    View.ld_unit_zero (S := S1x1024x2048) zero3]
  rfl

end Cert.Kernel2Ideal.Experts

end
-- ==== Proof.Experts.Run.lean ====
module

public import proofs.«01_k».proof.Proof.Experts.Body

/-! # The experts call: its whole run

Every execution of the call ends with the result array holding, tile by tile, what the body stores
there, and with the arguments as they were. -/

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every word of the fourth table is 0 or 1. -/
abbrev Flags : Prop := ∀ (c : Dev nD) (i : grid0.Coords),
  used1 c i (tbl m 3) = 0#32 ∨ used1 c i (tbl m 3) = 1#32

/-- What point `t` leaves in the result window. -/
def stored (hO : Ok m) (c : Dev nD) (t : Fin (cfgM m hO).N) : Vec F S256x4096 .bf16 :=
  if used1 c (grid0.coords t) (tbl m 3) = 1#32 then both (iblk m hO c 0 t) (iblk m hO c 1 t) (iblk m hO c 2 t) (iblk m hO c 3 t) (iblk m hO c 4 t) (iblk m hO c 5 t) (iblk m hO c 6 t)
  else k0_pay2

/-- The pipeline's contents: inputs stay at their blocks, the result window is as stored. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => stored m hO c t
  Φ _ := iprop(Pipeline.ΦA spec0 c ∗ Pipeline.ΦT pre0 (tbl m) c)
  q w := Pipeline.shareOf spec0 w
  owed _ := 0

variable (hO : Ok m) (c : Dev nD)

theorem A_eq (c : Dev nD) (w : Fin (cfgM m hO).W) : (dats m hO 0 c).A w = V m c (Pipeline.arrRef spec0 w) := by
  dsimp only [dats]

theorem after_0 (t : Fin (cfgM m hO).N) : (dats m hO 0 c).after 0 t = iblk m hO c 0 t := by dsimp only [dats]; try rfl
theorem after_1 (t : Fin (cfgM m hO).N) : (dats m hO 0 c).after 1 t = iblk m hO c 1 t := by dsimp only [dats]; try rfl
theorem after_2 (t : Fin (cfgM m hO).N) : (dats m hO 0 c).after 2 t = iblk m hO c 2 t := by dsimp only [dats]; try rfl
theorem after_3 (t : Fin (cfgM m hO).N) : (dats m hO 0 c).after 3 t = iblk m hO c 3 t := by dsimp only [dats]; try rfl
theorem after_4 (t : Fin (cfgM m hO).N) : (dats m hO 0 c).after 4 t = iblk m hO c 4 t := by dsimp only [dats]; try rfl
theorem after_5 (t : Fin (cfgM m hO).N) : (dats m hO 0 c).after 5 t = iblk m hO c 5 t := by dsimp only [dats]; try rfl
theorem after_6 (t : Fin (cfgM m hO).N) : (dats m hO 0 c).after 6 t = iblk m hO c 6 t := by dsimp only [dats]; try rfl
theorem after_7 (t : Fin (cfgM m hO).N) : (dats m hO 0 c).after 7 t = stored m hO c t := by dsimp only [dats]; try rfl

/-! An input's staging buffer holds its block at every point, whether fetched there or kept. -/

theorem before_0 (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (t : Fin (cfgM m hO).N) (d) : (dats m hO 0 c).before 4 t d = iblk m hO c 4 t :=
  ((dats m hO 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (t : Fin (cfgM m hO).N) (d) : (dats m hO 0 c).before 5 t d = iblk m hO c 5 t :=
  ((dats m hO 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (t : Fin (cfgM m hO).N) (d) : (dats m hO 0 c).before 6 t d = iblk m hO c 6 t :=
  ((dats m hO 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- What the body is called with at point `t`, and what it must return. -/
def bodyPre (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d))
    ∗ (∃ d, owns (c : Thread nD τ) (stg5 m hO t) fullShare ((dats m hO 0 c).before 5 t d))
    ∗ (∃ d, owns (c : Thread nD τ) (stg6 m hO t) fullShare ((dats m hO 0 c).before 6 t d))
    ∗ (∃ d, owns (c : Thread nD τ) (stg7 m hO t) fullShare ((dats m hO 0 c).before 7 t d)))
def bodyPost (t : Fin (cfgM m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t)
    ∗ owns (c : Thread nD τ) (stg5 m hO t) fullShare ((dats m hO 0 c).after 5 t)
    ∗ owns (c : Thread nD τ) (stg6 m hO t) fullShare ((dats m hO 0 c).after 6 t)
    ∗ owns (c : Thread nD τ) (stg7 m hO t) fullShare ((dats m hO 0 c).after 7 t))

/-- The body at point `t` on the blocks, in either case. -/
theorem body_stores (hF : Flags m) (t : Fin (cfgM m hO).N) (K : PUnit → sProp 𝕄) :
    iprop(held c (stg0 m hO t) (stg1 m hO t) (stg2 m hO t) (stg3 m hO t) (stg4 m hO t) (stg5 m hO t) (stg6 m hO t)
          (iblk m hO c 0 t) (iblk m hO c 1 t) (iblk m hO c 2 t) (iblk m hO c 3 t) (iblk m hO c 4 t) (iblk m hO c 5 t) (iblk m hO c 6 t) (tbl m 0) (tbl m 1) (tbl m 2) (tbl m 3)
        ∗ (∃ d, owns (c : Thread nD τ) (stg7 m hO t) fullShare d)
        ∗ (iprop(held c (stg0 m hO t) (stg1 m hO t) (stg2 m hO t) (stg3 m hO t) (stg4 m hO t) (stg5 m hO t) (stg6 m hO t)
            (iblk m hO c 0 t) (iblk m hO c 1 t) (iblk m hO c 2 t) (iblk m hO c 3 t) (iblk m hO c 4 t) (iblk m hO c 5 t) (iblk m hO c 6 t) (tbl m 0) (tbl m 1) (tbl m 2) (tbl m 3)
            ∗ owns (c : Thread nD τ) (stg7 m hO t) fullShare (stored m hO c t)) -∗ K ⟨⟩))
      ⊢ wp frame (wpE (defs₀ (F := F)) Variants.none c none) Set.univ (bodyAt m hO t) K := by
  have e2 : used2 c (grid0.coords t) (tbl m 3) = used1 c (grid0.coords t) (tbl m 3) := rfl
  unfold stored
  rcases hF c (grid0.coords t) with h | h
  · rw [if_neg (by rw [h]; decide)]
    exact body_unused c (grid0.coords t) _ _ _ _ _ _ _ _ _ _ _ _ _ _ _ _ _ _ _ _ _ _ _ _ _ _ _
      (by rw [h]; decide) (by rw [e2, h]; decide) Set.univ K
  · rw [if_pos h]
    exact body_used c (grid0.coords t) _ _ _ _ _ _ _ _ _ _ _ _ _ _ _ _ _ _ _ _ _ _ _ _ _ _ _
      (by rw [h]; decide) (by rw [e2, h]; decide) Set.univ K

set_option maxHeartbeats 1600000 in
theorem sound_body (hF : Flags m) (t : Fin (cfgM m hO).N) :
    bodyPre m hO c t ⊢ wp frame (wpE (defs₀ (F := F)) Variants.none c none) Set.univ (bodyAt m hO t)
      (fun _ => bodyPost m hO c t) := by
  unfold bodyPre bodyPost
  simp only [before_0, before_1, before_2, before_3, before_4, before_5, before_6]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_7]
  rw [show (dats m hO 0 c).Φ t.castSucc = iprop(Pipeline.ΦA spec0 c ∗ Pipeline.ΦT pre0 (tbl m) c) from rfl, tables_eq]
  refine .trans ?_ (body_stores m hO c hF t _)
  unfold held
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  isplitl [H0 H1 H2 H3 H4 H5 H6 HT0 HT1 HT2 HT3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HT2]; · iexact HT2
    iexact HT3
  isplitl [H7]; · iexists _; iexact H7
  iintro ⟨⟨H0, H1, H2, H3, H4, H5, H6, HT0, HT1, HT2, HT3⟩, H7⟩
  isplitl [HΦ HT0 HT1 HT2 HT3]
  · isplitl [HΦ]; · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfgM m hO).N) :
    defs₀ (F := F) .tc (cfgM m hO).body ((cfgM m hO).bodyArgs t ((cfgM m hO).slots t)) = bodyAt m hO t := by
  unfold defs₀; rw [Defs.onTc_tc]

/-- The word the schedule looks up is the word the body reads. -/
theorem looked_up (i : grid0.Coords) :
    (tbl m).atD (Val := Elt F) (3 : Fin 4) (k0_off1 i) = used1 c i (tbl m 3) := by
  have hin : ∀ a : Fin 1, k0_off1 i a + 1 ≤ S216.size a := fun a => by
    have h := k0_off1_inb i a; revert h; revert a; exact fun | 0 => fun h => h
  refine (dif_pos hin).trans ?_
  exact congrArg (tbl m 3) (funext fun a => by
    obtain rfl : a = (⟨0, Nat.one_pos⟩ : Fin 1) := Subsingleton.elim (α := Fin 1) _ _
    exact Fin.ext rfl)

/-- The body stores into the result window at every point. -/
theorem idle_7 (hF : Flags m) (t : Fin (cfgM m hO).N) :
    (cfgM m hO).idle 7 ((cfgM m hO).grid.coords t) = false := by
  show (!(k0_cond1 ((tbl m).atD (Val := Elt F) (3 : Fin 4) (k0_off1 (grid0.coords t))) == 1#1)
    && !(k0_cond2 ((tbl m).atD (Val := Elt F) (3 : Fin 4) (k0_off1 (grid0.coords t))) == 1#1)) = false
  rw [looked_up m 0]
  rcases hF 0 (grid0.coords t) with h | h <;> rw [h] <;> decide

set_option maxHeartbeats 1000000 in
theorem body_obligation (hF : Flags m) :
    BodyObligation (dats (F := F) m hO 0 c) (defs₀ (F := F)) Variants.none () Set.univ := fun t => by
  rw [bigSep_W0, bigSep_W0, defs₀_row m hO]
  refine triple_restated (sound_body m hO c hF t) rfl .rfl fun _ => ?_
  have e : idle0 (tbl m) 7 ((pcfg0.gridAt (tbl m)).coords t) = false := idle_7 m hO hF t
  simp only [e]
  exact BIBase.Entails.rfl

set_option backward.isDefEq.respectTransparency.types false in
/-- The run, with every semaphore counter at zero at the end. -/
theorem run_quiescent (hF : Flags m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c hF).loose) (hq := fun _ _ _ => rfl)
    (howed := fun _ _ => rfl) (V := V m) (hmain := hmain m Variants.none) (hA := A_eq m hO) (hpf := V_pre m)
    (hΦ := fun _ _ => rfl)

/-- The argument arrays end as they began, and every counter is at zero. -/
theorem frame (hO : Ok m) (hF : Flags m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (by decide : main_arg0 ∈ Pipeline.restRefs sig spec0)).trans (V_of_unwritten m c _ (by decide) (by decide) (by decide) (by decide)),
      ((h.1 c).2 main_arg1 (by decide : main_arg1 ∈ Pipeline.restRefs sig spec0)).trans (V_of_unwritten m c _ (by decide) (by decide) (by decide) (by decide)),
      ((h.1 c).2 main_arg2 (by decide : main_arg2 ∈ Pipeline.restRefs sig spec0)).trans (V_of_unwritten m c _ (by decide) (by decide) (by decide) (by decide)),
      ((h.1 c).2 main_arg3 (by decide : main_arg3 ∈ Pipeline.restRefs sig spec0)).trans (V_of_unwritten m c _ (by decide) (by decide) (by decide) (by decide)),
      ((h.1 c).2 main_arg4 (by decide : main_arg4 ∈ Pipeline.restRefs sig spec0)).trans (V_of_unwritten m c _ (by decide) (by decide) (by decide) (by decide)),
      ((h.1 c).2 main_arg5 (by decide : main_arg5 ∈ Pipeline.restRefs sig spec0)).trans (V_of_unwritten m c _ (by decide) (by decide) (by decide) (by decide)),
      ((h.1 c).2 main_arg6 (by decide : main_arg6 ∈ Pipeline.restRefs sig spec0)).trans (V_of_unwritten m c _ (by decide) (by decide) (by decide) (by decide)),
      ((h.1 c).2 main_arg7 (by decide : main_arg7 ∈ Pipeline.restRefs sig spec0)).trans (V_of_unwritten m c _ (by decide) (by decide) (by decide) (by decide))⟩, h.2⟩)
    (run_quiescent m ρ hO hF)

end Cert.Kernel2Ideal.Experts

end
-- ==== Proof.Experts.Pre.lean ====
module

public import proofs.«01_k».proof.Pre_routed_tiles
public import proofs.«01_k».proof.Proof.Gen.Pre_routed_tiles
public import Idealize.ShloMosaic.Lib.ReduceAll

/-! # The precondition of the experts call, word by word

The predicate's five booleans say: each expert number is below 16, each tile number below 216, each
flag is 0 or 1, and a tile in use is its own. -/

@[expose] public section

noncomputable section

namespace Cert.Pre_routed_tiles.Words

open Idealize.ShloMosaic

variable {F : FTy → Type} [FloatOps F]
variable (lo hi blk used : IVec S216 32) (xs : FVec F S55296x2048 .f32) (wg wu : FVec F S16x2048x1024 .f32)
  (wd : FVec F S16x1024x2048 .f32)

theorem of_and (a b : BitVec 1) (h : IntOp.andi a b = 1#1) : a = 1#1 ∧ b = 1#1 := by revert a b; decide
theorem of_or (a b : BitVec 1) (h : IntOp.ori a b = 1#1) : a = 1#1 ∨ b = 1#1 := by revert a b; decide

theorem of_bool (p : Bool) (h : BitVec.ofBool p = 1#1) : p = true := by cases p <;> simp_all

theorem eq_of_cmp (a b : BitVec 32) (h : IntOp.cmpi .eq a b = 1#1) : a = b := by
  exact eq_of_beq (of_bool _ h)

/-- A word at least 0 and below a small bound, read signed, is below it read unsigned. -/
theorem below_of_cmp (n : ℕ) (hn : n < 2 ^ 31) (a : BitVec 32) (h0 : IntOp.cmpi .sge a 0#32 = 1#1)
    (h1 : IntOp.cmpi .slt a (BitVec.ofNat 32 n) = 1#1) : a.toNat < n := by
  have e0 : (0 : ℤ) ≤ a.toInt := by simpa [BitVec.sle] using of_bool _ h0
  have e1 : a.toInt < (BitVec.ofNat 32 n).toInt := by simpa [BitVec.slt] using of_bool _ h1
  rw [BitVec.toInt_eq_toNat_cond] at e0 e1
  rw [BitVec.toInt_eq_toNat_cond, BitVec.toNat_ofNat] at e1
  have := a.isLt
  split_ifs at e0 e1 <;> omega

variable {lo hi blk used}

theorem lo_lt (h : (fn (F := F) lo hi blk used xs wg wu wd).1 = fun _ => 1#1) (j : S216.Idx) : (lo j).toNat < 16 := by
  have e := congrFun h (fun a => a.elim0)
  unfold fn fn_part1 at e
  dsimp only at e
  obtain ⟨h0, h1⟩ := of_and _ _ (Host.reduce_andi_all _ _ _ _ _ e j)
  exact below_of_cmp 16 (by decide) _ h0 h1

theorem hi_lt (h : (fn (F := F) lo hi blk used xs wg wu wd).2.1 = fun _ => 1#1) (j : S216.Idx) : (hi j).toNat < 16 := by
  have e := congrFun h (fun a => a.elim0)
  unfold fn fn_part1 at e
  dsimp only at e
  obtain ⟨h0, h1⟩ := of_and _ _ (Host.reduce_andi_all _ _ _ _ _ e j)
  exact below_of_cmp 16 (by decide) _ h0 h1

theorem blk_lt (h : (fn (F := F) lo hi blk used xs wg wu wd).2.2.1 = fun _ => 1#1) (j : S216.Idx) : (blk j).toNat < 216 := by
  have e := congrFun h (fun a => a.elim0)
  unfold fn fn_part1 at e
  dsimp only at e
  obtain ⟨h0, h1⟩ := of_and _ _ (Host.reduce_andi_all _ _ _ _ _ e j)
  exact below_of_cmp 216 (by decide) _ h0 h1

theorem used_flag (h : (fn (F := F) lo hi blk used xs wg wu wd).2.2.2.1 = fun _ => 1#1) (j : S216.Idx) :
    used j = 0#32 ∨ used j = 1#32 := by
  have e := congrFun h (fun a => a.elim0)
  unfold fn fn_part1 at e
  dsimp only at e
  exact (of_or _ _ (Host.reduce_andi_all _ _ _ _ _ e j)).imp (eq_of_cmp _ _) (eq_of_cmp _ _)

theorem own_tile (h : (fn (F := F) lo hi blk used xs wg wu wd).2.2.2.2 = fun _ => 1#1) (j : S216.Idx) :
    used j = 0#32 ∨ blk j = BitVec.ofNat 32 (j 0).val := by
  have e := congrFun h (fun a => a.elim0)
  unfold fn fn_part1 at e
  dsimp only at e
  exact (of_or _ _ (Host.reduce_andi_all _ _ _ _ _ e j)).imp (eq_of_cmp _ _) (eq_of_cmp _ _)

end Cert.Pre_routed_tiles.Words

end
-- ==== Proof.Experts.Tables.lean ====
module

public import proofs.«01_k».proof.Proof.Experts.Run
public import proofs.«01_k».proof.Proof.Experts.Pre

/-! # The experts call: its tables, word by word

The tables are arguments, so what the call reads from them are the arguments' words; and words in the
ranges routing draws them from keep every block inside its array. -/

@[expose] public section

set_option maxRecDepth 16384

noncomputable section

namespace Cert.Kernel2Ideal.Experts

open Cert.Kernel2Ideal.Gen
open Idealize.ShloMosaic Idealize.ShloMosaic.TcCoe

variable {F : FTy → Type} [FloatOps F]
variable (m : (ℓ : Loc nD τ sig) → Buf (Elt F) ℓ)

/-- The four tables' words as launched. -/
abbrev lo (c : Dev nD) : IVec S216 32 := m ((c : Thread nD τ).loc main_arg0)
abbrev hi (c : Dev nD) : IVec S216 32 := m ((c : Thread nD τ).loc main_arg1)
abbrev blk (c : Dev nD) : IVec S216 32 := m ((c : Thread nD τ).loc main_arg2)
abbrev used (c : Dev nD) : IVec S216 32 := m ((c : Thread nD τ).loc main_arg3)

/-- The words are ones routing can make. -/
structure Routed : Prop where
  lo_lt : ∀ c j, (lo m c j).toNat < 16
  hi_lt : ∀ c j, (hi m c j).toNat < 16
  blk_lt : ∀ c j, (blk m c j).toNat < 216
  flag : ∀ c j, used m c j = 0#32 ∨ used m c j = 1#32
  own : ∀ c (j : S216.Idx), used m c j = 0#32 ∨ blk m c j = BitVec.ofNat 32 (j 0).val

theorem tbl_0 (c : Dev nD) : tbl m 0 = lo m c := by
  rw [← V_pre m c 0]; exact V_of_unwritten m c main_arg0 (by decide) (by decide) (by decide) (by decide)
theorem tbl_1 (c : Dev nD) : tbl m 1 = hi m c := by
  rw [← V_pre m c 1]; exact V_of_unwritten m c main_arg1 (by decide) (by decide) (by decide) (by decide)
theorem tbl_2 (c : Dev nD) : tbl m 2 = blk m c := by
  rw [← V_pre m c 2]; exact V_of_unwritten m c main_arg2 (by decide) (by decide) (by decide) (by decide)
theorem tbl_3 (c : Dev nD) : tbl m 3 = used m c := by
  rw [← V_pre m c 3]; exact V_of_unwritten m c main_arg3 (by decide) (by decide) (by decide) (by decide)

/-- The word of each table a grid point reads. -/
def word (i : grid0.Coords) : S216.Idx :=
  (Rect.unit (s := S216) (k0_off1 i) S1.size (k0_off1_inb i)).emb (Shape.Idx.first (numel1_S1.symm ▸ Nat.one_pos))

theorem word_val (i : grid0.Coords) : (word i 0).val = (i 0).val := by
  refine Eq.trans ?_ (congrFun (k0_off1_eq i) 0)
  rfl

theorem used1_eq (c : Dev nD) (i : grid0.Coords) : used1 c i (tbl m 3) = used m c (word i) := by
  rw [tbl_3 m c]; rfl

theorem index_0 (c : Dev nD) (i : grid0.Coords) :
    cc0_transform_0 k0_off1_inb numel1_S1 (tbl m) i = ![(blk m c (word i)).toNat, 0] := by
  rw [← tbl_2 m c]; rfl
theorem index_1 (c : Dev nD) (i : grid0.Coords) :
    cc0_transform_1 k0_off1_inb numel1_S1 (tbl m) i = ![(lo m c (word i)).toNat, 0, 0] := by
  rw [← tbl_0 m c]; rfl
theorem index_2 (c : Dev nD) (i : grid0.Coords) :
    cc0_transform_2 k0_off1_inb numel1_S1 (tbl m) i = ![(lo m c (word i)).toNat, 0, 0] := by
  rw [← tbl_0 m c]; rfl
theorem index_3 (c : Dev nD) (i : grid0.Coords) :
    cc0_transform_3 k0_off1_inb numel1_S1 (tbl m) i = ![(lo m c (word i)).toNat, 0, 0] := by
  rw [← tbl_0 m c]; rfl
theorem index_4 (c : Dev nD) (i : grid0.Coords) :
    cc0_transform_4 k0_off1_inb numel1_S1 (tbl m) i = ![(hi m c (word i)).toNat, 0, 0] := by
  rw [← tbl_1 m c]; rfl
theorem index_5 (c : Dev nD) (i : grid0.Coords) :
    cc0_transform_5 k0_off1_inb numel1_S1 (tbl m) i = ![(hi m c (word i)).toNat, 0, 0] := by
  rw [← tbl_1 m c]; rfl
theorem index_6 (c : Dev nD) (i : grid0.Coords) :
    cc0_transform_6 k0_off1_inb numel1_S1 (tbl m) i = ![(hi m c (word i)).toNat, 0, 0] := by
  rw [← tbl_1 m c]; rfl

variable {m}

/-- A block of one expert's matrices lies inside their array. -/
theorem expert_fits (ix : Fin 3 → ℕ) (p q n : ℕ) (hn : n < 16) (e : ix = ![n, 0, 0]) :
    ∀ a, (ix a + 1) * (![1, p, q] : Fin 3 → ℕ) a ≤ (![16, p, q] : Fin 3 → ℕ) a := by
  subst e
  intro a
  fin_cases a
  · show (n + 1) * 1 ≤ 16; omega
  · show (0 + 1) * p ≤ p; omega
  · show (0 + 1) * q ≤ q; omega

theorem ok_of_routed (h : Routed m) : Ok m := by
  refine ⟨fun i => ⟨?_, .inr (Affine.block_words_dvd (by decide) (by decide))⟩,
    fun i => ⟨?_, .inr (Affine.block_words_dvd (by decide) (by decide))⟩,
    fun i => ⟨?_, .inr (Affine.block_words_dvd (by decide) (by decide))⟩,
    fun i => ⟨?_, .inr (Affine.block_words_dvd (by decide) (by decide))⟩,
    fun i => ⟨?_, .inr (Affine.block_words_dvd (by decide) (by decide))⟩,
    fun i => ⟨?_, .inr (Affine.block_words_dvd (by decide) (by decide))⟩,
    fun i => ⟨?_, .inr (Affine.block_words_dvd (by decide) (by decide))⟩⟩
  · rw [index_0 m 0]
    have := h.blk_lt 0 (word i)
    intro a
    fin_cases a
    · show ((blk m 0 (word i)).toNat + 1) * 256 ≤ 55296; omega
    · exact Nat.le_refl _
  · exact expert_fits _ 2048 1024 _ (h.lo_lt 0 (word i)) (index_1 m 0 i)
  · exact expert_fits _ 2048 1024 _ (h.lo_lt 0 (word i)) (index_2 m 0 i)
  · exact expert_fits _ 1024 2048 _ (h.lo_lt 0 (word i)) (index_3 m 0 i)
  · exact expert_fits _ 2048 1024 _ (h.hi_lt 0 (word i)) (index_4 m 0 i)
  · exact expert_fits _ 2048 1024 _ (h.hi_lt 0 (word i)) (index_5 m 0 i)
  · exact expert_fits _ 1024 2048 _ (h.hi_lt 0 (word i)) (index_6 m 0 i)

theorem flags_of_routed (h : Routed m) : Flags m := fun c i => by
  rw [used1_eq]; exact h.flag c (word i)

end Cert.Kernel2Ideal.Experts

end
-- ==== Proof.Experts.Frames.lean ====
/- The experts call's frames at `Ideal`: the program's and the reference's. -/
module

public import proofs.«01_k».proof.Defs
public import proofs.«01_k».proof.Proof.Experts.Tables
public import proofs.«01_k».proof.Proof.Gen.Reference2Ideal
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.Proof.Experts

open Cert.Kernel2Ideal.Experts Cert.Pre_routed_tiles.Words

/-- The precondition, read word by word. -/
theorem routed {m : (ℓ : Loc Cert.Kernel2Ideal.nD Cert.Kernel2Ideal.τ Cert.Kernel2Ideal.sig) → Buf (Elt Ideal) ℓ}
    (h : Cert.Pre_Kernel2Ideal m) : Routed m where
  lo_lt c j := lo_lt _ _ _ _ (h c).1 j
  hi_lt c j := hi_lt _ _ _ _ (h c).2.1 j
  blk_lt c j := blk_lt _ _ _ _ (h c).2.2.1 j
  flag c j := used_flag _ _ _ _ (h c).2.2.2.1 j
  own c j := own_tile _ _ _ _ (h c).2.2.2.2 j

theorem frame_ideal : Cert.quiescent_Kernel2Ideal := fun m ρ h =>
  Cert.Kernel2Ideal.Experts.frame m ρ (ok_of_routed (routed h)) (flags_of_routed (routed h))

theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_reference_pre : Cert.quiescent_Reference2Ideal_pre_routed_tiles := fun m ρ _ => frame_reference m ρ trivial

end Cert.Proof.Experts

end
-- ==== Proof.Experts.Mlp.lean ====
/- What both programs compute of one row: each expert's gated feed-forward, read at one element. -/
module

public import Idealize.ShloMosaic.Lib.Pointwise
public import proofs.«01_k».proof.Reference2Ideal

@[expose] public section

set_option maxRecDepth 16384

noncomputable section

namespace Cert.Proof.Experts

open Idealize.ShloMosaic Cert.Reference2Ideal

/-- The sigmoid-weighted gate, times the other branch. -/
def gated (a u : EReal) : EReal := a * Ideal.div 1 (1 + Ideal.exp (-a)) * u

/-- Row `t` against expert `e`'s column `f`. -/
def proj (x : Vec Ideal S55296x2048 .f32) (w : Vec Ideal S16x2048x1024 .f32) (t : Fin 55296) (e : Fin 16) (f : Fin 1024) : EReal :=
  ∑ k : Fin 2048, x (ix2 t k) * w (ix3 e k f)

/-- Expert `e`'s feed-forward of row `t`, at lane `d`. -/
def expert (x : Vec Ideal S55296x2048 .f32) (wg wu : Vec Ideal S16x2048x1024 .f32) (wd : Vec Ideal S16x1024x2048 .f32)
    (t : Fin 55296) (e : Fin 16) (d : Fin 2048) : EReal :=
  ∑ f : Fin 1024, gated (proj x wg t e f) (proj x wu t e f) * wd (ix3 e f d)

/-- The tile that row `t` lies in, and expert number `w`. -/
abbrev tile (t : Fin 55296) : S216.Idx := ix1 ⟨t.val / 256, by omega⟩
abbrev pick (w : BitVec 32) : Fin 16 := ⟨w.toNat % 16, Nat.mod_lt _ (by norm_num)⟩

/-- Row `t` of the result at lane `d`: zero where the tile is not in use, else the low expert's lanes
    and then the high expert's. -/
def routedRow (lo hi used : IVec S216 32) (x : Vec Ideal S55296x2048 .f32) (wg wu : Vec Ideal S16x2048x1024 .f32)
    (wd : Vec Ideal S16x1024x2048 .f32) (t : Fin 55296) (d : Fin 4096) : EReal :=
  if used (tile t) = 1#32 then
    if h : d.val < 2048 then expert x wg wu wd t (pick (lo (tile t))) ⟨d.val, h⟩
    else expert x wg wu wd t (pick (hi (tile t))) ⟨d.val - 2048, by omega⟩
  else 0

end Cert.Proof.Experts

end
-- ==== Proof.Experts.Payload.lean ====
/- What the body stores for a tile in use, read at an element, in terms of its blocks. -/
module

public import proofs.«01_k».proof.Proof.Experts.Body
public import proofs.«01_k».proof.Proof.Experts.Mlp

@[expose] public section

set_option maxRecDepth 16384

noncomputable section

namespace Cert.Kernel2Ideal.Experts

open Cert.Kernel2Ideal.Gen Cert.Proof.Experts
open Idealize.ShloMosaic

/-- A row of a tile against a column of one matrix. -/
def blockProj (x : Vec Ideal S256x2048 .bf16) (w : Vec Ideal S1x2048x1024 .bf16) (r : Fin 256) (f : Fin 1024) : EReal :=
  ∑ k : Fin 2048, x (ix2 r k) * w (ix3 0 k f)

/-- One expert's feed-forward of a row of a tile. -/
def blockExpert (x : Vec Ideal S256x2048 .bf16) (wg wu : Vec Ideal S1x2048x1024 .bf16) (wd : Vec Ideal S1x1024x2048 .bf16)
    (r : Fin 256) (d : Fin 2048) : EReal :=
  ∑ f : Fin 1024, gated (blockProj x wg r f) (blockProj x wu r f) * wd (ix3 0 f d)

variable (x : Vec Ideal S256x2048 .bf16)

/-- The two halves of a tile, put side by side, are the tile. -/
theorem halves (r : Fin 256) (k : Fin 2048) : k0_pay3 (F := Ideal) (leftHalf x) (rightHalf x) (ix2 r k) = x (ix2 r k) := by
  unfold leftHalf rightHalf
  pointwise [k0_pay3]
  split <;> congr 2 <;> apply Fin.ext <;> simp <;> omega

theorem gate_eq (w : Vec Ideal S1x2048x1024 .bf16) (r : Fin 256) (f : Fin 1024) :
    k0_pay5 (F := Ideal) (leftHalf x) (rightHalf x) w (ix2 r f) = blockProj x w r f := by
  unfold k0_pay5
  pointwise
  simp only [halves]
  rfl

theorem up_eq (w : Vec Ideal S1x2048x1024 .bf16) (r : Fin 256) (f : Fin 1024) :
    k0_pay6 (F := Ideal) (leftHalf x) (rightHalf x) w (ix2 r f) = blockProj x w r f := by
  unfold k0_pay6
  pointwise
  simp only [halves]
  rfl

theorem low_eq (wg wu : Vec Ideal S1x2048x1024 .bf16) (wd : Vec Ideal S1x1024x2048 .bf16) (r : Fin 256) (d : Fin 2048) :
    k0_pay4 (F := Ideal) (leftHalf x) (rightHalf x) wg wu wd (ix2 r d) = blockExpert x wg wu wd r d := by
  unfold k0_pay4
  pointwise
  simp only [halves, zero_sub]
  rfl

/-- The stored tile: the low expert's lanes, then the high expert's. -/
theorem both_eq (x1 x2 : Vec Ideal S1x2048x1024 .bf16) (x3 : Vec Ideal S1x1024x2048 .bf16)
    (x4 x5 : Vec Ideal S1x2048x1024 .bf16) (x6 : Vec Ideal S1x1024x2048 .bf16) (r : Fin 256) (d : Fin 4096) :
    both (F := Ideal) x x1 x2 x3 x4 x5 x6 (ix2 r d)
      = if h : d.val < 2048 then blockExpert x x1 x2 x3 r ⟨d.val, h⟩
        else blockExpert x x4 x5 x6 r ⟨d.val - 2048, by omega⟩ := by
  unfold both k0_pay1
  pointwise
  simp only [gate_eq, up_eq, low_eq, zero_sub]
  rfl

/-- A tile not in use is zero. -/
theorem unused_eq (r : Fin 256) (d : Fin 4096) : k0_pay2 (F := Ideal) (ix2 r d) = 0 := by
  pointwise [k0_pay2]
  split <;> rfl

end Cert.Kernel2Ideal.Experts

end
-- ==== Proof.Experts.Blocks.lean ====
/- The arrays the experts call reads are the arguments, and the blocks cut from them at the tables' words. -/
module

public import proofs.«01_k».proof.Proof.Experts.Tables
public import proofs.«01_k».proof.Proof.Experts.Payload
public import Idealize.ShloMosaic.Lib.Claim
public import Idealize.ShloMosaic.Lib.Pipeline.ValueKit

@[expose] public section

set_option maxRecDepth 16384

noncomputable section

namespace Cert.Kernel2Ideal.Experts

open Cert.Kernel2Ideal.Gen Cert.Proof.Experts
open Idealize.ShloMosaic Idealize.ShloMosaic.TcCoe

variable (m : (ℓ : Loc nD τ sig) → Buf (Elt Ideal) ℓ) (c : Dev nD)

/-- The rows and the experts' matrices of device `c`. -/
abbrev rows : Vec Ideal S55296x2048 .f32 := m ((c : Thread nD τ).loc main_arg4)
abbrev gates : Vec Ideal S16x2048x1024 .f32 := m ((c : Thread nD τ).loc main_arg5)
abbrev ups : Vec Ideal S16x2048x1024 .f32 := m ((c : Thread nD τ).loc main_arg6)
abbrev downs : Vec Ideal S16x1024x2048 .f32 := m ((c : Thread nD τ).loc main_arg7)

theorem V_rows : (V m c main_v0 : Vec Ideal S55296x2048 .bf16) = truncf (F := Ideal) .bf16 (rows m c) bitsLt_bf16_f32 := by
  unfold V
  simp only [hostOps0, List.flatten_cons, List.flatten_nil, List.append_nil, List.cons_append, List.nil_append]
  after_results
theorem V_gates : (V m c main_v1 : Vec Ideal S16x2048x1024 .bf16) = truncf (F := Ideal) .bf16 (gates m c) bitsLt_bf16_f32 := by
  unfold V
  simp only [hostOps0, List.flatten_cons, List.flatten_nil, List.append_nil, List.cons_append, List.nil_append]
  after_results
theorem V_ups : (V m c main_v2 : Vec Ideal S16x2048x1024 .bf16) = truncf (F := Ideal) .bf16 (ups m c) bitsLt_bf16_f32 := by
  unfold V
  simp only [hostOps0, List.flatten_cons, List.flatten_nil, List.append_nil, List.cons_append, List.nil_append]
  after_results
theorem V_downs : (V m c main_v3 : Vec Ideal S16x1024x2048 .bf16) = truncf (F := Ideal) .bf16 (downs m c) bitsLt_bf16_f32 := by
  unfold V
  simp only [hostOps0, List.flatten_cons, List.flatten_nil, List.append_nil, List.cons_append, List.nil_append]
  after_results

theorem row_at (j : S55296x2048.Idx) : (V m c main_v0 : Vec Ideal S55296x2048 .bf16) j = rows m c j := by
  rw [V_rows]; pointwise
theorem gate_at (j : S16x2048x1024.Idx) : (V m c main_v1 : Vec Ideal S16x2048x1024 .bf16) j = gates m c j := by
  rw [V_gates]; pointwise
theorem up_at (j : S16x2048x1024.Idx) : (V m c main_v2 : Vec Ideal S16x2048x1024 .bf16) j = ups m c j := by
  rw [V_ups]; pointwise
theorem down_at (j : S16x1024x2048.Idx) : (V m c main_v3 : Vec Ideal S16x1024x2048 .bf16) j = downs m c j := by
  rw [V_downs]; pointwise

variable (hO : Ok m) (h : Routed m) (t : Fin (cfgM m hO).N)

/-- The word of a point's tables. -/
abbrev tileWord : S216.Idx := word (grid0.coords t)

theorem coords_val : ∀ t : Fin grid0.N, (grid0.coords t 0).val = t.val := by decide +kernel

theorem tileWord_eq : tileWord m hO t = ix1 ⟨t.val, t.isLt⟩ := by
  funext a
  apply Fin.ext
  match a with
  | 0 => exact (word_val (grid0.coords t)).trans (coords_val t)

theorem idx_0 : ((cfgM m hO).win 0).index t = ![(blk m c (tileWord m hO t)).toNat, 0] := index_0 m c _
theorem idx_1 : ((cfgM m hO).win 1).index t = ![(lo m c (tileWord m hO t)).toNat, 0, 0] := index_1 m c _
theorem idx_2 : ((cfgM m hO).win 2).index t = ![(lo m c (tileWord m hO t)).toNat, 0, 0] := index_2 m c _
theorem idx_3 : ((cfgM m hO).win 3).index t = ![(lo m c (tileWord m hO t)).toNat, 0, 0] := index_3 m c _
theorem idx_4 : ((cfgM m hO).win 4).index t = ![(hi m c (tileWord m hO t)).toNat, 0, 0] := index_4 m c _
theorem idx_5 : ((cfgM m hO).win 5).index t = ![(hi m c (tileWord m hO t)).toNat, 0, 0] := index_5 m c _
theorem idx_6 : ((cfgM m hO).win 6).index t = ![(hi m c (tileWord m hO t)).toNat, 0, 0] := index_6 m c _
theorem idx_7 : ((cfgM m hO).win 7).index t = ![t.val, 0] :=
  (by decide +kernel : ∀ t : Fin grid0.N, cc0_transform_7 (grid0.coords t) = ![t.val, 0]) t

include h in
theorem block_0 (r : Fin 256) (k : Fin 2048) : iblk m hO c 0 t (ix2 r k)
    = rows m c (ix2 ⟨256 * (blk m c (tileWord m hO t)).toNat + r.val, by have := h.blk_lt c (tileWord m hO t); omega⟩ k) := by
  rw [← row_at]; blk_ext [iblk, idx_0 m c hO t]

include h in
theorem block_1 (k : Fin 2048) (f : Fin 1024) : iblk m hO c 1 t (ix3 0 k f)
    = gates m c (ix3 ⟨(lo m c (tileWord m hO t)).toNat, h.lo_lt c _⟩ k f) := by
  rw [← gate_at]; blk_ext [iblk, idx_1 m c hO t]
include h in
theorem block_2 (k : Fin 2048) (f : Fin 1024) : iblk m hO c 2 t (ix3 0 k f)
    = ups m c (ix3 ⟨(lo m c (tileWord m hO t)).toNat, h.lo_lt c _⟩ k f) := by
  rw [← up_at]; blk_ext [iblk, idx_2 m c hO t]
include h in
theorem block_3 (f : Fin 1024) (d : Fin 2048) : iblk m hO c 3 t (ix3 0 f d)
    = downs m c (ix3 ⟨(lo m c (tileWord m hO t)).toNat, h.lo_lt c _⟩ f d) := by
  rw [← down_at]; blk_ext [iblk, idx_3 m c hO t]
include h in
theorem block_4 (k : Fin 2048) (f : Fin 1024) : iblk m hO c 4 t (ix3 0 k f)
    = gates m c (ix3 ⟨(hi m c (tileWord m hO t)).toNat, h.hi_lt c _⟩ k f) := by
  rw [← gate_at]; blk_ext [iblk, idx_4 m c hO t]
include h in
theorem block_5 (k : Fin 2048) (f : Fin 1024) : iblk m hO c 5 t (ix3 0 k f)
    = ups m c (ix3 ⟨(hi m c (tileWord m hO t)).toNat, h.hi_lt c _⟩ k f) := by
  rw [← up_at]; blk_ext [iblk, idx_5 m c hO t]
include h in
theorem block_6 (f : Fin 1024) (d : Fin 2048) : iblk m hO c 6 t (ix3 0 f d)
    = downs m c (ix3 ⟨(hi m c (tileWord m hO t)).toNat, h.hi_lt c _⟩ f d) := by
  rw [← down_at]; blk_ext [iblk, idx_6 m c hO t]

end Cert.Kernel2Ideal.Experts

end
-- ==== Proof.Experts.Result.lean ====
/- The experts call's result array: each row's two experts, or zeros where its tile is not in use. -/
module

public import proofs.«01_k».proof.Proof.Experts.Blocks
public import Idealize.ShloMosaic.Lib.Pipeline.Covers

@[expose] public section

set_option maxRecDepth 16384

noncomputable section

namespace Cert.Kernel2Ideal.Experts

open Cert.Kernel2Ideal.Gen Cert.Proof.Experts
open Idealize.ShloMosaic Idealize.ShloMosaic.TcCoe

variable (m : (ℓ : Loc nD τ sig) → Buf (Elt Ideal) ℓ) (c : Dev nD)

/-- What the result array holds. -/
def G : Vec Ideal S55296x4096 .bf16 := fun x =>
  routedRow (lo m c) (hi m c) (used m c) (rows m c) (gates m c) (ups m c) (downs m c) (x 0) (x 1)

variable (hO : Ok m) (h : Routed m) (t : Fin (cfgM m hO).N)

theorem lt_points : t.val < 216 := t.isLt

/-- Row `r` of the tile that point `t` writes. -/
abbrev row (r : Fin 256) : Fin 55296 := ⟨256 * t.val + r.val, by have := lt_points m hO t; omega⟩

theorem tile_row (r : Fin 256) : tile (row m hO t r) = tileWord m hO t := by
  rw [tileWord_eq]
  unfold tile
  congr 1
  apply Fin.ext
  show (256 * t.val + r.val) / 256 = t.val
  omega

theorem pick_eq (w : BitVec 32) (hw : w.toNat < 16) : pick w = ⟨w.toNat, hw⟩ := Fin.ext (Nat.mod_eq_of_lt hw)

include h in
/-- A tile in use is read from its own rows. -/
theorem own_rows (hu : used m c (tileWord m hO t) = 1#32) (r : Fin 256) (k : Fin 2048) :
    iblk m hO c 0 t (ix2 r k) = rows m c (ix2 (row m hO t r) k) := by
  have hb : (blk m c (tileWord m hO t)).toNat = t.val := by
    rcases h.own c (tileWord m hO t) with h0 | h1
    · rw [hu] at h0; exact absurd h0 (by decide)
    · rw [h1, BitVec.toNat_ofNat, tileWord_eq]
      have := lt_points m hO t
      show t.val % 2 ^ 32 = t.val
      omega
  rw [block_0 m c hO h t]
  congr 2
  apply Fin.ext
  show 256 * (blk m c (tileWord m hO t)).toNat + r.val = 256 * t.val + r.val
  rw [hb]

include h in
theorem low_expert (hu : used m c (tileWord m hO t) = 1#32) (r : Fin 256) (d : Fin 2048) :
    blockExpert (iblk m hO c 0 t) (iblk m hO c 1 t) (iblk m hO c 2 t) (iblk m hO c 3 t) r d
      = expert (rows m c) (gates m c) (ups m c) (downs m c) (row m hO t r) (pick (lo m c (tileWord m hO t))) d := by
  rw [pick_eq _ (h.lo_lt c _)]
  unfold blockExpert expert blockProj proj
  simp only [own_rows m c hO h t hu, block_1 m c hO h t, block_2 m c hO h t, block_3 m c hO h t]

include h in
theorem high_expert (hu : used m c (tileWord m hO t) = 1#32) (r : Fin 256) (d : Fin 2048) :
    blockExpert (iblk m hO c 0 t) (iblk m hO c 4 t) (iblk m hO c 5 t) (iblk m hO c 6 t) r d
      = expert (rows m c) (gates m c) (ups m c) (downs m c) (row m hO t r) (pick (hi m c (tileWord m hO t))) d := by
  rw [pick_eq _ (h.hi_lt c _)]
  unfold blockExpert expert blockProj proj
  simp only [own_rows m c hO h t hu, block_4 m c hO h t, block_5 m c hO h t, block_6 m c hO h t]

include h in
theorem stored_eq (r : Fin 256) (d : Fin 4096) :
    stored m hO c t (ix2 r d) = G m c (ix2 (row m hO t r) d) := by
  show _ = routedRow _ _ _ _ _ _ _ (row m hO t r) d
  unfold stored routedRow
  rw [used1_eq, tile_row]
  by_cases hu : used m c (tileWord m hO t) = 1#32
  · rw [if_pos hu, if_pos hu]
    refine (both_eq _ _ _ _ _ _ _ r d).trans ?_
    split
    · exact low_expert m c hO h t hu r _
    · exact high_expert m c hO h t hu r _
  · rw [if_neg hu, if_neg hu]
    exact unused_eq r d

theorem block_of (β : (a : Fin 2) → Fin ((S55296x4096.size a + S256x4096.size a - 1) / S256x4096.size a)) :
    ∃ t : Fin grid0.N, ∀ a : Fin 2, (![t.val, 0] : Fin 2 → ℕ) a = (β a).val := by
  have h0 : (β 0).val < 216 := (β 0).isLt
  have h1 : (β 1).val < 1 := (β 1).isLt
  refine ⟨⟨(β 0).val, h0⟩, fun a => ?_⟩
  match a with
  | 0 => rfl
  | 1 => show 0 = (β 1).val; omega

/-- Every tile is written back where it is computed. -/
theorem flush_7 : ((cfgM m hO).win 7).flush t = true :=
  (fun t => (Pipeline.Window.flushOf_reads cc0_transform_7 reads0_7 hreads0_7 0 (by decide) (by decide)
    (Pipeline.Window.sep_of_coord cc0_transform_7 0 0 (fun _ => rfl) (by decide)) (P := 1) (m := 0) (by decide) rfl t).mpr (Nat.mod_one _) :
    ∀ t : Fin grid0.N, Pipeline.Window.flushOf grid0 true cc0_transform_7 t = true) t

/-- The written tiles make up the result. -/
theorem covers : ((cfgM m hO).win 7).Covers :=
  ((cfgM m hO).win 7).covers_of_index_surj rfl (fun a => (by decide : ∀ a : Fin 2, 0 < S256x4096.size a) a) fun β => by
    obtain ⟨t, ht⟩ := block_of β
    exact ⟨t, fun a => (congrFun (idx_7 m hO t) a).trans (ht a)⟩

theorem place (r : Fin 256) (d : Fin 4096) : ((((cfgM m hO).win 7).blk t).view.emb (ix2 r d : S256x4096.Idx) : S55296x4096.Idx)
    = ix2 (row m hO t r) d := by
  have ht := lt_points m hO t
  blk_ext [idx_7 m hO t]

include h in
theorem final_point (y : S256x4096.Idx) :
    stored m hO c t y = G m c ((((cfgM m hO).win 7).blk t).view.emb y) := by
  have hy : y = ix2 (y 0) (y 1) := by
    funext a
    match a with
    | 0 => rfl
    | 1 => rfl
  generalize (y 0 : Fin 256) = r at hy
  generalize (y 1 : Fin 4096) = d at hy
  subst hy
  exact (stored_eq m c hO h t r d).trans (congrArg (G m c) (place m hO t r d)).symm

include h in
theorem final : (dats m hO 0 c).arrAt 7 (cfgM m hO).N = G m c := by
  refine (dats m hO 0 c).arrAt_eq_of_covers 7 _ (covers m hO) fun t hf y => ?_
  blk_simp
  rw [after_7]
  exact final_point m c hO h t y

end Cert.Kernel2Ideal.Experts

end
-- ==== Proof.Experts.Reference.lean ====
/- The reference program's result at an element: its sums over one-hot gates keep one expert. -/
module

public import proofs.«01_k».proof.Proof.Experts.Mlp
public import proofs.«01_k».proof.Proof.Gen.Reference2Ideal.Read

@[expose] public section

set_option maxRecDepth 16384

noncomputable section

namespace Cert.Proof.Experts

open Idealize.ShloMosaic Cert.Reference2Ideal Cert.Reference2Ideal.Read

variable (lo hi used : IVec S216 32) (x : Vec Ideal S55296x2048 .f32) (wg wu : Vec Ideal S16x2048x1024 .f32)
  (wd : Vec Ideal S16x1024x2048 .f32)

theorem act_eq (t : Fin 55296) (e : Fin 16) (f : Fin 1024) :
    val_main_v3 (F := Ideal) x wg wu (ix3 t e f) = gated (proj x wg t e f) (proj x wu t e f) := by
  pointwise [val_main_v3, val_main_v2, val_main_v1, val_main_v0, val_main_call0_v5, val_main_call0_v4, val_main_call0_v3,
    val_main_call0_v2, val_main_call0_v1, val_main_call0_v0, val_main_call0_cst, val_main_call0_cst_0]
  rfl

theorem expert_eq (t : Fin 55296) (e : Fin 16) (d : Fin 2048) :
    val_main_v5 (F := Ideal) x wg wu wd (ix3 t e d) = expert x wg wu wd t e d := by
  pointwise [val_main_v5, val_main_v4]
  unfold expert
  refine Finset.sum_congr rfl fun f _ => ?_
  rw [act_eq, mul_comm]

/-- A gate: one where the expert's number is the word, times whether the tile is in use. -/
def gate (w u : BitVec 32) (e : Fin 16) : EReal := (if w = BitVec.ofNat 32 e.val then 1 else 0) * ((u.toInt : ℝ) : EReal)

theorem gate_term (w u : BitVec 32) (e : Fin 16) :
    (FloatOps.uitofp FTy.f32 (IntOp.cmpi .eq w (BitVec.ofNat 32 e.val)) * FloatOps.sitofp FTy.f32 u : Ideal .f32) = gate w u e := by
  unfold gate
  refine congrArg (fun y : EReal => y * _) ?_
  show (((IntOp.cmpi .eq w (BitVec.ofNat 32 e.val)).toNat : ℝ) : EReal) = _
  split
  · rename_i h
    rw [IntOp.cmpi_eq.2 h]
    simp
  · rename_i h
    rw [(BitVec.eq_zero_or_eq_one _).resolve_right fun h1 => h (IntOp.cmpi_eq.1 h1)]
    simp

theorem gate_lo_eq (t : Fin 55296) (e : Fin 16) :
    val_main_v14 (F := Ideal) lo used (ix2 t e) = gate (lo (tile t)) (used (tile t)) e := by
  pointwise [val_main_v14, val_main_v13, val_main_v12, val_main_v11, val_main_call1_v4, val_main_call1_v3, val_main_call1_v2,
    val_main_call1_v1, val_main_call1_v0, val_main_v10, val_main_v9, val_main_v8, val_main_v7, val_main_v6]
  exact gate_term _ _ e

theorem gate_hi_eq (t : Fin 55296) (e : Fin 16) :
    val_main_v20 (F := Ideal) hi used (ix2 t e) = gate (hi (tile t)) (used (tile t)) e := by
  pointwise [val_main_v20, val_main_v19, val_main_v18, val_main_v17, val_main_call2_v4, val_main_call2_v3, val_main_call2_v2,
    val_main_call2_v1, val_main_call2_v0, val_main_v16, val_main_v15, val_main_v8, val_main_v7, val_main_v6]
  exact gate_term _ _ e

/-- A sum over the experts under a gate keeps the one picked, if the tile is in use. -/
theorem gate_sum (w u : BitVec 32) (hw : w.toNat < 16) (hu : u = 0#32 ∨ u = 1#32) (f : Fin 16 → EReal) :
    ∑ e : Fin 16, gate w u e * f e = if u = 1#32 then f (pick w) else 0 := by
  rcases hu with rfl | rfl
  · rw [if_neg (by decide)]
    refine Finset.sum_eq_zero fun e _ => ?_
    have h0 : (((0#32 : BitVec 32).toInt : ℝ) : EReal) = 0 := by simp
    unfold gate
    rw [h0, mul_zero, zero_mul]
  · rw [if_pos rfl, Finset.sum_eq_single (pick w)]
    · have h1 : (((1#32 : BitVec 32).toInt : ℝ) : EReal) = 1 := by simp
      unfold gate
      rw [h1, if_pos, one_mul, one_mul]
      apply BitVec.eq_of_toNat_eq
      simp only [pick, BitVec.toNat_ofNat]
      omega
    · intro e _ he
      unfold gate
      rw [if_neg, zero_mul, zero_mul]
      intro h
      apply he
      apply Fin.ext
      subst h
      simp only [pick, BitVec.toNat_ofNat]
      omega
    · intro h; exact absurd (Finset.mem_univ _) h

theorem result_eq (hl : ∀ j, (lo j).toNat < 16) (hh : ∀ j, (hi j).toNat < 16) (hu : ∀ j, used j = 0#32 ∨ used j = 1#32)
    (t : Fin 55296) (d : Fin 4096) :
    val_main_v24 (F := Ideal) lo hi used x wg wu wd (ix2 t d) = routedRow lo hi used x wg wu wd t d := by
  pointwise [val_main_v24, val_main_v23, val_main_v22, val_main_v21]
  simp only [gate_lo_eq, gate_hi_eq, expert_eq, gate_sum _ _ (hl _) (hu _), gate_sum _ _ (hh _) (hu _)]
  unfold routedRow
  split <;> split <;> rfl

end Cert.Proof.Experts

end
-- ==== Proof.Experts.Claims.lean ====
/- The experts call's value claim: at `Ideal` its result array is the reference's. -/
module

public import proofs.«01_k».proof.Proof.Experts.Frames
public import proofs.«01_k».proof.Proof.Experts.Result
public import proofs.«01_k».proof.Proof.Experts.Reference

@[expose] public section

set_option maxRecDepth 16384

noncomputable section

open Idealize.ShloMosaic Idealize.ShloMosaic.TcCoe Idealize.SL.Sem

namespace Cert.Proof.Experts

open Cert.Kernel2Ideal.Experts

set_option maxHeartbeats 1000000 in
theorem run_kernel (m : (ℓ : Loc Cert.Kernel2Ideal.nD Cert.Kernel2Ideal.τ Cert.Kernel2Ideal.sig) → Buf (Elt Ideal) ℓ) (ρ : Dev Cert.Kernel2Ideal.nD → PrngReg)
    (h : Routed m) :
    θ_run (Cert.Kernel2Ideal.defs (F := Ideal)) (onTc (τ := Cert.Kernel2Ideal.τ) (Cert.Kernel2Ideal.main (F := Ideal))) ⟨m, fun _ => 0, ρ⟩ (fun r => ∀ c : Dev Cert.Kernel2Ideal.nD,
      r.2.mem ((c.tc : Thread Cert.Kernel2Ideal.nD Cert.Kernel2Ideal.τ).loc Cert.Kernel2Ideal.main_v4) = G m c) :=
  (θ_run Cert.Kernel2Ideal.defs _ _).mono (fun r hr c =>
    (hr.1.out_eq c 7).trans (final m c (ok_of_routed h) h))
    (run_quiescent m ρ (ok_of_routed h) (flags_of_routed h))

/-- The reference's result, from the kernel's arguments, is the kernel's. -/
theorem reference_value (m : (ℓ : Loc Cert.Kernel2Ideal.nD Cert.Kernel2Ideal.τ Cert.Kernel2Ideal.sig) → Buf (Elt Ideal) ℓ) (c : Dev Cert.Kernel2Ideal.nD)
    (h : Routed m) :
    Cert.Reference2Ideal.Read.val_main_v24 (F := Ideal) (lo m c) (hi m c) (used m c) (rows m c) (gates m c) (ups m c) (downs m c) = G m c := by
  funext x
  have hx : x = ix2 (x 0) (x 1) := by
    funext a
    match a with
    | 0 => rfl
    | 1 => rfl
  exact (congrArg _ hx).trans (result_eq _ _ _ _ _ _ _ (h.lo_lt c) (h.hi_lt c) (h.flag c) (x 0) (x 1))

set_option maxHeartbeats 1000000 in
/-- At `Ideal` the kernel's result array and the reference's agree. -/
theorem algebraic : Cert.algebraic_Kernel2Ideal_Reference2Ideal := by
  intro m g m' g' h hagree
  have hr := routed h
  refine ⟨fun c => G m c, ?_, ?_⟩
  · exact (θ_run Cert.Kernel2Ideal.defs _ _).mono (fun r hr c => ⟨hr.1 c, hr.2.1 c⟩)
      (θ_run_and (run_kernel m g hr) (Cert.Kernel2Ideal.Experts.frame m g (ok_of_routed hr) (flags_of_routed hr)))
  · refine (θ_run Cert.Reference2Ideal.defs _ _).mono (fun r hr c => ⟨?_, (hr c).2⟩) (Cert.Reference2Ideal.Value.run (F := Ideal) m' g')
    refine (hr c).1.trans ((Cert.Reference2Ideal.Read.val_main_v24_eq (F := Ideal) _ _ _ _ _ _ _).trans ?_)
    rw [(hagree c).1, (hagree c).2.1, (hagree c).2.2.2.1, (hagree c).2.2.2.2.1, (hagree c).2.2.2.2.2.1, (hagree c).2.2.2.2.2.2.1, (hagree c).2.2.2.2.2.2.2]
    exact reference_value m c (routed h)

end Cert.Proof.Experts

end
-- ==== Proof.Experts.FrameKernel.lean ====
/- The experts call's frame at the bit patterns: the two programs have one text, and the run holds at any floats. -/
module

public import proofs.«01_k».proof.Defs
public import proofs.«01_k».proof.Proof.Experts.Tables
public import proofs.«01_k».proof.Proof.Gen.Kernel2
public import Idealize.ShloMosaic.Lib.Claim

@[expose] public section

set_option maxRecDepth 16384

noncomputable section

open Idealize.ShloMosaic Idealize.ShloMosaic.TcCoe Idealize.SL.Sem

namespace Cert.Proof.Experts

open Cert.Kernel2Ideal.Experts Cert.Pre_routed_tiles.Words

/-- The precondition at the bit patterns, read word by word. -/
theorem routed_bits (m : (ℓ : Loc Cert.Kernel2Ideal.nD Cert.Kernel2Ideal.τ Cert.Kernel2Ideal.sig) → Buf (Elt Bits) ℓ)
    (h : ∀ c : Dev Cert.Kernel2Ideal.nD, ∃ xs wg wu wd,
      (Cert.Pre_routed_tiles.fn (F := Bits) (lo m c) (hi m c) (blk m c) (used m c) xs wg wu wd)
        = (fun _ => 1#1, fun _ => 1#1, fun _ => 1#1, fun _ => 1#1, fun _ => 1#1)) : Routed m where
  lo_lt c j := by obtain ⟨xs, wg, wu, wd, e⟩ := h c; exact lo_lt xs wg wu wd (by rw [e]) j
  hi_lt c j := by obtain ⟨xs, wg, wu, wd, e⟩ := h c; exact hi_lt xs wg wu wd (by rw [e]) j
  blk_lt c j := by obtain ⟨xs, wg, wu, wd, e⟩ := h c; exact blk_lt xs wg wu wd (by rw [e]) j
  flag c j := by obtain ⟨xs, wg, wu, wd, e⟩ := h c; exact used_flag xs wg wu wd (by rw [e]) j
  own c j := by obtain ⟨xs, wg, wu, wd, e⟩ := h c; exact own_tile xs wg wu wd (by rw [e]) j

-- the two texts are compared by unfolding both
set_option smartUnfolding false in
set_option maxHeartbeats 8000000 in
theorem frame_kernel : Cert.quiescent_Kernel2 := fun m ρ h =>
  have hr : Routed (F := Bits) m := routed_bits m fun c => ⟨_, _, _, _, Prod.ext (h c).1 (Prod.ext (h c).2.1
    (Prod.ext (h c).2.2.1 (Prod.ext (h c).2.2.2.1 (h c).2.2.2.2)))⟩
  (θ_run Cert.Kernel2Ideal.defs _ _).mono (fun _ h => h)
    (Cert.Kernel2Ideal.Experts.frame (F := Bits) m ρ (ok_of_routed hr) (flags_of_routed hr))

end Cert.Proof.Experts

end
-- ==== Proof.InProj.Spec.lean ====
/- What both programs compute of one token: its normalized row against the weights, a head's normalized and
   turned lanes, and the angles they are turned by. -/
module

public import Idealize.ShloMosaic.Lib.Pointwise
public import proofs.«01_k».proof.Reference3Ideal

@[expose] public section

set_option maxRecDepth 16384

noncomputable section

namespace Cert.Proof.InProj

open Idealize.ShloMosaic Cert.Reference3Ideal

/-- One over the root of the mean square (the sum over `d`, plus a small constant). -/
def invRms {n : ℕ} (d : BitVec 32) (z : Fin n → EReal) : EReal :=
  Ideal.rsqrt (Ideal.div (∑ k, z k * z k) (Ideal.ofBits FTy.f32 d) + Ideal.ofBits FTy.f32 897988541#32)

/-- A row, normalized and scaled, against a column of the weights. -/
def rowProj (x g w : Fin 2048 → EReal) : EReal := ∑ k, x k * invRms 1157627904#32 x * g k * w k

/-- A head's lanes, normalized and scaled. -/
def unit (z g : Fin 128 → EReal) (d : Fin 128) : EReal := z d * invRms 1124073472#32 z * g d

/-- The angle of token `s` on axis `a` (its row, or its column) at frequency `f`. -/
def angle (s : Fin 8192) (a : Fin 2) (f : Fin 32) : EReal :=
  (FloatOps.sitofp FTy.f32 (BitVec.ofNat 32 (if a.val < 1 then s.val / 64 else s.val % 64)) : Ideal .f32) *
    Ideal.exp (Ideal.div (Ideal.ofBits FTy.f32 3247660430#32 * (FloatOps.sitofp FTy.f32 (BitVec.ofNat 32 f.val) : Ideal .f32))
      (Ideal.ofBits FTy.f32 1115684864#32))

/-- The axis and the frequency of a lane, and the lanes of its pair. -/
abbrev axis (d : Fin 128) : Fin 2 := ⟨d.val / 64, by omega⟩
abbrev freq (d : Fin 128) : Fin 32 := ⟨d.val % 32, by omega⟩
abbrev lowLane (d : Fin 128) : Fin 128 := ⟨d.val / 64 * 64 + d.val % 32, by omega⟩
abbrev highLane (d : Fin 128) : Fin 128 := ⟨d.val / 64 * 64 + 32 + d.val % 32, by omega⟩

/-- A head's lanes turned by the token's angles, pair by pair. -/
def rope (z : Fin 128 → EReal) (s : Fin 8192) (d : Fin 128) : EReal :=
  if d.val / 32 % 2 < 1 then
    z (lowLane d) * Ideal.cos (angle s (axis d) (freq d)) - z (highLane d) * Ideal.sin (angle s (axis d) (freq d))
  else
    z (highLane d) * Ideal.cos (angle s (axis d) (freq d)) + z (lowLane d) * Ideal.sin (angle s (axis d) (freq d))

variable (x : Vec Ideal S4x8192x2048 .f32) (g : Vec Ideal S1x2048 .f32) (w : Vec Ideal S1x2048x2560 .f32)

/-- Token `s` of batch `b`, projected to column `e`. -/
def proj (b : Fin 4) (s : Fin 8192) (e : Fin 2560) : EReal :=
  rowProj (fun k => x (ix3 b s k)) (fun k => g (ix2 0 k)) (fun k => w (ix3 0 k e))

/-- The batch and the token of a row. -/
abbrev batch (r : Fin 32768) : Fin 4 := ⟨r.val / 8192, by omega⟩
abbrev token (r : Fin 32768) : Fin 8192 := ⟨r.val % 8192, by omega⟩

/-- The four results: queries, keys, values and the last columns. -/
def queries (qg : Vec Ideal S1x128 .f32) (r : Fin 32768) (e : Fin 1024) : EReal :=
  rope (unit (fun d => proj x g w (batch r) (token r) ⟨e.val / 128 * 128 + d.val, by omega⟩) fun d => qg (ix2 0 d))
    (token r) ⟨e.val % 128, by omega⟩
def keys (kg : Vec Ideal S1x128 .f32) (r : Fin 32768) (e : Fin 256) : EReal :=
  rope (unit (fun d => proj x g w (batch r) (token r) ⟨1024 + (e.val / 128 * 128 + d.val), by omega⟩) fun d => kg (ix2 0 d))
    (token r) ⟨e.val % 128, by omega⟩
def vals (b : Fin 4) (e : Fin 256) (s : Fin 8192) : EReal := proj x g w b s ⟨1280 + e.val, by omega⟩
def feats (b : Fin 4) (i : Fin 256) (j : Fin 32768) : EReal :=
  proj x g w b ⟨i.val * 32 + j.val / 1024, by omega⟩ ⟨1536 + j.val % 1024, by omega⟩

end Cert.Proof.InProj

end
-- ==== Proof.InProj.Tables.lean ====
/- The arrays the input projection reads: the arguments, the tables of angles, and the matrix that rearranges rows. -/
module

public import proofs.«01_k».proof.Proof.InProj.Spec
public import proofs.«01_k».proof.Proof.Gen.Kernel3Ideal.Value

@[expose] public section

set_option maxRecDepth 16384

noncomputable section

namespace Cert.Kernel3Ideal.InProj

open Cert.Kernel3Ideal.Gen Cert.Proof.InProj
open Idealize.ShloMosaic Idealize.ShloMosaic.TcCoe

/-- The frequencies, the angles of the rows and of the columns, and the zero lanes, as the program computes them. -/
def freqs : Vec Ideal S32 .f32 :=
  Host.exp (F := Ideal) (φ := .f32) (Host.divf (mulf (broadcastInDim S32 ![] bcast_S_S32 (constant S_ .f32 0xC1935D8E#32)) (sitofp .f32 (iotaInDim S32 32 0)))
    (broadcastInDim S32 ![] bcast_S_S32 (constant S_ .f32 0x42800000#32)))
def spread : Vec Ideal S8192x32 .f32 :=
  broadcastInDim S8192x32 ![0, 1] bcast_S1x32_S8192x32_0_1 (broadcastInDim S1x32 ![1] bcast_S32_S1x32_1 freqs)
def rowIds : Vec Ideal S8192 .f32 :=
  shapeCast S8192 (broadcastInDim S128x64 ![0] bcast_S128_S128x64_0 (sitofp (F := Ideal) .f32 (iotaInDim S128 32 0))) shapeCasts_S128x64_S8192
def colIds : Vec Ideal S8192 .f32 :=
  shapeCast S8192 (broadcastInDim S128x64 ![0, 1] bcast_S1x64_S128x64_0_1
    (shapeCast S1x64 (sitofp (F := Ideal) .f32 (iotaInDim S64 32 0)) shapeCasts_S64_S1x64)) shapeCasts_S128x64_S8192
def rowAngles : Vec Ideal S8192x32 .f32 :=
  mulf (F := Ideal) (φ := .f32) (broadcastInDim S8192x32 ![0, 1] bcast_S8192x1_S8192x32_0_1 (broadcastInDim S8192x1 ![0] bcast_S8192_S8192x1_0 rowIds)) spread
def colAngles : Vec Ideal S8192x32 .f32 :=
  mulf (F := Ideal) (φ := .f32) (broadcastInDim S8192x32 ![0, 1] bcast_S8192x1_S8192x32_0_1 (broadcastInDim S8192x1 ![0] bcast_S8192_S8192x1_0 colIds)) spread
def zeros : Vec Ideal S8192x32 .f32 := broadcastInDim S8192x32 ![] bcast_S_S8192x32 (constant (F := Ideal) S_ .f32 0x00000000#32)

/-- Four runs of lanes side by side. -/
def four (a b c d : Vec Ideal S8192x32 .f32) : Vec Ideal S8192x128 .f32 :=
  concatenate S8192x128 1 [⟨S8192x32, a⟩, ⟨S8192x32, b⟩, ⟨S8192x32, c⟩, ⟨S8192x32, d⟩] concatenates_S8192x32_S8192x32_S8192x32_S8192x32_S8192x128_d1

/-- The row that row `r` of the rearranged block is taken from, computed as the program does. -/
def quo : IVec S512 32 :=
  let n := iotaInDim S512 32 0
  let k : IVec S512 32 := broadcastInDim S512 ![] bcast_S_S512 (constantI S_ 32 16#32)
  let q := Host.divsi n k
  let sk : IVec S512 32 := broadcastInDim S512 ![] bcast_S_S512 (signi (constantI S_ 32 16#32))
  select (andi (cmpi .ne (signi n) sk) (cmpi .ne (Host.remsi n k) (broadcastInDim S512 ![] bcast_S_S512 (constantI S_ 32 0#32))))
    (subi q (broadcastInDim S512 ![] bcast_S_S512 (constantI S_ 32 1#32))) q
def rem : IVec S512 32 :=
  let n := iotaInDim S512 32 0
  let k1 : IVec S_ 32 := select (cmpi .eq (constantI S_ 32 16#32) (constantI S_ 32 0#32)) (constantI S_ 32 1#32) (constantI S_ 32 16#32)
  let k : IVec S512 32 := broadcastInDim S512 ![] bcast_S_S512 k1
  let q := Host.remsi n k
  let z : IVec S512 32 := broadcastInDim S512 ![] bcast_S_S512 (constantI S_ 32 0#32)
  select (andi (cmpi .ne (cmpi .slt q z) (broadcastInDim S512 ![] bcast_S_S512 (cmpi .slt k1 (constantI S_ 32 0#32)))) (cmpi .ne q z))
    (addi q k) q
def source : IVec S512 32 := addi (muli rem (broadcastInDim S512 ![] bcast_S_S512 (constantI S_ 32 32#32))) quo

variable (m : (ℓ : Loc nD τ sig) → Buf (Elt Ideal) ℓ) (c : Dev nD)

/-- The tokens, the scales and the weights of device `c`. -/
abbrev tokens : Vec Ideal S4x8192x2048 .f32 := m ((c : Thread nD τ).loc main_arg0)
abbrev scale : Vec Ideal S1x2048 .f32 := m ((c : Thread nD τ).loc main_arg1)
abbrev weights : Vec Ideal S1x2048x2560 .f32 := m ((c : Thread nD τ).loc main_arg2)
abbrev qScale : Vec Ideal S1x128 .f32 := m ((c : Thread nD τ).loc main_arg3)
abbrev kScale : Vec Ideal S1x128 .f32 := m ((c : Thread nD τ).loc main_arg4)

set_option maxHeartbeats 1000000 in
theorem V_cos : (V m c main_v28 : Vec Ideal S8192x128 .f32) = four (Host.cos (F := Ideal) (φ := .f32) rowAngles) (Host.cos (F := Ideal) (φ := .f32) rowAngles) (Host.cos (F := Ideal) (φ := .f32) colAngles) (Host.cos (F := Ideal) (φ := .f32) colAngles) := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_low : (V m c main_v31 : Vec Ideal S8192x128 .f32) = four (Host.negf (F := Ideal) (φ := .f32) (Host.sin (F := Ideal) (φ := .f32) rowAngles)) zeros (Host.negf (F := Ideal) (φ := .f32) (Host.sin (F := Ideal) (φ := .f32) colAngles)) zeros := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_high : (V m c main_v32 : Vec Ideal S8192x128 .f32) = four zeros (Host.sin (F := Ideal) (φ := .f32) rowAngles) zeros (Host.sin (F := Ideal) (φ := .f32) colAngles) := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_tokens : (V m c main_v33 : Vec Ideal S32768x2048 .f32) = shapeCast S32768x2048 (tokens m c) shapeCasts_S4x8192x2048_S32768x2048 := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_scale : (V m c main_v35 : Vec Ideal S1x2048 .f32) = broadcastInDim S1x2048 ![1] bcast_S2048_S1x2048_1 (shapeCast S2048 (scale m c) shapeCasts_S1x2048_S2048) := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_weights : (V m c main_v37 : Vec Ideal S2048x2560 .bf16) = truncf (F := Ideal) .bf16 (shapeCast S2048x2560 (weights m c) shapeCasts_S1x2048x2560_S2048x2560) bitsLt_bf16_f32 := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_qScale : (V m c main_v39 : Vec Ideal S1x128 .f32) = broadcastInDim S1x128 ![1] bcast_S128_S1x128_1 (shapeCast S128 (qScale m c) shapeCasts_S1x128_S128) := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_kScale : (V m c main_v41 : Vec Ideal S1x128 .f32) = broadcastInDim S1x128 ![1] bcast_S128_S1x128_1 (shapeCast S128 (kScale m c) shapeCasts_S1x128_S128) := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_perm : (V m c main_v54 : Vec Ideal S512x512 .bf16) = uitofp (F := Ideal) .bf16 (cmpi .eq
    (broadcastInDim S512x512 ![0, 1] bcast_S1x512_S512x512_0_1 (broadcastInDim S1x512 ![1] bcast_S512_S1x512_1 (iotaInDim S512 32 0)) : IVec S512x512 32)
    (broadcastInDim S512x512 ![0, 1] bcast_S512x1_S512x512_0_1 (broadcastInDim S512x1 ![0] bcast_S512_S512x1_0 source))) := by
  unfold V
  simp only [hostOps0, hostOps0_1, hostOps0_2, hostOps0_3, hostOps0_4, List.flatten_cons, List.flatten_nil, List.append_nil,
    List.cons_append, List.nil_append]
  after_results
  all_goals rfl

theorem rowAngles_at (s : Fin 8192) (f : Fin 32) : rowAngles (ix2 s f) = angle s 0 f := by
  pointwise [rowAngles, rowIds, spread, freqs]
  rfl
theorem colAngles_at (s : Fin 8192) (f : Fin 32) : colAngles (ix2 s f) = angle s 1 f := by
  pointwise [colAngles, colIds, spread, freqs]
  rfl
theorem zeros_at (s : Fin 8192) (f : Fin 32) : zeros (ix2 s f) = 0 := by
  pointwise [zeros]

theorem angle_lane (s : Fin 8192) (a : Fin 2) (f : Fin 32) (d : Fin 128) (ha : a.val = d.val / 64) (hf : f.val = d.val % 32) :
    angle s a f = angle s (axis d) (freq d) := by
  rw [show a = axis d from Fin.ext ha, show f = freq d from Fin.ext hf]

/-- Four runs of lanes read at a lane. -/
theorem four_at (w x y z : Vec Ideal S8192x32 .f32) (s : Fin 8192) (d : Fin 128) : four w x y z (ix2 s d)
    = if d.val < 32 then w (ix2 s (freq d)) else if d.val < 64 then x (ix2 s (freq d)) else if d.val < 96 then y (ix2 s (freq d))
      else z (ix2 s (freq d)) := by
  pointwise [four]
  have e (u : Vec Ideal S8192x32 .f32) (n : ℕ) (hn : n < 32) (h : n = d.val % 32) : u (ix2 s ⟨n, hn⟩) = u (ix2 s (freq d)) :=
    congrArg u (congrArg (ix2 s) (Fin.ext h))
  split_ifs
  all_goals first
    | exact e _ _ _ (by omega)
    | exact (e _ _ _ (by omega)).trans (if_pos (by omega)).symm
    | exact (e _ _ _ (by omega)).trans ((if_neg (by omega)).trans (if_pos (by omega))).symm
    | exact (e _ _ _ (by omega)).trans ((if_neg (by omega)).trans (if_neg (by omega))).symm

theorem cos_at (s : Fin 8192) (d : Fin 128) : (V m c main_v28 : Vec Ideal S8192x128 .f32) (ix2 s d)
    = Ideal.cos (angle s (axis d) (freq d)) := by
  rw [V_cos, four_at]
  pointwise []
  simp only [rowAngles_at, colAngles_at]
  split_ifs <;> exact congrArg Ideal.cos (angle_lane s _ _ d (by simp only [Fin.val_zero, Fin.val_one]; omega) rfl)

theorem low_at (s : Fin 8192) (d : Fin 128) : (V m c main_v31 : Vec Ideal S8192x128 .f32) (ix2 s d)
    = if d.val / 32 % 2 < 1 then -Ideal.sin (angle s (axis d) (freq d)) else 0 := by
  rw [V_low, four_at]
  pointwise []
  simp only [rowAngles_at, colAngles_at, zeros_at]
  split_ifs <;> first | omega | rfl | exact congrArg (fun a => -Ideal.sin a) (angle_lane s _ _ d (by simp only [Fin.val_zero, Fin.val_one]; omega) rfl)

theorem high_at (s : Fin 8192) (d : Fin 128) : (V m c main_v32 : Vec Ideal S8192x128 .f32) (ix2 s d)
    = if d.val / 32 % 2 < 1 then 0 else Ideal.sin (angle s (axis d) (freq d)) := by
  rw [V_high, four_at]
  pointwise []
  simp only [rowAngles_at, colAngles_at, zeros_at]
  split_ifs <;> first | omega | rfl | exact congrArg Ideal.sin (angle_lane s _ _ d (by simp only [Fin.val_zero, Fin.val_one]; omega) rfl)

theorem token_at (r : Fin 32768) (k : Fin 2048) : (V m c main_v33 : Vec Ideal S32768x2048 .f32) (ix2 r k)
    = tokens m c (ix3 (batch r) (token r) k) := by
  rw [V_tokens]; pointwise []
theorem scale_at (k : Fin 2048) : (V m c main_v35 : Vec Ideal S1x2048 .f32) (ix2 0 k) = scale m c (ix2 0 k) := by
  rw [V_scale]; pointwise []
theorem weight_at (k : Fin 2048) (e : Fin 2560) : (V m c main_v37 : Vec Ideal S2048x2560 .bf16) (ix2 k e) = weights m c (ix3 0 k e) := by
  rw [V_weights]; pointwise []
theorem qScale_at (k : Fin 128) : (V m c main_v39 : Vec Ideal S1x128 .f32) (ix2 0 k) = qScale m c (ix2 0 k) := by
  rw [V_qScale]; pointwise []
theorem kScale_at (k : Fin 128) : (V m c main_v41 : Vec Ideal S1x128 .f32) (ix2 0 k) = kScale m c (ix2 0 k) := by
  rw [V_kScale]; pointwise []

theorem source_at : ∀ r : Fin 512, source (ix1 r) = BitVec.ofNat 32 (r.val % 16 * 32 + r.val / 16) := by decide +kernel

/-- The rearranging matrix is one at the row a row is taken from, and zero elsewhere. -/
theorem perm_at (r k : Fin 512) : (V m c main_v54 : Vec Ideal S512x512 .bf16) (ix2 r k)
    = if k.val = r.val % 16 * 32 + r.val / 16 then (1 : EReal) else 0 := by
  rw [V_perm]
  pointwise []
  rw [source_at]
  show (((IntOp.cmpi .eq (BitVec.ofNat 32 k.val) (BitVec.ofNat 32 (r.val % 16 * 32 + r.val / 16))).toNat : ℝ) : EReal) = _
  split
  · rename_i h
    rw [IntOp.cmpi_eq.2 (by rw [h])]
    simp
  · rename_i h
    rcases BitVec.eq_zero_or_eq_one (IntOp.cmpi .eq (BitVec.ofNat 32 k.val) (BitVec.ofNat 32 (r.val % 16 * 32 + r.val / 16))) with h0 | h1
    · rw [h0]; simp
    · have h2 := congrArg BitVec.toNat (IntOp.cmpi_eq.1 h1)
      simp only [BitVec.toNat_ofNat] at h2
      omega

end Cert.Kernel3Ideal.InProj

end
-- ==== Proof.InProj.Norm.lean ====
/- The factor a row is normalized by is a nonnegative real, whatever the row, so it comes out of the row's sums. -/
module

public import proofs.«01_k».proof.Proof.InProj.Spec

@[expose] public section

noncomputable section

namespace Cert.Proof.InProj

open Idealize.ShloMosaic

/-- The square of an extended real is nonnegative. -/
theorem sq_nonneg (a : EReal) : 0 ≤ a * a := by
  rcases le_total 0 a with h | h
  · exact mul_nonneg h h
  · have := mul_nonneg (EReal.neg_nonneg.2 h) (EReal.neg_nonneg.2 h)
    rwa [neg_mul_neg] at this

/-- The divisor and the small constant, as reals. -/
theorem ofBits_2048 : Ideal.ofBits FTy.f32 1157627904#32 = ((2048 : ℝ) : EReal) := by
  simp [Ideal.ofBits, Ideal.ieee, -EReal.coe_mul]; norm_num
theorem ofBits_eps : ∃ r : ℝ, 0 < r ∧ Ideal.ofBits FTy.f32 897988541#32 = (r : EReal) := by
  simp [Ideal.ofBits, Ideal.ieee, -EReal.coe_mul]

/-- The inverse root of a positive extended real is a nonnegative real. -/
theorem rsqrt_real (y : EReal) (h : 0 < y) : ∃ r : ℝ, 0 ≤ r ∧ Ideal.rsqrt y = (r : EReal) := by
  induction y using EReal.rec with
  | bot => exact absurd h (by simp)
  | top => exact ⟨0, le_refl _, rfl⟩
  | coe r =>
    have hr : 0 < r := by exact_mod_cast h
    refine ⟨(Real.sqrt r)⁻¹, inv_nonneg.2 (Real.sqrt_nonneg r), ?_⟩
    show (if r < 0 then ⊥ else if r = 0 then ⊤ else (((Real.sqrt r)⁻¹ : ℝ) : EReal)) = _
    rw [if_neg hr.not_gt, if_neg hr.ne']

theorem invRms_real {n : ℕ} (z : Fin n → EReal) : ∃ r : ℝ, 0 ≤ r ∧ invRms 1157627904#32 z = (r : EReal) := by
  refine rsqrt_real _ ?_
  obtain ⟨e, he, h⟩ := ofBits_eps
  rw [h, ofBits_2048]
  have hs : 0 ≤ ∑ k, z k * z k := Finset.sum_nonneg fun k _ => sq_nonneg (z k)
  have hd : 0 ≤ Ideal.div (∑ k, z k * z k) ((2048 : ℝ) : EReal) := by
    unfold Ideal.div
    rw [if_neg (by exact_mod_cast (by norm_num : (2048 : ℝ) ≠ 0))]
    exact mul_nonneg hs (EReal.inv_nonneg_of_nonneg (by exact_mod_cast (by norm_num : (0 : ℝ) ≤ 2048)))
  exact lt_of_lt_of_le (by exact_mod_cast he : (0 : EReal) < (e : EReal)) (le_add_of_nonneg_left hd)

/-- A nonnegative real times a sum is the sum of its products. -/
theorem real_mul_sum {n : ℕ} (r : ℝ) (hr : 0 ≤ r) (f : Fin n → EReal) : (r : EReal) * ∑ k, f k = ∑ k, (r : EReal) * f k := by
  classical
  refine Finset.induction_on (Finset.univ : Finset (Fin n)) (by simp) fun i s hi ih => ?_
  rw [Finset.sum_insert hi, Finset.sum_insert hi,
    EReal.left_distrib_of_nonneg_of_ne_top (by exact_mod_cast hr) (EReal.coe_ne_top r), ih]

/-- The factor taken after the sum is the factor taken on the row. -/
theorem scaled_eq (x g w : Fin 2048 → EReal) : invRms 1157627904#32 x * ∑ k, x k * g k * w k = rowProj x g w := by
  unfold rowProj
  obtain ⟨r, hr, h⟩ := invRms_real x
  rw [h, real_mul_sum r hr]
  refine Finset.sum_congr rfl fun k _ => ?_
  rw [← mul_assoc, ← mul_assoc, mul_comm (r : EReal) (x k)]

end Cert.Proof.InProj

end
-- ==== Proof.InProj.Heads.lean ====
/- The queries' and the keys' stores of the input projection: each head's lanes, normalized and turned, at an element. -/
module

public import proofs.«01_k».proof.Proof.InProj.Norm
public import proofs.«01_k».proof.Proof.Gen.Kernel3Ideal.Frame

@[expose] public section

set_option maxRecDepth 16384

noncomputable section

namespace Cert.Proof.InProj

open Idealize.ShloMosaic Cert.Kernel3Ideal Cert.Kernel3Ideal.Gen

/-- A head's lane turned by its three factors, the pair's other lane reached by turning the head around. -/
def turn (z : Fin 128 → EReal) (c s1 s2 : EReal) (d : Fin 128) : EReal :=
  z d * c + z ⟨(d.val + 128 - 96) % 128, by omega⟩ * s1 + z ⟨(d.val + 128 - 32) % 128, by omega⟩ * s2

/-- Lane `d` of row `r`'s head `p`. -/
def headAt (p : Fin 128 → EReal) (g : Vec Ideal S1x128 .f32) (c s1 s2 : Vec Ideal S512x128 .f32) (r : Fin 512) (d : Fin 128) : EReal :=
  turn (unit p fun d => g (ix2 0 d)) (c (ix2 r d)) (s1 (ix2 r d)) (s2 (ix2 r d)) d

section Payloads

variable (c s1 s2 : Vec Ideal S512x128 .f32) (g : Vec Ideal S1x128 .f32) (p : Vec Ideal S512x1024 .f32) (r : Fin 512) (d : Fin 128)

theorem head_1 : k0_pay19 (F := Ideal) c s1 s2 g p (ix2 r d)
    = headAt (fun d => p (ix2 r ⟨128 + d.val, by omega⟩)) g c s1 s2 r d := by
  pointwise [k0_pay19]
  rfl
theorem head_2 : k0_pay22 (F := Ideal) c s1 s2 g (k0_pay20 p) (k0_pay21 p) (Scalar.ofBits .f32 0x358637BD#32) (ix2 r d)
    = headAt (fun d => p (ix2 r ⟨256 + d.val, by omega⟩)) g c s1 s2 r d := by
  pointwise [k0_pay22, k0_pay20, k0_pay21]
  rfl
theorem head_3 : k0_pay23 (F := Ideal) c s1 s2 g p (ix2 r d)
    = headAt (fun d => p (ix2 r ⟨384 + d.val, by omega⟩)) g c s1 s2 r d := by
  pointwise [k0_pay23]
  rfl
theorem head_4 : k0_pay26 (F := Ideal) c s1 s2 g (k0_pay24 p) (k0_pay25 p) (Scalar.ofBits .f32 0x358637BD#32) (ix2 r d)
    = headAt (fun d => p (ix2 r ⟨512 + d.val, by omega⟩)) g c s1 s2 r d := by
  pointwise [k0_pay26, k0_pay24, k0_pay25]
  rfl
theorem head_5 : k0_pay27 (F := Ideal) c s1 s2 g p (ix2 r d)
    = headAt (fun d => p (ix2 r ⟨640 + d.val, by omega⟩)) g c s1 s2 r d := by
  pointwise [k0_pay27]
  rfl
theorem head_6 : k0_pay30 (F := Ideal) c s1 s2 g (k0_pay28 p) (k0_pay29 p) (Scalar.ofBits .f32 0x358637BD#32) (ix2 r d)
    = headAt (fun d => p (ix2 r ⟨768 + d.val, by omega⟩)) g c s1 s2 r d := by
  pointwise [k0_pay30, k0_pay28, k0_pay29]
  rfl
theorem head_7 : k0_pay31 (F := Ideal) c s1 s2 g p (ix2 r d)
    = headAt (fun d => p (ix2 r ⟨896 + d.val, by omega⟩)) g c s1 s2 r d := by
  pointwise [k0_pay31]
  rfl

variable (y0 : Vec Ideal S512x2048 .f32) (y1 : Vec Ideal S1x2048 .f32) (v : Vec Ideal S2048x1024 .bf16)

theorem head_0 : k0_pay18 (F := Ideal) c s1 s2 g (k0_pay16 y0 y1 v) (k0_pay17 y0 y1 v) (Scalar.ofBits .f32 0x358637BD#32) (ix2 r d)
    = headAt (fun d => k0_pay15 y0 y1 v (ix2 r ⟨d.val, by omega⟩)) g c s1 s2 r d := by
  pointwise [k0_pay18, k0_pay17, k0_pay16]
  rfl

variable (q : Vec Ideal S512x1 .f32) (h : Vec Ideal S512x2048 .bf16) (u : Vec Ideal S2048x256 .bf16)

theorem key_0 : k0_pay34 (F := Ideal) c s1 s2 g (k0_pay33 q h u) (ix2 r d)
    = headAt (fun d => k0_pay32 q h u (ix2 r ⟨d.val, by omega⟩)) g c s1 s2 r d := by
  pointwise [k0_pay34, k0_pay33]
  rfl
theorem key_1 : k0_pay35 (F := Ideal) c s1 s2 g (k0_pay32 q h u) (ix2 r d)
    = headAt (fun d => k0_pay32 q h u (ix2 r ⟨128 + d.val, by omega⟩)) g c s1 s2 r d := by
  pointwise [k0_pay35]
  rfl

end Payloads

variable (x0 : Vec Ideal S512x2048 .f32) (x1 : Vec Ideal S1x2048 .f32) (x2 : Vec Ideal S2048x2560 .bf16)
  (x3 x4 : Vec Ideal S1x128 .f32) (x5 x6 x7 : Vec Ideal S512x128 .f32) (x8 : Vec Ideal S512x512 .bf16)

/-- Row `r` of a block, projected to column `e`. -/
def blockProj (r : Fin 512) (e : Fin 2560) : EReal :=
  rowProj (fun k => x0 (ix2 r k)) (fun k => x1 (ix2 0 k)) (fun k => x2 (ix2 k e))

theorem pay68_eq : k0_pay68 (F := Ideal) x0 x1 x2 x3 x4 x5 x6 x7 x8 = x5 := by
  funext y; obtain ⟨r, d, rfl⟩ : ∃ r d, y = ix2 r d := ⟨y 0, y 1, by funext a; match a with | 0 => rfl | 1 => rfl⟩
  unfold k0_pay68 View.ld; pointwise [k0_pay10]
theorem pay69_eq : k0_pay69 (F := Ideal) x0 x1 x2 x3 x4 x5 x6 x7 x8 = x6 := by
  funext y; obtain ⟨r, d, rfl⟩ : ∃ r d, y = ix2 r d := ⟨y 0, y 1, by funext a; match a with | 0 => rfl | 1 => rfl⟩
  unfold k0_pay69 View.ld; pointwise [k0_pay11]
theorem pay70_eq : k0_pay70 (F := Ideal) x0 x1 x2 x3 x4 x5 x6 x7 x8 = x7 := by
  funext y; obtain ⟨r, d, rfl⟩ : ∃ r d, y = ix2 r d := ⟨y 0, y 1, by funext a; match a with | 0 => rfl | 1 => rfl⟩
  unfold k0_pay70 View.ld; pointwise [k0_pay12]
theorem pay71_eq : k0_pay71 (F := Ideal) x0 x1 x2 x3 x4 x5 x6 x7 x8 = x3 := by
  funext y; obtain ⟨r, d, rfl⟩ : ∃ r d, y = ix2 r d := ⟨y 0, y 1, by funext a; match a with | 0 => rfl | 1 => rfl⟩
  unfold k0_pay71 View.ld; pointwise [k0_pay13]
  exact congrArg x3 (by rw [Subsingleton.elim r 0])
theorem pay72_eq : k0_pay72 (F := Ideal) x0 x1 x2 x3 x4 x5 x6 x7 x8 = x4 := by
  funext y; obtain ⟨r, d, rfl⟩ : ∃ r d, y = ix2 r d := ⟨y 0, y 1, by funext a; match a with | 0 => rfl | 1 => rfl⟩
  unfold k0_pay72 View.ld; pointwise [k0_pay14]
  exact congrArg x4 (by rw [Subsingleton.elim r 0])

theorem first_eq (r : Fin 512) (e : Fin 1024) : k0_pay15 (F := Ideal) (View.ld x0 r0_0) (View.ld x1 r0_1) (View.ld x2 r0_4) (ix2 r e)
    = blockProj x0 x1 x2 r ⟨e.val, by omega⟩ := by
  unfold View.ld
  pointwise [k0_pay15, k0_pay8, k0_pay9, k0_pay7]
  exact scaled_eq _ _ _
theorem second_eq (r : Fin 512) (e : Fin 256) : k0_pay32 (F := Ideal) (k0_pay66 x0 x1 x2 x3 x4 x5 x6 x7 x8)
    (k0_pay67 x0 x1 x2 x3 x4 x5 x6 x7 x8) (View.ld x2 r0_13) (ix2 r e) = blockProj x0 x1 x2 r ⟨1024 + e.val, by omega⟩ := by
  unfold k0_pay66 k0_pay67 View.ld
  pointwise [k0_pay32, k0_pay8, k0_pay9, k0_pay7]
  exact scaled_eq _ _ _

theorem pq_eq (r : Fin 512) (e : Fin 1024) : k0_pay73 (F := Ideal) x0 x1 x2 x3 x4 x5 x6 x7 x8 (ix2 r e) = blockProj x0 x1 x2 r ⟨e.val, by omega⟩ :=
  first_eq x0 x1 x2 r e

/-- The queries' block, and the keys', at an element. -/
def queryAt (y : S512x1024.Idx) : EReal :=
  headAt (fun d => blockProj x0 x1 x2 (y 0) ⟨(y 1).val / 128 * 128 + d.val, by have := (y 1).isLt; change (y 1).val < 1024 at this; omega⟩)
    x3 x5 x6 x7 (y 0) ⟨(y 1).val % 128, by omega⟩
def keyAt (y : S512x256.Idx) : EReal :=
  headAt (fun d => blockProj x0 x1 x2 (y 0) ⟨1024 + ((y 1).val / 128 * 128 + d.val), by have := (y 1).isLt; change (y 1).val < 256 at this; omega⟩)
    x4 x5 x6 x7 (y 0) ⟨(y 1).val % 128, by omega⟩

theorem queryAt_head (p : Fin 128 → EReal) (r : Fin 512) (d : Fin 128) (h : Fin 8) (y : S512x1024.Idx) (h0 : (y 0).val = r.val)
    (h1 : (y 1).val = 128 * h.val + d.val) (hp : ∀ d : Fin 128, p d = blockProj x0 x1 x2 r ⟨128 * h.val + d.val, by omega⟩) :
    headAt p x3 x5 x6 x7 r d = queryAt x0 x1 x2 x3 x5 x6 x7 y := by
  unfold queryAt
  have e0 : (y 0 : Fin 512) = r := Fin.ext h0
  have e1 : (⟨(y 1).val % 128, by omega⟩ : Fin 128) = d := by apply Fin.ext; show (y 1).val % 128 = d.val; omega
  rw [e1, e0]
  congr 1
  funext d'
  rw [hp]
  congr 1
  apply Fin.ext
  show 128 * h.val + d'.val = (y 1).val / 128 * 128 + d'.val
  omega
theorem keyAt_head (p : Fin 128 → EReal) (r : Fin 512) (d : Fin 128) (h : Fin 2) (y : S512x256.Idx) (h0 : (y 0).val = r.val)
    (h1 : (y 1).val = 128 * h.val + d.val) (hp : ∀ d : Fin 128, p d = blockProj x0 x1 x2 r ⟨1024 + (128 * h.val + d.val), by omega⟩) :
    headAt p x4 x5 x6 x7 r d = keyAt x0 x1 x2 x4 x5 x6 x7 y := by
  unfold keyAt
  have e0 : (y 0 : Fin 512) = r := Fin.ext h0
  have e1 : (⟨(y 1).val % 128, by omega⟩ : Fin 128) = d := by apply Fin.ext; show (y 1).val % 128 = d.val; omega
  rw [e1, e0]
  congr 1
  funext d'
  rw [hp]
  congr 1
  apply Fin.ext
  show 1024 + (128 * h.val + d'.val) = 1024 + ((y 1).val / 128 * 128 + d'.val)
  omega

end Cert.Proof.InProj

end
-- ==== Proof.InProj.Outs.lean ====
/- The four blocks the input projection leaves, each read at an element from the stores that make it up. -/
module

public import proofs.«01_k».proof.Proof.InProj.Heads
public import Idealize.ShloMosaic.Lib.Pipeline.Value

@[expose] public section

set_option maxRecDepth 16384

noncomputable section

namespace Cert.Proof.InProj

open Idealize.ShloMosaic Cert.Kernel3Ideal Cert.Kernel3Ideal.Gen

variable (x0 : Vec Ideal S512x2048 .f32) (x1 : Vec Ideal S1x2048 .f32) (x2 : Vec Ideal S2048x2560 .bf16)
  (x3 x4 : Vec Ideal S1x128 .f32) (x5 x6 x7 : Vec Ideal S512x128 .f32) (x8 : Vec Ideal S512x512 .bf16)

theorem ix2_eta {n k : ℕ} (y : (⟨2, ![n, k]⟩ : Shape).Idx) : ∃ (r : Fin n) (d : Fin k), y = ix2 r d :=
  ⟨y 0, y 1, by funext a; match a with | 0 => rfl | 1 => rfl⟩
theorem ix3_eta {n k l : ℕ} (y : (⟨3, ![n, k, l]⟩ : Shape).Idx) : ∃ (r : Fin n) (d : Fin k) (e : Fin l), y = ix3 r d e :=
  ⟨y 0, y 1, y 2, by funext a; match a with | 0 => rfl | 1 => rfl | 2 => rfl⟩

set_option maxHeartbeats 1000000 in
theorem out_queries (y : S512x1024.Idx) : out0_9 (F := Ideal) x0 x1 x2 x3 x4 x5 x6 x7 x8 y = queryAt x0 x1 x2 x3 x5 x6 x7 y := by
  unfold out0_9
  refine View.canon_apply_of_pieces (Val := Elt Ideal) (queryAt x0 x1 x2 x3 x5 x6 x7) _ ?_ y (cover0_9 _ _ _ _ _ _ _ _ y)
  simp only [List.forall_mem_cons, List.not_mem_nil, false_imp_iff, implies_true, and_true, pay68_eq, pay69_eq, pay70_eq, pay71_eq]
  refine ⟨?_, ?_, ?_, ?_, ?_, ?_, ?_, ?_⟩ <;> intro z <;> obtain ⟨r, d, rfl⟩ := ix2_eta z
  · refine (head_7 ..).trans (queryAt_head x0 x1 x2 x3 x5 x6 x7 _ r d 7 _ ?_ ?_ fun d => ?_)
    · show 0 + 1 * r.val = r.val; omega
    · show 896 + 1 * d.val = 128 * 7 + d.val; omega
    · exact (pq_eq .. ).trans (congrArg _ (Fin.ext rfl))
  · refine (head_6 ..).trans (queryAt_head x0 x1 x2 x3 x5 x6 x7 _ r d 6 _ ?_ ?_ fun d => ?_)
    · show 0 + 1 * r.val = r.val; omega
    · show 768 + 1 * d.val = 128 * 6 + d.val; omega
    · exact (pq_eq .. ).trans (congrArg _ (Fin.ext rfl))
  · refine (head_5 ..).trans (queryAt_head x0 x1 x2 x3 x5 x6 x7 _ r d 5 _ ?_ ?_ fun d => ?_)
    · show 0 + 1 * r.val = r.val; omega
    · show 640 + 1 * d.val = 128 * 5 + d.val; omega
    · exact (pq_eq .. ).trans (congrArg _ (Fin.ext rfl))
  · refine (head_4 ..).trans (queryAt_head x0 x1 x2 x3 x5 x6 x7 _ r d 4 _ ?_ ?_ fun d => ?_)
    · show 0 + 1 * r.val = r.val; omega
    · show 512 + 1 * d.val = 128 * 4 + d.val; omega
    · exact (pq_eq .. ).trans (congrArg _ (Fin.ext rfl))
  · refine (head_3 ..).trans (queryAt_head x0 x1 x2 x3 x5 x6 x7 _ r d 3 _ ?_ ?_ fun d => ?_)
    · show 0 + 1 * r.val = r.val; omega
    · show 384 + 1 * d.val = 128 * 3 + d.val; omega
    · exact (pq_eq .. ).trans (congrArg _ (Fin.ext rfl))
  · refine (head_2 ..).trans (queryAt_head x0 x1 x2 x3 x5 x6 x7 _ r d 2 _ ?_ ?_ fun d => ?_)
    · show 0 + 1 * r.val = r.val; omega
    · show 256 + 1 * d.val = 128 * 2 + d.val; omega
    · exact (pq_eq .. ).trans (congrArg _ (Fin.ext rfl))
  · refine (head_1 ..).trans (queryAt_head x0 x1 x2 x3 x5 x6 x7 _ r d 1 _ ?_ ?_ fun d => ?_)
    · show 0 + 1 * r.val = r.val; omega
    · show 128 + 1 * d.val = 128 * 1 + d.val; omega
    · exact (pq_eq .. ).trans (congrArg _ (Fin.ext rfl))
  · refine (head_0 ..).trans (queryAt_head x0 x1 x2 x3 x5 x6 x7 _ r d 0 _ ?_ ?_ fun d => ?_)
    · show 0 + 1 * r.val = r.val; omega
    · show 0 + 1 * d.val = 128 * 0 + d.val; omega
    · exact (first_eq ..).trans (congrArg _ (Fin.ext (by show d.val = 128 * 0 + d.val; omega)))

set_option maxHeartbeats 1000000 in
theorem out_keys (y : S512x256.Idx) : out0_10 (F := Ideal) x0 x1 x2 x3 x4 x5 x6 x7 x8 y = keyAt x0 x1 x2 x4 x5 x6 x7 y := by
  unfold out0_10
  refine View.canon_apply_of_pieces (Val := Elt Ideal) (keyAt x0 x1 x2 x4 x5 x6 x7) _ ?_ y (cover0_10 _ _ y)
  simp only [List.forall_mem_cons, List.not_mem_nil, false_imp_iff, implies_true, and_true, pay68_eq, pay69_eq, pay70_eq, pay72_eq]
  refine ⟨?_, ?_⟩ <;> intro z <;> obtain ⟨r, d, rfl⟩ := ix2_eta z
  · refine (key_1 ..).trans (keyAt_head x0 x1 x2 x4 x5 x6 x7 _ r d 1 _ ?_ ?_ fun d => ?_)
    · show 0 + 1 * r.val = r.val; omega
    · show 128 + 1 * d.val = 128 * 1 + d.val; omega
    · exact (second_eq ..).trans (congrArg _ (Fin.ext rfl))
  · refine (key_0 ..).trans (keyAt_head x0 x1 x2 x4 x5 x6 x7 _ r d 0 _ ?_ ?_ fun d => ?_)
    · show 0 + 1 * r.val = r.val; omega
    · show 0 + 1 * d.val = 128 * 0 + d.val; omega
    · exact (second_eq ..).trans (congrArg _ (Fin.ext (by show 1024 + d.val = 1024 + (128 * 0 + d.val); omega)))

/-- The values' block at an element. -/
def valAt (y : S1x256x512.Idx) : EReal :=
  blockProj x0 x1 x2 (y 2) ⟨1280 + (y 1).val, by have := (y 1).isLt; change (y 1).val < 256 at this; omega⟩

theorem out_vals (y : S1x256x512.Idx) : out0_11 (F := Ideal) x0 x1 x2 x3 x4 x5 x6 x7 x8 y = valAt x0 x1 x2 y := by
  unfold out0_11
  refine View.canon_apply_of_pieces (Val := Elt Ideal) (valAt x0 x1 x2) _ ?_ y (cover0_11 _ y)
  simp only [List.forall_mem_cons, List.not_mem_nil, false_imp_iff, implies_true, and_true]
  intro z; obtain ⟨a, e, r, rfl⟩ := ix3_eta z
  obtain rfl : a = 0 := Subsingleton.elim _ _
  unfold k0_pay66 k0_pay67 View.ld
  pointwise [k0_pay36, k0_pay8, k0_pay9, k0_pay7]
  refine (scaled_eq _ _ _).trans ?_
  unfold valAt blockProj
  have e0 : (r0_17.emb (ix3 0 e r) 2 : Fin 512) = r := Fin.ext (by show 0 + 1 * r.val = r.val; omega)
  have e1 : (r0_17.emb (ix3 0 e r) 1 : Fin 256) = e := Fin.ext (by show 0 + 1 * e.val = e.val; omega)
  rw [e0]
  simp only [e1]

/-- The last columns' block before its rows are rearranged, and after. -/
theorem rearranged_eq (r : Fin 512) (e : Fin 1024) : k0_pay74 (F := Ideal) x0 x1 x2 x3 x4 x5 x6 x7 x8 (ix2 r e)
    = ∑ k : Fin 512, x8 (ix2 r k) * blockProj x0 x1 x2 k ⟨1536 + e.val, by omega⟩ := by
  unfold k0_pay74 k0_pay66 k0_pay67 View.ld
  pointwise [k0_pay37, k0_pay8, k0_pay9, k0_pay7]
  exact Finset.sum_congr rfl fun k _ => congrArg _ (scaled_eq _ _ _)

/-- The last columns' block at an element: sixteen rows of the rearranged block to each run of lanes. -/
def featAt (p : Vec Ideal S512x1024 .bf16) (y : S1x16x32768.Idx) : EReal :=
  p (ix2 ⟨16 * ((y 2).val / 1024) + (y 1).val, by
    have h1 := (y 1).isLt; have h2 := (y 2).isLt; change (y 1).val < 16 at h1; change (y 2).val < 32768 at h2; omega⟩
    ⟨(y 2).val % 1024, by omega⟩)

theorem featAt_piece (p : Vec Ideal S512x1024 .bf16) (i : Fin 16) (e : Fin 1024) (t : Fin 32) (y : S1x16x32768.Idx)
    (h1 : (y 1).val = i.val) (h2 : (y 2).val = 1024 * t.val + e.val) :
    p (ix2 ⟨16 * t.val + i.val, by omega⟩ e) = featAt p y := by
  unfold featAt
  congr 2
  · apply Fin.ext; show 16 * t.val + i.val = 16 * ((y 2).val / 1024) + (y 1).val; omega
  · apply Fin.ext; show e.val = (y 2).val % 1024; omega

set_option maxHeartbeats 4000000 in
theorem out_feats (y : S1x16x32768.Idx) : out0_12 (F := Ideal) x0 x1 x2 x3 x4 x5 x6 x7 x8 y
    = featAt (k0_pay74 (F := Ideal) x0 x1 x2 x3 x4 x5 x6 x7 x8) y := by
  unfold out0_12
  refine View.canon_apply_of_pieces (Val := Elt Ideal) (featAt (k0_pay74 (F := Ideal) x0 x1 x2 x3 x4 x5 x6 x7 x8)) _ ?_ y (cover0_12 _ _ _ _ _ _ _ _ _ _ _ _ _ _ _ _ _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> intro z <;> obtain ⟨a, i, e, rfl⟩ := ix3_eta z <;> obtain rfl : a = 0 := Subsingleton.elim _ _
  · refine (?_ : _ = _).trans (featAt_piece _ i e 31 _ (by show 0 + 1 * i.val = i.val; omega) (by show 31744 + 1 * e.val = 1024 * 31 + e.val; omega))
    pointwise [k0_pay6]
  · refine (?_ : _ = _).trans (featAt_piece _ i e 30 _ (by show 0 + 1 * i.val = i.val; omega) (by show 30720 + 1 * e.val = 1024 * 30 + e.val; omega))
    pointwise [k0_pay5]
  · refine (?_ : _ = _).trans (featAt_piece _ i e 29 _ (by show 0 + 1 * i.val = i.val; omega) (by show 29696 + 1 * e.val = 1024 * 29 + e.val; omega))
    pointwise [k0_pay4]
  · refine (?_ : _ = _).trans (featAt_piece _ i e 28 _ (by show 0 + 1 * i.val = i.val; omega) (by show 28672 + 1 * e.val = 1024 * 28 + e.val; omega))
    pointwise [k0_pay3]
  · refine (?_ : _ = _).trans (featAt_piece _ i e 27 _ (by show 0 + 1 * i.val = i.val; omega) (by show 27648 + 1 * e.val = 1024 * 27 + e.val; omega))
    pointwise [k0_pay2]
  · refine (?_ : _ = _).trans (featAt_piece _ i e 26 _ (by show 0 + 1 * i.val = i.val; omega) (by show 26624 + 1 * e.val = 1024 * 26 + e.val; omega))
    pointwise [k0_pay1]
  · refine (?_ : _ = _).trans (featAt_piece _ i e 25 _ (by show 0 + 1 * i.val = i.val; omega) (by show 25600 + 1 * e.val = 1024 * 25 + e.val; omega))
    pointwise [k0_pay65]
  · refine (?_ : _ = _).trans (featAt_piece _ i e 24 _ (by show 0 + 1 * i.val = i.val; omega) (by show 24576 + 1 * e.val = 1024 * 24 + e.val; omega))
    pointwise [k0_pay64]
  · refine (?_ : _ = _).trans (featAt_piece _ i e 23 _ (by show 0 + 1 * i.val = i.val; omega) (by show 23552 + 1 * e.val = 1024 * 23 + e.val; omega))
    pointwise [k0_pay63]
  · refine (?_ : _ = _).trans (featAt_piece _ i e 22 _ (by show 0 + 1 * i.val = i.val; omega) (by show 22528 + 1 * e.val = 1024 * 22 + e.val; omega))
    pointwise [k0_pay62]
  · refine (?_ : _ = _).trans (featAt_piece _ i e 21 _ (by show 0 + 1 * i.val = i.val; omega) (by show 21504 + 1 * e.val = 1024 * 21 + e.val; omega))
    pointwise [k0_pay61]
  · refine (?_ : _ = _).trans (featAt_piece _ i e 20 _ (by show 0 + 1 * i.val = i.val; omega) (by show 20480 + 1 * e.val = 1024 * 20 + e.val; omega))
    pointwise [k0_pay60]
  · refine (?_ : _ = _).trans (featAt_piece _ i e 19 _ (by show 0 + 1 * i.val = i.val; omega) (by show 19456 + 1 * e.val = 1024 * 19 + e.val; omega))
    pointwise [k0_pay59]
  · refine (?_ : _ = _).trans (featAt_piece _ i e 18 _ (by show 0 + 1 * i.val = i.val; omega) (by show 18432 + 1 * e.val = 1024 * 18 + e.val; omega))
    pointwise [k0_pay58, k0_pay57]
  · refine (?_ : _ = _).trans (featAt_piece _ i e 17 _ (by show 0 + 1 * i.val = i.val; omega) (by show 17408 + 1 * e.val = 1024 * 17 + e.val; omega))
    pointwise [k0_pay56]
  · refine (?_ : _ = _).trans (featAt_piece _ i e 16 _ (by show 0 + 1 * i.val = i.val; omega) (by show 16384 + 1 * e.val = 1024 * 16 + e.val; omega))
    pointwise [k0_pay55]
  · refine (?_ : _ = _).trans (featAt_piece _ i e 15 _ (by show 0 + 1 * i.val = i.val; omega) (by show 15360 + 1 * e.val = 1024 * 15 + e.val; omega))
    pointwise [k0_pay54]
  · refine (?_ : _ = _).trans (featAt_piece _ i e 14 _ (by show 0 + 1 * i.val = i.val; omega) (by show 14336 + 1 * e.val = 1024 * 14 + e.val; omega))
    pointwise [k0_pay53]
  · refine (?_ : _ = _).trans (featAt_piece _ i e 13 _ (by show 0 + 1 * i.val = i.val; omega) (by show 13312 + 1 * e.val = 1024 * 13 + e.val; omega))
    pointwise [k0_pay52]
  · refine (?_ : _ = _).trans (featAt_piece _ i e 12 _ (by show 0 + 1 * i.val = i.val; omega) (by show 12288 + 1 * e.val = 1024 * 12 + e.val; omega))
    pointwise [k0_pay51]
  · refine (?_ : _ = _).trans (featAt_piece _ i e 11 _ (by show 0 + 1 * i.val = i.val; omega) (by show 11264 + 1 * e.val = 1024 * 11 + e.val; omega))
    pointwise [k0_pay50]
  · refine (?_ : _ = _).trans (featAt_piece _ i e 10 _ (by show 0 + 1 * i.val = i.val; omega) (by show 10240 + 1 * e.val = 1024 * 10 + e.val; omega))
    pointwise [k0_pay49]
  · refine (?_ : _ = _).trans (featAt_piece _ i e 9 _ (by show 0 + 1 * i.val = i.val; omega) (by show 9216 + 1 * e.val = 1024 * 9 + e.val; omega))
    pointwise [k0_pay48]
  · refine (?_ : _ = _).trans (featAt_piece _ i e 8 _ (by show 0 + 1 * i.val = i.val; omega) (by show 8192 + 1 * e.val = 1024 * 8 + e.val; omega))
    pointwise [k0_pay47]
  · refine (?_ : _ = _).trans (featAt_piece _ i e 7 _ (by show 0 + 1 * i.val = i.val; omega) (by show 7168 + 1 * e.val = 1024 * 7 + e.val; omega))
    pointwise [k0_pay46]
  · refine (?_ : _ = _).trans (featAt_piece _ i e 6 _ (by show 0 + 1 * i.val = i.val; omega) (by show 6144 + 1 * e.val = 1024 * 6 + e.val; omega))
    pointwise [k0_pay45]
  · refine (?_ : _ = _).trans (featAt_piece _ i e 5 _ (by show 0 + 1 * i.val = i.val; omega) (by show 5120 + 1 * e.val = 1024 * 5 + e.val; omega))
    pointwise [k0_pay44]
  · refine (?_ : _ = _).trans (featAt_piece _ i e 4 _ (by show 0 + 1 * i.val = i.val; omega) (by show 4096 + 1 * e.val = 1024 * 4 + e.val; omega))
    pointwise [k0_pay43]
  · refine (?_ : _ = _).trans (featAt_piece _ i e 3 _ (by show 0 + 1 * i.val = i.val; omega) (by show 3072 + 1 * e.val = 1024 * 3 + e.val; omega))
    pointwise [k0_pay42, k0_pay41]
    rfl
  · refine (?_ : _ = _).trans (featAt_piece _ i e 2 _ (by show 0 + 1 * i.val = i.val; omega) (by show 2048 + 1 * e.val = 1024 * 2 + e.val; omega))
    pointwise [k0_pay40]
    rfl
  · refine (?_ : _ = _).trans (featAt_piece _ i e 1 _ (by show 0 + 1 * i.val = i.val; omega) (by show 1024 + 1 * e.val = 1024 * 1 + e.val; omega))
    pointwise [k0_pay39]
    rfl
  · refine (?_ : _ = _).trans (featAt_piece _ i e 0 _ (by show 0 + 1 * i.val = i.val; omega) (by show 0 + 1 * e.val = 1024 * 0 + e.val; omega))
    pointwise [k0_pay38]
    exact congrArg (k0_pay74 (F := Ideal) x0 x1 x2 x3 x4 x5 x6 x7 x8) (congrArg (fun q => ix2 q e) (Fin.ext (by simp)))

end Cert.Proof.InProj

end
-- ==== Proof.InProj.Blocks.lean ====
/- The input projection's four results: each point's blocks, read from the arguments, are the results' own blocks. -/
module

public import proofs.«01_k».proof.Proof.InProj.Tables
public import proofs.«01_k».proof.Proof.InProj.Outs
public import Idealize.ShloMosaic.Lib.Claim
public import Idealize.ShloMosaic.Lib.Pipeline.ValueKit

@[expose] public section

set_option maxRecDepth 16384

noncomputable section

namespace Cert.Kernel3Ideal.InProj

open Cert.Kernel3Ideal.Gen Cert.Proof.InProj
open Idealize.ShloMosaic Idealize.ShloMosaic.TcCoe

/-- A head turned by the tables' factors is the head turned pair by pair. -/
theorem turn_rope (z : Fin 128 → EReal) (s : Fin 8192) (d : Fin 128) :
    turn z (Ideal.cos (angle s (axis d) (freq d))) (if d.val / 32 % 2 < 1 then -Ideal.sin (angle s (axis d) (freq d)) else 0)
      (if d.val / 32 % 2 < 1 then 0 else Ideal.sin (angle s (axis d) (freq d))) d = rope z s d := by
  unfold turn rope
  by_cases h : d.val / 32 % 2 < 1
  · have e1 : lowLane d = d := by apply Fin.ext; show d.val / 64 * 64 + d.val % 32 = d.val; omega
    have e2 : highLane d = ⟨(d.val + 128 - 96) % 128, by omega⟩ := by
      apply Fin.ext; show d.val / 64 * 64 + 32 + d.val % 32 = (d.val + 128 - 96) % 128; omega
    rw [if_pos h, if_pos h, if_pos h, e1, e2, mul_zero, add_zero, mul_neg, sub_eq_add_neg]
  · have e1 : highLane d = d := by apply Fin.ext; show d.val / 64 * 64 + 32 + d.val % 32 = d.val; omega
    have e2 : lowLane d = ⟨(d.val + 128 - 32) % 128, by omega⟩ := by
      apply Fin.ext; show d.val / 64 * 64 + d.val % 32 = (d.val + 128 - 32) % 128; omega
    rw [if_neg h, if_neg h, if_neg h, e1, e2, mul_zero, add_zero]

variable (m : (ℓ : Loc nD τ sig) → Buf (Elt Ideal) ℓ) (c : Dev nD) (t : Fin cfg0.N)

theorem lt_points : t.val < 64 := t.isLt

theorem idx_0 : (cfg0.win 0).index t = ![t.val, 0] :=
  (by decide +kernel : ∀ t : Fin grid0.N, cc0_transform_0 (grid0.coords t) = ![t.val, 0]) t
theorem idx_1 : (cfg0.win 1).index t = ![0, 0] :=
  (by decide +kernel : ∀ t : Fin grid0.N, cc0_transform_1 (grid0.coords t) = ![0, 0]) t
theorem idx_2 : (cfg0.win 2).index t = ![0, 0] :=
  (by decide +kernel : ∀ t : Fin grid0.N, cc0_transform_2 (grid0.coords t) = ![0, 0]) t
theorem idx_3 : (cfg0.win 3).index t = ![0, 0] :=
  (by decide +kernel : ∀ t : Fin grid0.N, cc0_transform_3 (grid0.coords t) = ![0, 0]) t
theorem idx_4 : (cfg0.win 4).index t = ![0, 0] :=
  (by decide +kernel : ∀ t : Fin grid0.N, cc0_transform_4 (grid0.coords t) = ![0, 0]) t
theorem idx_5 : (cfg0.win 5).index t = ![t.val % 16, 0] :=
  (by decide +kernel : ∀ t : Fin grid0.N, cc0_transform_5 (grid0.coords t) = ![t.val % 16, 0]) t
theorem idx_6 : (cfg0.win 6).index t = ![t.val % 16, 0] :=
  (by decide +kernel : ∀ t : Fin grid0.N, cc0_transform_6 (grid0.coords t) = ![t.val % 16, 0]) t
theorem idx_7 : (cfg0.win 7).index t = ![t.val % 16, 0] :=
  (by decide +kernel : ∀ t : Fin grid0.N, cc0_transform_7 (grid0.coords t) = ![t.val % 16, 0]) t
theorem idx_8 : (cfg0.win 8).index t = ![0, 0] :=
  (by decide +kernel : ∀ t : Fin grid0.N, cc0_transform_8 (grid0.coords t) = ![0, 0]) t
theorem idx_9 : (cfg0.win 9).index t = ![t.val, 0] :=
  (by decide +kernel : ∀ t : Fin grid0.N, cc0_transform_9 (grid0.coords t) = ![t.val, 0]) t
theorem idx_10 : (cfg0.win 10).index t = ![t.val, 0] :=
  (by decide +kernel : ∀ t : Fin grid0.N, cc0_transform_10 (grid0.coords t) = ![t.val, 0]) t
theorem idx_11 : (cfg0.win 11).index t = ![t.val / 16, 0, t.val % 16] :=
  (by decide +kernel : ∀ t : Fin grid0.N, cc0_transform_11 (grid0.coords t) = ![t.val / 16, 0, t.val % 16]) t
theorem idx_12 : (cfg0.win 12).index t = ![t.val / 16, t.val % 16, 0] :=
  (by decide +kernel : ∀ t : Fin grid0.N, cc0_transform_12 (grid0.coords t) = ![t.val / 16, t.val % 16, 0]) t

/-- The row of the results that row `r` of point `t`'s block is. -/
abbrev row (r : Fin 512) : Fin 32768 := ⟨512 * t.val + r.val, by have := lt_points t; omega⟩
abbrev slot (r : Fin 512) : Fin 8192 := ⟨512 * (t.val % 16) + r.val, by omega⟩

theorem token_row (r : Fin 512) : token (row t r) = slot t r := by
  apply Fin.ext; show (512 * t.val + r.val) % 8192 = 512 * (t.val % 16) + r.val; omega

theorem block_0 (r : Fin 512) (k : Fin 2048) : iblk m c 0 t (ix2 r k) = tokens m c (ix3 (batch (row t r)) (token (row t r)) k) := by
  rw [← token_at]; have := lt_points t; blk_ext [iblk, idx_0 t]
theorem block_1 (k : Fin 2048) : iblk m c 1 t (ix2 0 k) = scale m c (ix2 0 k) := by
  rw [← scale_at]; blk_ext [iblk, idx_1 t]
theorem block_2 (k : Fin 2048) (e : Fin 2560) : iblk m c 2 t (ix2 k e) = weights m c (ix3 0 k e) := by
  rw [← weight_at]; blk_ext [iblk, idx_2 t]
theorem block_3 (k : Fin 128) : iblk m c 3 t (ix2 0 k) = qScale m c (ix2 0 k) := by
  rw [← qScale_at]; blk_ext [iblk, idx_3 t]
theorem block_4 (k : Fin 128) : iblk m c 4 t (ix2 0 k) = kScale m c (ix2 0 k) := by
  rw [← kScale_at]; blk_ext [iblk, idx_4 t]
theorem block_5 (r : Fin 512) (d : Fin 128) : iblk m c 5 t (ix2 r d) = Ideal.cos (angle (token (row t r)) (axis d) (freq d)) := by
  rw [token_row, ← cos_at m c]; blk_ext [iblk, idx_5 t]
theorem block_6 (r : Fin 512) (d : Fin 128) : iblk m c 6 t (ix2 r d)
    = if d.val / 32 % 2 < 1 then -Ideal.sin (angle (token (row t r)) (axis d) (freq d)) else 0 := by
  rw [token_row, ← low_at m c]; blk_ext [iblk, idx_6 t]
theorem block_7 (r : Fin 512) (d : Fin 128) : iblk m c 7 t (ix2 r d)
    = if d.val / 32 % 2 < 1 then 0 else Ideal.sin (angle (token (row t r)) (axis d) (freq d)) := by
  rw [token_row, ← high_at m c]; blk_ext [iblk, idx_7 t]
theorem block_8 (r k : Fin 512) : iblk m c 8 t (ix2 r k) = if k.val = r.val % 16 * 32 + r.val / 16 then (1 : EReal) else 0 := by
  rw [← perm_at m c]; blk_ext [iblk, idx_8 t]

/-- A block's row, projected, is its token's. -/
theorem blockProj_eq (r : Fin 512) (e : Fin 2560) : blockProj (iblk m c 0 t) (iblk m c 1 t) (iblk m c 2 t) r e
    = proj (tokens m c) (scale m c) (weights m c) (batch (row t r)) (token (row t r)) e := by
  unfold blockProj proj
  simp only [block_0 m c t, block_1 m c t, block_2 m c t]

/-- The four results as whole arrays. -/
def Gq : Vec Ideal S32768x1024 .bf16 := fun y => queries (tokens m c) (scale m c) (weights m c) (qScale m c) (y 0) (y 1)
def Gk : Vec Ideal S32768x256 .bf16 := fun y => keys (tokens m c) (scale m c) (weights m c) (kScale m c) (y 0) (y 1)
def Gv : Vec Ideal S4x256x8192 .bf16 := fun y => vals (tokens m c) (scale m c) (weights m c) (y 0) (y 1) (y 2)
def Gf : Vec Ideal S4x256x32768 .bf16 := fun y => feats (tokens m c) (scale m c) (weights m c) (y 0) (y 1) (y 2)

theorem query_block (r : Fin 512) (e : Fin 1024) : queryAt (iblk m c 0 t) (iblk m c 1 t) (iblk m c 2 t) (iblk m c 3 t) (iblk m c 5 t)
    (iblk m c 6 t) (iblk m c 7 t) (ix2 r e) = Gq m c (ix2 (row t r) e) := by
  show headAt (fun d => blockProj (iblk m c 0 t) (iblk m c 1 t) (iblk m c 2 t) r ⟨e.val / 128 * 128 + d.val, _⟩) (iblk m c 3 t)
    (iblk m c 5 t) (iblk m c 6 t) (iblk m c 7 t) r ⟨e.val % 128, _⟩ = queries _ _ _ _ (row t r) e
  unfold headAt queries
  simp only [blockProj_eq m c t, block_3 m c t, block_5 m c t, block_6 m c t, block_7 m c t]
  exact turn_rope _ _ _

theorem key_block (r : Fin 512) (e : Fin 256) : keyAt (iblk m c 0 t) (iblk m c 1 t) (iblk m c 2 t) (iblk m c 4 t) (iblk m c 5 t)
    (iblk m c 6 t) (iblk m c 7 t) (ix2 r e) = Gk m c (ix2 (row t r) e) := by
  show headAt (fun d => blockProj (iblk m c 0 t) (iblk m c 1 t) (iblk m c 2 t) r ⟨1024 + (e.val / 128 * 128 + d.val), _⟩) (iblk m c 4 t)
    (iblk m c 5 t) (iblk m c 6 t) (iblk m c 7 t) r ⟨e.val % 128, _⟩ = keys _ _ _ _ (row t r) e
  unfold headAt keys
  simp only [blockProj_eq m c t, block_4 m c t, block_5 m c t, block_6 m c t, block_7 m c t]
  exact turn_rope _ _ _

abbrev batchOf : Fin 4 := ⟨t.val / 16, by have := lt_points t; omega⟩

theorem batch_row (r : Fin 512) : batch (row t r) = batchOf t := by
  apply Fin.ext; show (512 * t.val + r.val) / 8192 = t.val / 16; omega

theorem val_block (e : Fin 256) (r : Fin 512) : valAt (iblk m c 0 t) (iblk m c 1 t) (iblk m c 2 t) (ix3 0 e r)
    = Gv m c (ix3 (batchOf t) e (slot t r)) := by
  refine (blockProj_eq m c t r _).trans ?_
  rw [batch_row, token_row]
  rfl

/-- The row of the last result that row `i` of point `t`'s block is. -/
abbrev run (i : Fin 16) : Fin 256 := ⟨16 * (t.val % 16) + i.val, by omega⟩

theorem feat_block (i : Fin 16) (j : Fin 32768) : featAt (k0_pay74 (F := Ideal) (iblk m c 0 t) (iblk m c 1 t) (iblk m c 2 t) (iblk m c 3 t)
    (iblk m c 4 t) (iblk m c 5 t) (iblk m c 6 t) (iblk m c 7 t) (iblk m c 8 t)) (ix3 0 i j) = Gf m c (ix3 (batchOf t) (run t i) j) := by
  refine (rearranged_eq _ _ _ _ _ _ _ _ _ _ _).trans ?_
  simp only [block_8 m c t, blockProj_eq m c t]
  have hr : i.val * 32 + j.val / 1024 < 512 := by omega
  rw [Finset.sum_eq_single (⟨i.val * 32 + j.val / 1024, hr⟩ : Fin 512)]
  · rw [if_pos (by show i.val * 32 + j.val / 1024 = (16 * (j.val / 1024) + i.val) % 16 * 32 + (16 * (j.val / 1024) + i.val) / 16; omega),
      one_mul, batch_row, token_row]
    refine congrArg (fun s => proj _ _ _ _ s _) (Fin.ext ?_)
    show 512 * (t.val % 16) + (i.val * 32 + j.val / 1024) = (16 * (t.val % 16) + i.val) * 32 + j.val / 1024
    omega
  · intro k _ hk
    rw [if_neg, zero_mul]
    intro h
    apply hk
    apply Fin.ext
    have h' : k.val = (16 * (j.val / 1024) + i.val) % 16 * 32 + (16 * (j.val / 1024) + i.val) / 16 := h
    show k.val = i.val * 32 + j.val / 1024
    omega
  · intro h; exact absurd (Finset.mem_univ _) h

end Cert.Kernel3Ideal.InProj

end
-- ==== Proof.InProj.Result.lean ====
/- The input projection's four result arrays after the run: the points' blocks make up each of them. -/
module

public import proofs.«01_k».proof.Proof.InProj.Blocks
public import Idealize.ShloMosaic.Lib.Pipeline.Covers

@[expose] public section

set_option maxRecDepth 16384

noncomputable section

namespace Cert.Kernel3Ideal.InProj

open Cert.Kernel3Ideal.Gen Cert.Proof.InProj
open Idealize.ShloMosaic Idealize.ShloMosaic.TcCoe

variable (m : (ℓ : Loc nD τ sig) → Buf (Elt Ideal) ℓ) (c : Dev nD)

theorem covers_9 : (cfg0.win 9).Covers :=
  (cfg0.win 9).covers_of_index_surj rfl (fun a => (by decide : ∀ a : Fin 2, 0 < S512x1024.size a) a) fun β => by
    have h0 : (β 0).val < 64 := (β 0).isLt
    have h1 : (β 1).val < 1 := (β 1).isLt
    refine ⟨⟨(β 0).val, h0⟩, fun a => (congrFun (idx_9 _) a).trans ?_⟩
    match a with
    | 0 => rfl
    | 1 => show 0 = (β 1).val; omega

theorem place_9 (t : Fin cfg0.N) (r : Fin 512) (e : Fin 1024) :
    (((cfg0.win 9).blk t).view.emb (ix2 r e : S512x1024.Idx) : S32768x1024.Idx) = ix2 (row t r) e := by
  have := lt_points t
  blk_ext [idx_9 t]

theorem final_9 : (dats m 0 c).arrAt 9 cfg0.N = Gq m c := by
  refine (dats m 0 c).arrAt_eq_of_covers 9 _ covers_9 fun t hf y => ?_
  blk_simp
  rw [after0_9]
  have hy : ∃ (r : Fin 512) (e : Fin 1024), y = ix2 r e := ix2_eta y
  obtain ⟨r, e, rfl⟩ := hy
  exact (out_queries _ _ _ _ _ _ _ _ _ _).trans ((query_block m c t r e).trans (congrArg (Gq m c) (place_9 t r e)).symm)

theorem covers_10 : (cfg0.win 10).Covers :=
  (cfg0.win 10).covers_of_index_surj rfl (fun a => (by decide : ∀ a : Fin 2, 0 < S512x256.size a) a) fun β => by
    have h0 : (β 0).val < 64 := (β 0).isLt
    have h1 : (β 1).val < 1 := (β 1).isLt
    refine ⟨⟨(β 0).val, h0⟩, fun a => (congrFun (idx_10 _) a).trans ?_⟩
    match a with
    | 0 => rfl
    | 1 => show 0 = (β 1).val; omega

theorem place_10 (t : Fin cfg0.N) (r : Fin 512) (e : Fin 256) :
    (((cfg0.win 10).blk t).view.emb (ix2 r e : S512x256.Idx) : S32768x256.Idx) = ix2 (row t r) e := by
  have := lt_points t
  blk_ext [idx_10 t]

theorem final_10 : (dats m 0 c).arrAt 10 cfg0.N = Gk m c := by
  refine (dats m 0 c).arrAt_eq_of_covers 10 _ covers_10 fun t hf y => ?_
  blk_simp
  rw [after0_10]
  have hy : ∃ (r : Fin 512) (e : Fin 256), y = ix2 r e := ix2_eta y
  obtain ⟨r, e, rfl⟩ := hy
  exact (out_keys _ _ _ _ _ _ _ _ _ _).trans ((key_block m c t r e).trans (congrArg (Gk m c) (place_10 t r e)).symm)

theorem covers_11 : (cfg0.win 11).Covers :=
  (cfg0.win 11).covers_of_index_surj rfl (fun a => (by decide : ∀ a : Fin 3, 0 < S1x256x512.size a) a) fun β => by
    have h0 : (β 0).val < 4 := (β 0).isLt
    have h1 : (β 2).val < 16 := (β 2).isLt
    have h2 : (β 1).val < 1 := (β 1).isLt
    refine ⟨⟨16 * (β 0).val + (β 2).val, by show _ < 64; omega⟩, fun a => (congrFun (idx_11 _) a).trans ?_⟩
    match a with
    | 0 => show (16 * (β 0).val + (β 2).val) / 16 = (β 0).val; omega
    | 1 => show 0 = (β 1).val; omega
    | 2 => show (16 * (β 0).val + (β 2).val) % 16 = (β 2).val; omega

theorem place_11 (t : Fin cfg0.N) (e : Fin 256) (r : Fin 512) :
    (((cfg0.win 11).blk t).view.emb (ix3 0 e r : S1x256x512.Idx) : S4x256x8192.Idx) = ix3 (batchOf t) e (slot t r) := by
  have := lt_points t
  blk_ext [idx_11 t]

theorem final_11 : (dats m 0 c).arrAt 11 cfg0.N = Gv m c := by
  refine (dats m 0 c).arrAt_eq_of_covers 11 _ covers_11 fun t hf y => ?_
  blk_simp
  rw [after0_11]
  have hy : ∃ (a : Fin 1) (e : Fin 256) (r : Fin 512), y = ix3 a e r := ix3_eta y
  obtain ⟨a, e, r, rfl⟩ := hy
  obtain rfl : a = 0 := Subsingleton.elim _ _
  exact (out_vals _ _ _ _ _ _ _ _ _ _).trans ((val_block m c t e r).trans (congrArg (Gv m c) (place_11 t e r)).symm)

theorem covers_12 : (cfg0.win 12).Covers :=
  (cfg0.win 12).covers_of_index_surj rfl (fun a => (by decide : ∀ a : Fin 3, 0 < S1x16x32768.size a) a) fun β => by
    have h0 : (β 0).val < 4 := (β 0).isLt
    have h1 : (β 1).val < 16 := (β 1).isLt
    have h2 : (β 2).val < 1 := (β 2).isLt
    refine ⟨⟨16 * (β 0).val + (β 1).val, by show _ < 64; omega⟩, fun a => (congrFun (idx_12 _) a).trans ?_⟩
    match a with
    | 0 => show (16 * (β 0).val + (β 1).val) / 16 = (β 0).val; omega
    | 1 => show (16 * (β 0).val + (β 1).val) % 16 = (β 1).val; omega
    | 2 => show 0 = (β 2).val; omega

theorem place_12 (t : Fin cfg0.N) (e : Fin 16) (r : Fin 32768) :
    (((cfg0.win 12).blk t).view.emb (ix3 0 e r : S1x16x32768.Idx) : S4x256x32768.Idx) = ix3 (batchOf t) (run t e) r := by
  have := lt_points t
  blk_ext [idx_12 t]

theorem final_12 : (dats m 0 c).arrAt 12 cfg0.N = Gf m c := by
  refine (dats m 0 c).arrAt_eq_of_covers 12 _ covers_12 fun t hf y => ?_
  blk_simp
  rw [after0_12]
  have hy : ∃ (a : Fin 1) (e : Fin 16) (r : Fin 32768), y = ix3 a e r := ix3_eta y
  obtain ⟨a, e, r, rfl⟩ := hy
  obtain rfl : a = 0 := Subsingleton.elim _ _
  exact (out_feats _ _ _ _ _ _ _ _ _ _).trans ((feat_block m c t e r).trans (congrArg (Gf m c) (place_12 t e r)).symm)

end Cert.Kernel3Ideal.InProj

end
-- ==== Proof.InProj.Reference.lean ====
/- The reference program's four results at an element. -/
module

public import proofs.«01_k».proof.Proof.InProj.Spec
public import proofs.«01_k».proof.Proof.Gen.Reference3Ideal.Read

@[expose] public section

set_option maxRecDepth 16384

noncomputable section

namespace Cert.Proof.InProj

open Idealize.ShloMosaic Cert.Reference3Ideal Cert.Reference3Ideal.Read

variable (x : Vec Ideal S4x8192x2048 .f32) (g : Vec Ideal S1x2048 .f32) (w : Vec Ideal S1x2048x2560 .f32) (qg kg : Vec Ideal S1x128 .f32)

theorem proj_eq (b : Fin 4) (s : Fin 8192) (e : Fin 2560) : val_main_v15 (F := Ideal) x g w (ix3 b s e) = proj x g w b s e := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  rfl

theorem angle_eq (s : Fin 8192) (a : Fin 2) (f : Fin 32) : val_main_v47 (F := Ideal) (ix3 s a f) = angle s a f := by
  pointwise [val_main_v47, val_main_v46, val_main_v45, val_main_v44, val_main_v43, val_main_v42, val_main_v41, val_main_v40,
    val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_cst_2, val_main_cst_3]
  unfold angle
  split <;> rfl

theorem cos_eq (s : Fin 8192) (a : Fin 2) (f : Fin 32) : val_main_v48 (F := Ideal) (ix3 s a f) = Ideal.cos (angle s a f) := by
  rw [← angle_eq]; rfl
theorem sin_eq (s : Fin 8192) (a : Fin 2) (f : Fin 32) : val_main_v49 (F := Ideal) (ix3 s a f) = Ideal.sin (angle s a f) := by
  rw [← angle_eq]; rfl

theorem head_q (b : Fin 4) (s : Fin 8192) (h : Fin 8) (d : Fin 128) : val_main_v63 (F := Ideal) x g w qg (ix4 b s h d)
    = unit (fun d => proj x g w b s ⟨h.val * 128 + d.val, by omega⟩) (fun d => qg (ix2 0 d)) d := by
  pointwise [val_main_v63, val_main_v62, val_main_v61, val_main_v60, val_main_v59, val_main_v58, val_main_v57, val_main_v56,
    val_main_v55, val_main_v54, val_main_v53, val_main_v52, val_main_v51, val_main_v50, val_main_v17, val_main_v16,
    val_main_cst_4, val_main_cst_5, val_main_cst_6]
  simp only [proj_eq]
  rfl

theorem head_k (b : Fin 4) (s : Fin 8192) (h : Fin 2) (d : Fin 128) : val_main_v102 (F := Ideal) x g w kg (ix4 b s h d)
    = unit (fun d => proj x g w b s ⟨1024 + (h.val * 128 + d.val), by omega⟩) (fun d => kg (ix2 0 d)) d := by
  pointwise [val_main_v102, val_main_v101, val_main_v100, val_main_v99, val_main_v98, val_main_v97, val_main_v96, val_main_v95,
    val_main_v94, val_main_v93, val_main_v92, val_main_v91, val_main_v90, val_main_v89, val_main_v19, val_main_v18,
    val_main_cst_7, val_main_cst_8, val_main_cst_9]
  simp only [proj_eq]
  rfl

/-- A head's lane `e % 128`: its pair's lanes, axis and frequency, read from the column. -/
theorem rope_column (z : Fin 128 → EReal) (s : Fin 8192) (n : ℕ) (h1 h2 h3 h4) (hn : n % 128 < 128) :
    (if _h : n / 32 % 2 < 1 then
      z ⟨n / 64 % 2 * 64 + n % 32, h1⟩ * Ideal.cos (angle s ⟨n / 64 % 2, h3⟩ ⟨n % 32, h4⟩)
        - z ⟨n / 64 % 2 * 64 + 32 + n % 32, h2⟩ * Ideal.sin (angle s ⟨n / 64 % 2, h3⟩ ⟨n % 32, h4⟩)
    else
      z ⟨n / 64 % 2 * 64 + 32 + n % 32, h2⟩ * Ideal.cos (angle s ⟨n / 64 % 2, h3⟩ ⟨n % 32, h4⟩)
        + z ⟨n / 64 % 2 * 64 + n % 32, h1⟩ * Ideal.sin (angle s ⟨n / 64 % 2, h3⟩ ⟨n % 32, h4⟩)) = rope z s ⟨n % 128, hn⟩ := by
  have e1 : (⟨n / 64 % 2 * 64 + n % 32, h1⟩ : Fin 128) = lowLane ⟨n % 128, hn⟩ := by
    apply Fin.ext; show n / 64 % 2 * 64 + n % 32 = n % 128 / 64 * 64 + n % 128 % 32; omega
  have e2 : (⟨n / 64 % 2 * 64 + 32 + n % 32, h2⟩ : Fin 128) = highLane ⟨n % 128, hn⟩ := by
    apply Fin.ext; show n / 64 % 2 * 64 + 32 + n % 32 = n % 128 / 64 * 64 + 32 + n % 128 % 32; omega
  have e3 : (⟨n / 64 % 2, h3⟩ : Fin 2) = axis ⟨n % 128, hn⟩ := by
    apply Fin.ext; show n / 64 % 2 = n % 128 / 64; omega
  have e4 : (⟨n % 32, h4⟩ : Fin 32) = freq ⟨n % 128, hn⟩ := by
    apply Fin.ext; show n % 32 = n % 128 % 32; omega
  have e5 : (n % 128) / 32 % 2 = n / 32 % 2 := by omega
  rw [e1, e2, e3, e4]
  unfold rope
  show _ = if (n % 128) / 32 % 2 < 1 then _ else _
  rw [e5]
  split <;> rfl

theorem queries_eq (r : Fin 32768) (e : Fin 1024) : val_main_v129 (F := Ideal) x g w qg (ix2 r e) = queries x g w qg r e := by
  pointwise [val_main_v129, val_main_v128, val_main_v88, val_main_v87, val_main_v86, val_main_v85, val_main_v84, val_main_v83,
    val_main_v82, val_main_v81, val_main_v80, val_main_v79, val_main_v78, val_main_v77, val_main_v76, val_main_v75, val_main_v74,
    val_main_v73, val_main_v72, val_main_v71, val_main_v70, val_main_v69, val_main_v68, val_main_v67, val_main_v66, val_main_v65,
    val_main_v64]
  simp only [head_q, cos_eq, sin_eq]
  exact rope_column (unit (fun d => proj x g w (batch r) (token r) ⟨e.val / 128 * 128 + d.val, by omega⟩) fun d => qg (ix2 0 d))
    (token r) e.val (by omega) (by omega) (by omega) (by omega) (by omega)

theorem keys_eq (r : Fin 32768) (e : Fin 256) : val_main_v131 (F := Ideal) x g w kg (ix2 r e) = keys x g w kg r e := by
  pointwise [val_main_v131, val_main_v130, val_main_v127, val_main_v126, val_main_v125, val_main_v124, val_main_v123, val_main_v122,
    val_main_v121, val_main_v120, val_main_v119, val_main_v118, val_main_v117, val_main_v116, val_main_v115, val_main_v114,
    val_main_v113, val_main_v112, val_main_v111, val_main_v110, val_main_v109, val_main_v108, val_main_v107, val_main_v106,
    val_main_v105, val_main_v104, val_main_v103]
  simp only [head_k, cos_eq, sin_eq]
  exact rope_column (unit (fun d => proj x g w (batch r) (token r) ⟨1024 + (e.val / 128 * 128 + d.val), by omega⟩) fun d => kg (ix2 0 d))
    (token r) e.val (by omega) (by omega) (by omega) (by omega) (by omega)

theorem vals_eq (b : Fin 4) (e : Fin 256) (s : Fin 8192) : val_main_v133 (F := Ideal) x g w (ix3 b e s) = vals x g w b e s := by
  pointwise [val_main_v133, val_main_v132, val_main_v20]
  exact proj_eq x g w b s _

theorem feats_eq (b : Fin 4) (i : Fin 256) (j : Fin 32768) : val_main_v135 (F := Ideal) x g w (ix3 b i j) = feats x g w b i j := by
  pointwise [val_main_v135, val_main_v134, val_main_v21]
  exact proj_eq x g w b _ _

end Cert.Proof.InProj

end
-- ==== Proof.InProj.Claims.lean ====
/- The input projection's value claim: at `Ideal` its four result arrays are the reference's. -/
module

public import proofs.«01_k».proof.Defs
public import proofs.«01_k».proof.Proof.Gen.Reference3Ideal.Run
public import proofs.«01_k».proof.Proof.Gen.Reference3Ideal.Read
public import proofs.«01_k».proof.Proof.Gen.Kernel3Ideal.Value
public import proofs.«01_k».proof.Proof.InProj.Result
public import proofs.«01_k».proof.Proof.InProj.Reference

@[expose] public section

set_option maxRecDepth 16384

noncomputable section

open Idealize.ShloMosaic Idealize.ShloMosaic.TcCoe Idealize.SL.Sem

namespace Cert.Proof.InProj

open Cert.Kernel3Ideal.InProj

theorem frame_reference : Cert.quiescent_Reference3Ideal := fun m ρ _ =>
  (θ_run Cert.Reference3Ideal.defs _ _).mono (fun r h => ⟨fun c => (h c).2.2.2.2, Idealize.ShloMosaic.sem_eq_zero_of_no_sems (by decide) r.2⟩)
    (Cert.Reference3Ideal.Value.run (F := Ideal) m ρ)

variable (m : (ℓ : Loc Cert.Kernel3Ideal.nD Cert.Kernel3Ideal.τ Cert.Kernel3Ideal.sig) → Buf (Elt Ideal) ℓ) (c : Dev Cert.Kernel3Ideal.nD)

/-- The reference's queries, from the kernel's arguments, are the kernel's. -/
theorem reference_queries : Cert.Reference3Ideal.Read.val_main_v129 (F := Ideal) (tokens m c) (scale m c) (weights m c) (qScale m c) = Gq m c := by
  funext y
  obtain ⟨r, e, rfl⟩ := ix2_eta y
  exact queries_eq _ _ _ _ r e

/-- The reference's keys are the kernel's. -/
theorem reference_keys : Cert.Reference3Ideal.Read.val_main_v131 (F := Ideal) (tokens m c) (scale m c) (weights m c) (kScale m c) = Gk m c := by
  funext y
  obtain ⟨r, e, rfl⟩ := ix2_eta y
  exact keys_eq _ _ _ _ r e

/-- The reference's values are the kernel's. -/
theorem reference_vals : Cert.Reference3Ideal.Read.val_main_v133 (F := Ideal) (tokens m c) (scale m c) (weights m c) = Gv m c := by
  funext y
  obtain ⟨b, e, s, rfl⟩ := ix3_eta y
  exact vals_eq _ _ _ b e s

/-- The reference's input of the Fourier mixing is the kernel's. -/
theorem reference_feats : Cert.Reference3Ideal.Read.val_main_v135 (F := Ideal) (tokens m c) (scale m c) (weights m c) = Gf m c := by
  funext y
  obtain ⟨b, i, j, rfl⟩ := ix3_eta y
  exact feats_eq _ _ _ b i j

set_option maxHeartbeats 1000000 in
/-- At `Ideal` the kernel's four result arrays and the reference's agree. -/
theorem algebraic : Cert.algebraic_Kernel3Ideal_Reference3Ideal := by
  intro m g m' g' _ hagree
  refine ⟨fun c => Gq m c, fun c => Gk m c, fun c => Gv m c, fun c => Gf m c, ?_, ?_⟩
  · exact (θ_run Cert.Kernel3Ideal.defs _ _).mono (fun r hr c => ⟨(hr c).1.trans (final_9 m c), (hr c).2.1.trans (final_10 m c),
      (hr c).2.2.1.trans (final_11 m c), (hr c).2.2.2.1.trans (final_12 m c), (hr c).2.2.2.2⟩) (Cert.Kernel3Ideal.Value.run_blocks m g)
  · refine (θ_run Cert.Reference3Ideal.defs _ _).mono (fun r hr c => ⟨?_, ?_, ?_, ?_, (hr c).2.2.2.2⟩) (Cert.Reference3Ideal.Value.run (F := Ideal) m' g')
    · refine (hr c).1.trans ((Cert.Reference3Ideal.Read.val_main_v129_eq (F := Ideal) m' c).trans ?_)
      rw [(hagree c).1, (hagree c).2.1, (hagree c).2.2.1, (hagree c).2.2.2.1]
      exact reference_queries m c
    · refine (hr c).2.1.trans ((Cert.Reference3Ideal.Read.val_main_v131_eq (F := Ideal) m' c).trans ?_)
      rw [(hagree c).1, (hagree c).2.1, (hagree c).2.2.1, (hagree c).2.2.2.2]
      exact reference_keys m c
    · refine (hr c).2.2.1.trans ((Cert.Reference3Ideal.Read.val_main_v133_eq (F := Ideal) _ _ _).trans ?_)
      rw [(hagree c).1, (hagree c).2.1, (hagree c).2.2.1]
      exact reference_vals m c
    · refine (hr c).2.2.2.1.trans ((Cert.Reference3Ideal.Read.val_main_v135_eq (F := Ideal) _ _ _).trans ?_)
      rw [(hagree c).1, (hagree c).2.1, (hagree c).2.2.1]
      exact reference_feats m c

end Cert.Proof.InProj

end
-- ==== Proof.Sample.Spec.lean ====
/- For the sample batch, what both programs compute of one token: its normalized row against the weights, a head's normalized and
   turned lanes, and the angles they are turned by. -/
module

public import Idealize.ShloMosaic.Lib.Pointwise
public import proofs.«01_k».proof.Reference4Ideal
public import proofs.«01_k».proof.Proof.InProj.Spec

@[expose] public section

set_option maxRecDepth 16384

noncomputable section

namespace Cert.Proof.Sample

open Idealize.ShloMosaic Cert.Reference4Ideal
open Cert.Proof.InProj (invRms rowProj unit axis freq lowLane highLane)

/-- The angle of token `s` on axis `a` (its row, or its column) at frequency `f`. -/
def angle (s : Fin 2048) (a : Fin 2) (f : Fin 32) : EReal :=
  (FloatOps.sitofp FTy.f32 (BitVec.ofNat 32 (if a.val < 1 then s.val / 64 else s.val % 64)) : Ideal .f32) *
    Ideal.exp (Ideal.div (Ideal.ofBits FTy.f32 3247660430#32 * (FloatOps.sitofp FTy.f32 (BitVec.ofNat 32 f.val) : Ideal .f32))
      (Ideal.ofBits FTy.f32 1115684864#32))

/-- A head's lanes turned by the token's angles, pair by pair. -/
def rope (z : Fin 128 → EReal) (s : Fin 2048) (d : Fin 128) : EReal :=
  if d.val / 32 % 2 < 1 then
    z (lowLane d) * Ideal.cos (angle s (axis d) (freq d)) - z (highLane d) * Ideal.sin (angle s (axis d) (freq d))
  else
    z (highLane d) * Ideal.cos (angle s (axis d) (freq d)) + z (lowLane d) * Ideal.sin (angle s (axis d) (freq d))

variable (x : Vec Ideal S8x2048x2048 .f32) (g : Vec Ideal S1x2048 .f32) (w : Vec Ideal S1x2048x2560 .f32)

/-- Token `s` of batch `b`, projected to column `e`. -/
def proj (b : Fin 8) (s : Fin 2048) (e : Fin 2560) : EReal :=
  rowProj (fun k => x (ix3 b s k)) (fun k => g (ix2 0 k)) (fun k => w (ix3 0 k e))

/-- The batch and the token of a row. -/
abbrev batch (r : Fin 16384) : Fin 8 := ⟨r.val / 2048, by omega⟩
abbrev token (r : Fin 16384) : Fin 2048 := ⟨r.val % 2048, by omega⟩

/-- The four results: queries, keys, values and the last columns. -/
def queries (qg : Vec Ideal S1x128 .f32) (r : Fin 16384) (e : Fin 1024) : EReal :=
  rope (unit (fun d => proj x g w (batch r) (token r) ⟨e.val / 128 * 128 + d.val, by omega⟩) fun d => qg (ix2 0 d))
    (token r) ⟨e.val % 128, by omega⟩
def keys (kg : Vec Ideal S1x128 .f32) (r : Fin 16384) (e : Fin 256) : EReal :=
  rope (unit (fun d => proj x g w (batch r) (token r) ⟨1024 + (e.val / 128 * 128 + d.val), by omega⟩) fun d => kg (ix2 0 d))
    (token r) ⟨e.val % 128, by omega⟩
def vals (b : Fin 8) (e : Fin 256) (s : Fin 2048) : EReal := proj x g w b s ⟨1280 + e.val, by omega⟩
def feats (b : Fin 8) (i : Fin 64) (j : Fin 32768) : EReal :=
  proj x g w b ⟨i.val * 32 + j.val / 1024, by omega⟩ ⟨1536 + j.val % 1024, by omega⟩

end Cert.Proof.Sample

end
-- ==== Proof.Sample.Tables.lean ====
/- For the sample batch, the arrays the input projection reads: the arguments, the tables of angles, and the matrix that rearranges rows. -/
module

public import proofs.«01_k».proof.Proof.Sample.Spec
public import proofs.«01_k».proof.Proof.Gen.Kernel4Ideal.Value

@[expose] public section

set_option maxRecDepth 16384

noncomputable section

namespace Cert.Kernel4Ideal.Sample

open Cert.Kernel4Ideal.Gen Cert.Proof.Sample
open Idealize.ShloMosaic Idealize.ShloMosaic.TcCoe
open Cert.Proof.InProj (invRms rowProj unit axis freq lowLane highLane)

/-- The frequencies, the angles of the rows and of the columns, and the zero lanes, as the program computes them. -/
def freqs : Vec Ideal S32 .f32 :=
  Host.exp (F := Ideal) (φ := .f32) (Host.divf (mulf (broadcastInDim S32 ![] bcast_S_S32 (constant S_ .f32 0xC1935D8E#32)) (sitofp .f32 (iotaInDim S32 32 0)))
    (broadcastInDim S32 ![] bcast_S_S32 (constant S_ .f32 0x42800000#32)))
def spread : Vec Ideal S2048x32 .f32 :=
  broadcastInDim S2048x32 ![0, 1] bcast_S1x32_S2048x32_0_1 (broadcastInDim S1x32 ![1] bcast_S32_S1x32_1 freqs)
def rowIds : Vec Ideal S2048 .f32 :=
  shapeCast S2048 (broadcastInDim S32x64 ![0] bcast_S32_S32x64_0 (sitofp (F := Ideal) .f32 (iotaInDim S32 32 0))) shapeCasts_S32x64_S2048
def colIds : Vec Ideal S2048 .f32 :=
  shapeCast S2048 (broadcastInDim S32x64 ![0, 1] bcast_S1x64_S32x64_0_1
    (shapeCast S1x64 (sitofp (F := Ideal) .f32 (iotaInDim S64 32 0)) shapeCasts_S64_S1x64)) shapeCasts_S32x64_S2048
def rowAngles : Vec Ideal S2048x32 .f32 :=
  mulf (F := Ideal) (φ := .f32) (broadcastInDim S2048x32 ![0, 1] bcast_S2048x1_S2048x32_0_1 (broadcastInDim S2048x1 ![0] bcast_S2048_S2048x1_0 rowIds)) spread
def colAngles : Vec Ideal S2048x32 .f32 :=
  mulf (F := Ideal) (φ := .f32) (broadcastInDim S2048x32 ![0, 1] bcast_S2048x1_S2048x32_0_1 (broadcastInDim S2048x1 ![0] bcast_S2048_S2048x1_0 colIds)) spread
def zeros : Vec Ideal S2048x32 .f32 := broadcastInDim S2048x32 ![] bcast_S_S2048x32 (constant (F := Ideal) S_ .f32 0x00000000#32)

/-- Four runs of lanes side by side. -/
def four (a b c d : Vec Ideal S2048x32 .f32) : Vec Ideal S2048x128 .f32 :=
  concatenate S2048x128 1 [⟨S2048x32, a⟩, ⟨S2048x32, b⟩, ⟨S2048x32, c⟩, ⟨S2048x32, d⟩] concatenates_S2048x32_S2048x32_S2048x32_S2048x32_S2048x128_d1

/-- The row that row `r` of the rearranged block is taken from, computed as the program does. -/
def quo : IVec S512 32 :=
  let n := iotaInDim S512 32 0
  let k : IVec S512 32 := broadcastInDim S512 ![] bcast_S_S512 (constantI S_ 32 16#32)
  let q := Host.divsi n k
  let sk : IVec S512 32 := broadcastInDim S512 ![] bcast_S_S512 (signi (constantI S_ 32 16#32))
  select (andi (cmpi .ne (signi n) sk) (cmpi .ne (Host.remsi n k) (broadcastInDim S512 ![] bcast_S_S512 (constantI S_ 32 0#32))))
    (subi q (broadcastInDim S512 ![] bcast_S_S512 (constantI S_ 32 1#32))) q
def rem : IVec S512 32 :=
  let n := iotaInDim S512 32 0
  let k1 : IVec S_ 32 := select (cmpi .eq (constantI S_ 32 16#32) (constantI S_ 32 0#32)) (constantI S_ 32 1#32) (constantI S_ 32 16#32)
  let k : IVec S512 32 := broadcastInDim S512 ![] bcast_S_S512 k1
  let q := Host.remsi n k
  let z : IVec S512 32 := broadcastInDim S512 ![] bcast_S_S512 (constantI S_ 32 0#32)
  select (andi (cmpi .ne (cmpi .slt q z) (broadcastInDim S512 ![] bcast_S_S512 (cmpi .slt k1 (constantI S_ 32 0#32)))) (cmpi .ne q z))
    (addi q k) q
def source : IVec S512 32 := addi (muli rem (broadcastInDim S512 ![] bcast_S_S512 (constantI S_ 32 32#32))) quo

variable (m : (ℓ : Loc nD τ sig) → Buf (Elt Ideal) ℓ) (c : Dev nD)

/-- The tokens, the scales and the weights of device `c`. -/
abbrev tokens : Vec Ideal S8x2048x2048 .f32 := m ((c : Thread nD τ).loc main_arg0)
abbrev scale : Vec Ideal S1x2048 .f32 := m ((c : Thread nD τ).loc main_arg1)
abbrev weights : Vec Ideal S1x2048x2560 .f32 := m ((c : Thread nD τ).loc main_arg2)
abbrev qScale : Vec Ideal S1x128 .f32 := m ((c : Thread nD τ).loc main_arg3)
abbrev kScale : Vec Ideal S1x128 .f32 := m ((c : Thread nD τ).loc main_arg4)

set_option maxHeartbeats 1000000 in
theorem V_cos : (V m c main_v28 : Vec Ideal S2048x128 .f32) = four (Host.cos (F := Ideal) (φ := .f32) rowAngles) (Host.cos (F := Ideal) (φ := .f32) rowAngles) (Host.cos (F := Ideal) (φ := .f32) colAngles) (Host.cos (F := Ideal) (φ := .f32) colAngles) := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_low : (V m c main_v31 : Vec Ideal S2048x128 .f32) = four (Host.negf (F := Ideal) (φ := .f32) (Host.sin (F := Ideal) (φ := .f32) rowAngles)) zeros (Host.negf (F := Ideal) (φ := .f32) (Host.sin (F := Ideal) (φ := .f32) colAngles)) zeros := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_high : (V m c main_v32 : Vec Ideal S2048x128 .f32) = four zeros (Host.sin (F := Ideal) (φ := .f32) rowAngles) zeros (Host.sin (F := Ideal) (φ := .f32) colAngles) := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_tokens : (V m c main_v33 : Vec Ideal S16384x2048 .f32) = shapeCast S16384x2048 (tokens m c) shapeCasts_S8x2048x2048_S16384x2048 := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_scale : (V m c main_v35 : Vec Ideal S1x2048 .f32) = broadcastInDim S1x2048 ![1] bcast_S2048_S1x2048_1 (shapeCast S2048 (scale m c) shapeCasts_S1x2048_S2048) := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_weights : (V m c main_v37 : Vec Ideal S2048x2560 .bf16) = truncf (F := Ideal) .bf16 (shapeCast S2048x2560 (weights m c) shapeCasts_S1x2048x2560_S2048x2560) bitsLt_bf16_f32 := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_qScale : (V m c main_v39 : Vec Ideal S1x128 .f32) = broadcastInDim S1x128 ![1] bcast_S128_S1x128_1 (shapeCast S128 (qScale m c) shapeCasts_S1x128_S128) := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_kScale : (V m c main_v41 : Vec Ideal S1x128 .f32) = broadcastInDim S1x128 ![1] bcast_S128_S1x128_1 (shapeCast S128 (kScale m c) shapeCasts_S1x128_S128) := by
  unfold V
  simp only [hostOps0, hostOps0_1, hostOps0_2, hostOps0_3, hostOps0_4, List.flatten_cons, List.flatten_nil, List.append_nil,
    List.cons_append, List.nil_append]
  after_results
  all_goals rfl

set_option maxHeartbeats 1000000 in
theorem V_perm : (V m c main_v54 : Vec Ideal S512x512 .bf16) = uitofp (F := Ideal) .bf16 (cmpi .eq
    (broadcastInDim S512x512 ![0, 1] bcast_S1x512_S512x512_0_1 (broadcastInDim S1x512 ![1] bcast_S512_S1x512_1 (iotaInDim S512 32 0)) : IVec S512x512 32)
    (broadcastInDim S512x512 ![0, 1] bcast_S512x1_S512x512_0_1 (broadcastInDim S512x1 ![0] bcast_S512_S512x1_0 source))) := by
  unfold V
  simp only [hostOps0, hostOps0_1, hostOps0_2, hostOps0_3, hostOps0_4, List.flatten_cons, List.flatten_nil, List.append_nil,
    List.cons_append, List.nil_append]
  after_results
  all_goals rfl

theorem rowAngles_at (s : Fin 2048) (f : Fin 32) : rowAngles (ix2 s f) = angle s 0 f := by
  pointwise [rowAngles, rowIds, spread, freqs]
  rfl
theorem colAngles_at (s : Fin 2048) (f : Fin 32) : colAngles (ix2 s f) = angle s 1 f := by
  pointwise [colAngles, colIds, spread, freqs]
  rfl
theorem zeros_at (s : Fin 2048) (f : Fin 32) : zeros (ix2 s f) = 0 := by
  pointwise [zeros]

theorem angle_lane (s : Fin 2048) (a : Fin 2) (f : Fin 32) (d : Fin 128) (ha : a.val = d.val / 64) (hf : f.val = d.val % 32) :
    angle s a f = angle s (axis d) (freq d) := by
  rw [show a = axis d from Fin.ext ha, show f = freq d from Fin.ext hf]

/-- Four runs of lanes read at a lane. -/
theorem four_at (w x y z : Vec Ideal S2048x32 .f32) (s : Fin 2048) (d : Fin 128) : four w x y z (ix2 s d)
    = if d.val < 32 then w (ix2 s (freq d)) else if d.val < 64 then x (ix2 s (freq d)) else if d.val < 96 then y (ix2 s (freq d))
      else z (ix2 s (freq d)) := by
  pointwise [four]
  have e (u : Vec Ideal S2048x32 .f32) (n : ℕ) (hn : n < 32) (h : n = d.val % 32) : u (ix2 s ⟨n, hn⟩) = u (ix2 s (freq d)) :=
    congrArg u (congrArg (ix2 s) (Fin.ext h))
  split_ifs
  all_goals first
    | exact e _ _ _ (by omega)
    | exact (e _ _ _ (by omega)).trans (if_pos (by omega)).symm
    | exact (e _ _ _ (by omega)).trans ((if_neg (by omega)).trans (if_pos (by omega))).symm
    | exact (e _ _ _ (by omega)).trans ((if_neg (by omega)).trans (if_neg (by omega))).symm

theorem cos_at (s : Fin 2048) (d : Fin 128) : (V m c main_v28 : Vec Ideal S2048x128 .f32) (ix2 s d)
    = Ideal.cos (angle s (axis d) (freq d)) := by
  rw [V_cos, four_at]
  pointwise []
  simp only [rowAngles_at, colAngles_at]
  split_ifs <;> exact congrArg Ideal.cos (angle_lane s _ _ d (by simp only [Fin.val_zero, Fin.val_one]; omega) rfl)

theorem low_at (s : Fin 2048) (d : Fin 128) : (V m c main_v31 : Vec Ideal S2048x128 .f32) (ix2 s d)
    = if d.val / 32 % 2 < 1 then -Ideal.sin (angle s (axis d) (freq d)) else 0 := by
  rw [V_low, four_at]
  pointwise []
  simp only [rowAngles_at, colAngles_at, zeros_at]
  split_ifs <;> first | omega | rfl | exact congrArg (fun a => -Ideal.sin a) (angle_lane s _ _ d (by simp only [Fin.val_zero, Fin.val_one]; omega) rfl)

theorem high_at (s : Fin 2048) (d : Fin 128) : (V m c main_v32 : Vec Ideal S2048x128 .f32) (ix2 s d)
    = if d.val / 32 % 2 < 1 then 0 else Ideal.sin (angle s (axis d) (freq d)) := by
  rw [V_high, four_at]
  pointwise []
  simp only [rowAngles_at, colAngles_at, zeros_at]
  split_ifs <;> first | omega | rfl | exact congrArg Ideal.sin (angle_lane s _ _ d (by simp only [Fin.val_zero, Fin.val_one]; omega) rfl)

theorem token_at (r : Fin 16384) (k : Fin 2048) : (V m c main_v33 : Vec Ideal S16384x2048 .f32) (ix2 r k)
    = tokens m c (ix3 (batch r) (token r) k) := by
  rw [V_tokens]; pointwise []
theorem scale_at (k : Fin 2048) : (V m c main_v35 : Vec Ideal S1x2048 .f32) (ix2 0 k) = scale m c (ix2 0 k) := by
  rw [V_scale]; pointwise []
theorem weight_at (k : Fin 2048) (e : Fin 2560) : (V m c main_v37 : Vec Ideal S2048x2560 .bf16) (ix2 k e) = weights m c (ix3 0 k e) := by
  rw [V_weights]; pointwise []
theorem qScale_at (k : Fin 128) : (V m c main_v39 : Vec Ideal S1x128 .f32) (ix2 0 k) = qScale m c (ix2 0 k) := by
  rw [V_qScale]; pointwise []
theorem kScale_at (k : Fin 128) : (V m c main_v41 : Vec Ideal S1x128 .f32) (ix2 0 k) = kScale m c (ix2 0 k) := by
  rw [V_kScale]; pointwise []

theorem source_at : ∀ r : Fin 512, source (ix1 r) = BitVec.ofNat 32 (r.val % 16 * 32 + r.val / 16) := by decide +kernel

/-- The rearranging matrix is one at the row a row is taken from, and zero elsewhere. -/
theorem perm_at (r k : Fin 512) : (V m c main_v54 : Vec Ideal S512x512 .bf16) (ix2 r k)
    = if k.val = r.val % 16 * 32 + r.val / 16 then (1 : EReal) else 0 := by
  rw [V_perm]
  pointwise []
  rw [source_at]
  show (((IntOp.cmpi .eq (BitVec.ofNat 32 k.val) (BitVec.ofNat 32 (r.val % 16 * 32 + r.val / 16))).toNat : ℝ) : EReal) = _
  split
  · rename_i h
    rw [IntOp.cmpi_eq.2 (by rw [h])]
    simp
  · rename_i h
    rcases BitVec.eq_zero_or_eq_one (IntOp.cmpi .eq (BitVec.ofNat 32 k.val) (BitVec.ofNat 32 (r.val % 16 * 32 + r.val / 16))) with h0 | h1
    · rw [h0]; simp
    · have h2 := congrArg BitVec.toNat (IntOp.cmpi_eq.1 h1)
      simp only [BitVec.toNat_ofNat] at h2
      omega

end Cert.Kernel4Ideal.Sample

end
-- ==== Proof.Sample.Heads.lean ====
/- For the sample batch, the queries' and the keys' stores of the input projection: each head's lanes, normalized and turned, at an element. -/
module

public import proofs.«01_k».proof.Proof.InProj.Norm
public import proofs.«01_k».proof.Proof.Gen.Kernel4Ideal.Frame

@[expose] public section

set_option maxRecDepth 16384

noncomputable section

namespace Cert.Proof.Sample

open Idealize.ShloMosaic Cert.Kernel4Ideal Cert.Kernel4Ideal.Gen
open Cert.Proof.InProj (invRms rowProj unit axis freq lowLane highLane sq_nonneg ofBits_2048 ofBits_eps rsqrt_real invRms_real real_mul_sum scaled_eq)

/-- A head's lane turned by its three factors, the pair's other lane reached by turning the head around. -/
def turn (z : Fin 128 → EReal) (c s1 s2 : EReal) (d : Fin 128) : EReal :=
  z d * c + z ⟨(d.val + 128 - 96) % 128, by omega⟩ * s1 + z ⟨(d.val + 128 - 32) % 128, by omega⟩ * s2

/-- Lane `d` of row `r`'s head `p`. -/
def headAt (p : Fin 128 → EReal) (g : Vec Ideal S1x128 .f32) (c s1 s2 : Vec Ideal S512x128 .f32) (r : Fin 512) (d : Fin 128) : EReal :=
  turn (unit p fun d => g (ix2 0 d)) (c (ix2 r d)) (s1 (ix2 r d)) (s2 (ix2 r d)) d

section Payloads

variable (c s1 s2 : Vec Ideal S512x128 .f32) (g : Vec Ideal S1x128 .f32) (p : Vec Ideal S512x1024 .f32) (r : Fin 512) (d : Fin 128)

theorem head_1 : k0_pay19 (F := Ideal) c s1 s2 g p (ix2 r d)
    = headAt (fun d => p (ix2 r ⟨128 + d.val, by omega⟩)) g c s1 s2 r d := by
  pointwise [k0_pay19]
  rfl
theorem head_2 : k0_pay22 (F := Ideal) c s1 s2 g (k0_pay20 p) (k0_pay21 p) (Scalar.ofBits .f32 0x358637BD#32) (ix2 r d)
    = headAt (fun d => p (ix2 r ⟨256 + d.val, by omega⟩)) g c s1 s2 r d := by
  pointwise [k0_pay22, k0_pay20, k0_pay21]
  rfl
theorem head_3 : k0_pay23 (F := Ideal) c s1 s2 g p (ix2 r d)
    = headAt (fun d => p (ix2 r ⟨384 + d.val, by omega⟩)) g c s1 s2 r d := by
  pointwise [k0_pay23]
  rfl
theorem head_4 : k0_pay26 (F := Ideal) c s1 s2 g (k0_pay24 p) (k0_pay25 p) (Scalar.ofBits .f32 0x358637BD#32) (ix2 r d)
    = headAt (fun d => p (ix2 r ⟨512 + d.val, by omega⟩)) g c s1 s2 r d := by
  pointwise [k0_pay26, k0_pay24, k0_pay25]
  rfl
theorem head_5 : k0_pay27 (F := Ideal) c s1 s2 g p (ix2 r d)
    = headAt (fun d => p (ix2 r ⟨640 + d.val, by omega⟩)) g c s1 s2 r d := by
  pointwise [k0_pay27]
  rfl
theorem head_6 : k0_pay30 (F := Ideal) c s1 s2 g (k0_pay28 p) (k0_pay29 p) (Scalar.ofBits .f32 0x358637BD#32) (ix2 r d)
    = headAt (fun d => p (ix2 r ⟨768 + d.val, by omega⟩)) g c s1 s2 r d := by
  pointwise [k0_pay30, k0_pay28, k0_pay29]
  rfl
theorem head_7 : k0_pay31 (F := Ideal) c s1 s2 g p (ix2 r d)
    = headAt (fun d => p (ix2 r ⟨896 + d.val, by omega⟩)) g c s1 s2 r d := by
  pointwise [k0_pay31]
  rfl

variable (y0 : Vec Ideal S512x2048 .f32) (y1 : Vec Ideal S1x2048 .f32) (v : Vec Ideal S2048x1024 .bf16)

theorem head_0 : k0_pay18 (F := Ideal) c s1 s2 g (k0_pay16 y0 y1 v) (k0_pay17 y0 y1 v) (Scalar.ofBits .f32 0x358637BD#32) (ix2 r d)
    = headAt (fun d => k0_pay15 y0 y1 v (ix2 r ⟨d.val, by omega⟩)) g c s1 s2 r d := by
  pointwise [k0_pay18, k0_pay17, k0_pay16]
  rfl

variable (q : Vec Ideal S512x1 .f32) (h : Vec Ideal S512x2048 .bf16) (u : Vec Ideal S2048x256 .bf16)

theorem key_0 : k0_pay34 (F := Ideal) c s1 s2 g (k0_pay33 q h u) (ix2 r d)
    = headAt (fun d => k0_pay32 q h u (ix2 r ⟨d.val, by omega⟩)) g c s1 s2 r d := by
  pointwise [k0_pay34, k0_pay33]
  rfl
theorem key_1 : k0_pay35 (F := Ideal) c s1 s2 g (k0_pay32 q h u) (ix2 r d)
    = headAt (fun d => k0_pay32 q h u (ix2 r ⟨128 + d.val, by omega⟩)) g c s1 s2 r d := by
  pointwise [k0_pay35]
  rfl

end Payloads

variable (x0 : Vec Ideal S512x2048 .f32) (x1 : Vec Ideal S1x2048 .f32) (x2 : Vec Ideal S2048x2560 .bf16)
  (x3 x4 : Vec Ideal S1x128 .f32) (x5 x6 x7 : Vec Ideal S512x128 .f32) (x8 : Vec Ideal S512x512 .bf16)

/-- Row `r` of a block, projected to column `e`. -/
def blockProj (r : Fin 512) (e : Fin 2560) : EReal :=
  rowProj (fun k => x0 (ix2 r k)) (fun k => x1 (ix2 0 k)) (fun k => x2 (ix2 k e))

theorem pay68_eq : k0_pay68 (F := Ideal) x0 x1 x2 x3 x4 x5 x6 x7 x8 = x5 := by
  funext y; obtain ⟨r, d, rfl⟩ : ∃ r d, y = ix2 r d := ⟨y 0, y 1, by funext a; match a with | 0 => rfl | 1 => rfl⟩
  unfold k0_pay68 View.ld; pointwise [k0_pay10]
theorem pay69_eq : k0_pay69 (F := Ideal) x0 x1 x2 x3 x4 x5 x6 x7 x8 = x6 := by
  funext y; obtain ⟨r, d, rfl⟩ : ∃ r d, y = ix2 r d := ⟨y 0, y 1, by funext a; match a with | 0 => rfl | 1 => rfl⟩
  unfold k0_pay69 View.ld; pointwise [k0_pay11]
theorem pay70_eq : k0_pay70 (F := Ideal) x0 x1 x2 x3 x4 x5 x6 x7 x8 = x7 := by
  funext y; obtain ⟨r, d, rfl⟩ : ∃ r d, y = ix2 r d := ⟨y 0, y 1, by funext a; match a with | 0 => rfl | 1 => rfl⟩
  unfold k0_pay70 View.ld; pointwise [k0_pay12]
theorem pay71_eq : k0_pay71 (F := Ideal) x0 x1 x2 x3 x4 x5 x6 x7 x8 = x3 := by
  funext y; obtain ⟨r, d, rfl⟩ : ∃ r d, y = ix2 r d := ⟨y 0, y 1, by funext a; match a with | 0 => rfl | 1 => rfl⟩
  unfold k0_pay71 View.ld; pointwise [k0_pay13]
  exact congrArg x3 (by rw [Subsingleton.elim r 0])
theorem pay72_eq : k0_pay72 (F := Ideal) x0 x1 x2 x3 x4 x5 x6 x7 x8 = x4 := by
  funext y; obtain ⟨r, d, rfl⟩ : ∃ r d, y = ix2 r d := ⟨y 0, y 1, by funext a; match a with | 0 => rfl | 1 => rfl⟩
  unfold k0_pay72 View.ld; pointwise [k0_pay14]
  exact congrArg x4 (by rw [Subsingleton.elim r 0])

theorem first_eq (r : Fin 512) (e : Fin 1024) : k0_pay15 (F := Ideal) (View.ld x0 r0_0) (View.ld x1 r0_1) (View.ld x2 r0_4) (ix2 r e)
    = blockProj x0 x1 x2 r ⟨e.val, by omega⟩ := by
  unfold View.ld
  pointwise [k0_pay15, k0_pay8, k0_pay9, k0_pay7]
  exact scaled_eq _ _ _
theorem second_eq (r : Fin 512) (e : Fin 256) : k0_pay32 (F := Ideal) (k0_pay66 x0 x1 x2 x3 x4 x5 x6 x7 x8)
    (k0_pay67 x0 x1 x2 x3 x4 x5 x6 x7 x8) (View.ld x2 r0_13) (ix2 r e) = blockProj x0 x1 x2 r ⟨1024 + e.val, by omega⟩ := by
  unfold k0_pay66 k0_pay67 View.ld
  pointwise [k0_pay32, k0_pay8, k0_pay9, k0_pay7]
  exact scaled_eq _ _ _

theorem pq_eq (r : Fin 512) (e : Fin 1024) : k0_pay73 (F := Ideal) x0 x1 x2 x3 x4 x5 x6 x7 x8 (ix2 r e) = blockProj x0 x1 x2 r ⟨e.val, by omega⟩ :=
  first_eq x0 x1 x2 r e

/-- The queries' block, and the keys', at an element. -/
def queryAt (y : S512x1024.Idx) : EReal :=
  headAt (fun d => blockProj x0 x1 x2 (y 0) ⟨(y 1).val / 128 * 128 + d.val, by have := (y 1).isLt; change (y 1).val < 1024 at this; omega⟩)
    x3 x5 x6 x7 (y 0) ⟨(y 1).val % 128, by omega⟩
def keyAt (y : S512x256.Idx) : EReal :=
  headAt (fun d => blockProj x0 x1 x2 (y 0) ⟨1024 + ((y 1).val / 128 * 128 + d.val), by have := (y 1).isLt; change (y 1).val < 256 at this; omega⟩)
    x4 x5 x6 x7 (y 0) ⟨(y 1).val % 128, by omega⟩

theorem queryAt_head (p : Fin 128 → EReal) (r : Fin 512) (d : Fin 128) (h : Fin 8) (y : S512x1024.Idx) (h0 : (y 0).val = r.val)
    (h1 : (y 1).val = 128 * h.val + d.val) (hp : ∀ d : Fin 128, p d = blockProj x0 x1 x2 r ⟨128 * h.val + d.val, by omega⟩) :
    headAt p x3 x5 x6 x7 r d = queryAt x0 x1 x2 x3 x5 x6 x7 y := by
  unfold queryAt
  have e0 : (y 0 : Fin 512) = r := Fin.ext h0
  have e1 : (⟨(y 1).val % 128, by omega⟩ : Fin 128) = d := by apply Fin.ext; show (y 1).val % 128 = d.val; omega
  rw [e1, e0]
  congr 1
  funext d'
  rw [hp]
  congr 1
  apply Fin.ext
  show 128 * h.val + d'.val = (y 1).val / 128 * 128 + d'.val
  omega
theorem keyAt_head (p : Fin 128 → EReal) (r : Fin 512) (d : Fin 128) (h : Fin 2) (y : S512x256.Idx) (h0 : (y 0).val = r.val)
    (h1 : (y 1).val = 128 * h.val + d.val) (hp : ∀ d : Fin 128, p d = blockProj x0 x1 x2 r ⟨1024 + (128 * h.val + d.val), by omega⟩) :
    headAt p x4 x5 x6 x7 r d = keyAt x0 x1 x2 x4 x5 x6 x7 y := by
  unfold keyAt
  have e0 : (y 0 : Fin 512) = r := Fin.ext h0
  have e1 : (⟨(y 1).val % 128, by omega⟩ : Fin 128) = d := by apply Fin.ext; show (y 1).val % 128 = d.val; omega
  rw [e1, e0]
  congr 1
  funext d'
  rw [hp]
  congr 1
  apply Fin.ext
  show 1024 + (128 * h.val + d'.val) = 1024 + ((y 1).val / 128 * 128 + d'.val)
  omega

end Cert.Proof.Sample

end
-- ==== Proof.Sample.Outs.lean ====
/- For the sample batch, the four blocks the input projection leaves, each read at an element from the stores that make it up. -/
module

public import proofs.«01_k».proof.Proof.Sample.Heads
public import Idealize.ShloMosaic.Lib.Pipeline.Value

@[expose] public section

set_option maxRecDepth 16384

noncomputable section

namespace Cert.Proof.Sample

open Idealize.ShloMosaic Cert.Kernel4Ideal Cert.Kernel4Ideal.Gen
open Cert.Proof.InProj (invRms rowProj unit axis freq lowLane highLane sq_nonneg ofBits_2048 ofBits_eps rsqrt_real invRms_real real_mul_sum scaled_eq)

variable (x0 : Vec Ideal S512x2048 .f32) (x1 : Vec Ideal S1x2048 .f32) (x2 : Vec Ideal S2048x2560 .bf16)
  (x3 x4 : Vec Ideal S1x128 .f32) (x5 x6 x7 : Vec Ideal S512x128 .f32) (x8 : Vec Ideal S512x512 .bf16)

theorem ix2_eta {n k : ℕ} (y : (⟨2, ![n, k]⟩ : Shape).Idx) : ∃ (r : Fin n) (d : Fin k), y = ix2 r d :=
  ⟨y 0, y 1, by funext a; match a with | 0 => rfl | 1 => rfl⟩
theorem ix3_eta {n k l : ℕ} (y : (⟨3, ![n, k, l]⟩ : Shape).Idx) : ∃ (r : Fin n) (d : Fin k) (e : Fin l), y = ix3 r d e :=
  ⟨y 0, y 1, y 2, by funext a; match a with | 0 => rfl | 1 => rfl | 2 => rfl⟩

set_option maxHeartbeats 1000000 in
theorem out_queries (y : S512x1024.Idx) : out0_9 (F := Ideal) x0 x1 x2 x3 x4 x5 x6 x7 x8 y = queryAt x0 x1 x2 x3 x5 x6 x7 y := by
  unfold out0_9
  refine View.canon_apply_of_pieces (Val := Elt Ideal) (queryAt x0 x1 x2 x3 x5 x6 x7) _ ?_ y (cover0_9 _ _ _ _ _ _ _ _ y)
  simp only [List.forall_mem_cons, List.not_mem_nil, false_imp_iff, implies_true, and_true, pay68_eq, pay69_eq, pay70_eq, pay71_eq]
  refine ⟨?_, ?_, ?_, ?_, ?_, ?_, ?_, ?_⟩ <;> intro z <;> obtain ⟨r, d, rfl⟩ := ix2_eta z
  · refine (head_7 ..).trans (queryAt_head x0 x1 x2 x3 x5 x6 x7 _ r d 7 _ ?_ ?_ fun d => ?_)
    · show 0 + 1 * r.val = r.val; omega
    · show 896 + 1 * d.val = 128 * 7 + d.val; omega
    · exact (pq_eq .. ).trans (congrArg _ (Fin.ext rfl))
  · refine (head_6 ..).trans (queryAt_head x0 x1 x2 x3 x5 x6 x7 _ r d 6 _ ?_ ?_ fun d => ?_)
    · show 0 + 1 * r.val = r.val; omega
    · show 768 + 1 * d.val = 128 * 6 + d.val; omega
    · exact (pq_eq .. ).trans (congrArg _ (Fin.ext rfl))
  · refine (head_5 ..).trans (queryAt_head x0 x1 x2 x3 x5 x6 x7 _ r d 5 _ ?_ ?_ fun d => ?_)
    · show 0 + 1 * r.val = r.val; omega
    · show 640 + 1 * d.val = 128 * 5 + d.val; omega
    · exact (pq_eq .. ).trans (congrArg _ (Fin.ext rfl))
  · refine (head_4 ..).trans (queryAt_head x0 x1 x2 x3 x5 x6 x7 _ r d 4 _ ?_ ?_ fun d => ?_)
    · show 0 + 1 * r.val = r.val; omega
    · show 512 + 1 * d.val = 128 * 4 + d.val; omega
    · exact (pq_eq .. ).trans (congrArg _ (Fin.ext rfl))
  · refine (head_3 ..).trans (queryAt_head x0 x1 x2 x3 x5 x6 x7 _ r d 3 _ ?_ ?_ fun d => ?_)
    · show 0 + 1 * r.val = r.val; omega
    · show 384 + 1 * d.val = 128 * 3 + d.val; omega
    · exact (pq_eq .. ).trans (congrArg _ (Fin.ext rfl))
  · refine (head_2 ..).trans (queryAt_head x0 x1 x2 x3 x5 x6 x7 _ r d 2 _ ?_ ?_ fun d => ?_)
    · show 0 + 1 * r.val = r.val; omega
    · show 256 + 1 * d.val = 128 * 2 + d.val; omega
    · exact (pq_eq .. ).trans (congrArg _ (Fin.ext rfl))
  · refine (head_1 ..).trans (queryAt_head x0 x1 x2 x3 x5 x6 x7 _ r d 1 _ ?_ ?_ fun d => ?_)
    · show 0 + 1 * r.val = r.val; omega
    · show 128 + 1 * d.val = 128 * 1 + d.val; omega
    · exact (pq_eq .. ).trans (congrArg _ (Fin.ext rfl))
  · refine (head_0 ..).trans (queryAt_head x0 x1 x2 x3 x5 x6 x7 _ r d 0 _ ?_ ?_ fun d => ?_)
    · show 0 + 1 * r.val = r.val; omega
    · show 0 + 1 * d.val = 128 * 0 + d.val; omega
    · exact (first_eq ..).trans (congrArg _ (Fin.ext (by show d.val = 128 * 0 + d.val; omega)))

set_option maxHeartbeats 1000000 in
theorem out_keys (y : S512x256.Idx) : out0_10 (F := Ideal) x0 x1 x2 x3 x4 x5 x6 x7 x8 y = keyAt x0 x1 x2 x4 x5 x6 x7 y := by
  unfold out0_10
  refine View.canon_apply_of_pieces (Val := Elt Ideal) (keyAt x0 x1 x2 x4 x5 x6 x7) _ ?_ y (cover0_10 _ _ y)
  simp only [List.forall_mem_cons, List.not_mem_nil, false_imp_iff, implies_true, and_true, pay68_eq, pay69_eq, pay70_eq, pay72_eq]
  refine ⟨?_, ?_⟩ <;> intro z <;> obtain ⟨r, d, rfl⟩ := ix2_eta z
  · refine (key_1 ..).trans (keyAt_head x0 x1 x2 x4 x5 x6 x7 _ r d 1 _ ?_ ?_ fun d => ?_)
    · show 0 + 1 * r.val = r.val; omega
    · show 128 + 1 * d.val = 128 * 1 + d.val; omega
    · exact (second_eq ..).trans (congrArg _ (Fin.ext rfl))
  · refine (key_0 ..).trans (keyAt_head x0 x1 x2 x4 x5 x6 x7 _ r d 0 _ ?_ ?_ fun d => ?_)
    · show 0 + 1 * r.val = r.val; omega
    · show 0 + 1 * d.val = 128 * 0 + d.val; omega
    · exact (second_eq ..).trans (congrArg _ (Fin.ext (by show 1024 + d.val = 1024 + (128 * 0 + d.val); omega)))

/-- The values' block at an element. -/
def valAt (y : S1x256x512.Idx) : EReal :=
  blockProj x0 x1 x2 (y 2) ⟨1280 + (y 1).val, by have := (y 1).isLt; change (y 1).val < 256 at this; omega⟩

theorem out_vals (y : S1x256x512.Idx) : out0_11 (F := Ideal) x0 x1 x2 x3 x4 x5 x6 x7 x8 y = valAt x0 x1 x2 y := by
  unfold out0_11
  refine View.canon_apply_of_pieces (Val := Elt Ideal) (valAt x0 x1 x2) _ ?_ y (cover0_11 _ y)
  simp only [List.forall_mem_cons, List.not_mem_nil, false_imp_iff, implies_true, and_true]
  intro z; obtain ⟨a, e, r, rfl⟩ := ix3_eta z
  obtain rfl : a = 0 := Subsingleton.elim _ _
  unfold k0_pay66 k0_pay67 View.ld
  pointwise [k0_pay36, k0_pay8, k0_pay9, k0_pay7]
  refine (scaled_eq _ _ _).trans ?_
  unfold valAt blockProj
  have e0 : (r0_17.emb (ix3 0 e r) 2 : Fin 512) = r := Fin.ext (by show 0 + 1 * r.val = r.val; omega)
  have e1 : (r0_17.emb (ix3 0 e r) 1 : Fin 256) = e := Fin.ext (by show 0 + 1 * e.val = e.val; omega)
  rw [e0]
  simp only [e1]

/-- The last columns' block before its rows are rearranged, and after. -/
theorem rearranged_eq (r : Fin 512) (e : Fin 1024) : k0_pay74 (F := Ideal) x0 x1 x2 x3 x4 x5 x6 x7 x8 (ix2 r e)
    = ∑ k : Fin 512, x8 (ix2 r k) * blockProj x0 x1 x2 k ⟨1536 + e.val, by omega⟩ := by
  unfold k0_pay74 k0_pay66 k0_pay67 View.ld
  pointwise [k0_pay37, k0_pay8, k0_pay9, k0_pay7]
  exact Finset.sum_congr rfl fun k _ => congrArg _ (scaled_eq _ _ _)

/-- The last columns' block at an element: sixteen rows of the rearranged block to each run of lanes. -/
def featAt (p : Vec Ideal S512x1024 .bf16) (y : S1x16x32768.Idx) : EReal :=
  p (ix2 ⟨16 * ((y 2).val / 1024) + (y 1).val, by
    have h1 := (y 1).isLt; have h2 := (y 2).isLt; change (y 1).val < 16 at h1; change (y 2).val < 32768 at h2; omega⟩
    ⟨(y 2).val % 1024, by omega⟩)

theorem featAt_piece (p : Vec Ideal S512x1024 .bf16) (i : Fin 16) (e : Fin 1024) (t : Fin 32) (y : S1x16x32768.Idx)
    (h1 : (y 1).val = i.val) (h2 : (y 2).val = 1024 * t.val + e.val) :
    p (ix2 ⟨16 * t.val + i.val, by omega⟩ e) = featAt p y := by
  unfold featAt
  congr 2
  · apply Fin.ext; show 16 * t.val + i.val = 16 * ((y 2).val / 1024) + (y 1).val; omega
  · apply Fin.ext; show e.val = (y 2).val % 1024; omega

set_option maxHeartbeats 4000000 in
theorem out_feats (y : S1x16x32768.Idx) : out0_12 (F := Ideal) x0 x1 x2 x3 x4 x5 x6 x7 x8 y
    = featAt (k0_pay74 (F := Ideal) x0 x1 x2 x3 x4 x5 x6 x7 x8) y := by
  unfold out0_12
  refine View.canon_apply_of_pieces (Val := Elt Ideal) (featAt (k0_pay74 (F := Ideal) x0 x1 x2 x3 x4 x5 x6 x7 x8)) _ ?_ y (cover0_12 _ _ _ _ _ _ _ _ _ _ _ _ _ _ _ _ _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> intro z <;> obtain ⟨a, i, e, rfl⟩ := ix3_eta z <;> obtain rfl : a = 0 := Subsingleton.elim _ _
  · refine (?_ : _ = _).trans (featAt_piece _ i e 31 _ (by show 0 + 1 * i.val = i.val; omega) (by show 31744 + 1 * e.val = 1024 * 31 + e.val; omega))
    pointwise [k0_pay6]
  · refine (?_ : _ = _).trans (featAt_piece _ i e 30 _ (by show 0 + 1 * i.val = i.val; omega) (by show 30720 + 1 * e.val = 1024 * 30 + e.val; omega))
    pointwise [k0_pay5]
  · refine (?_ : _ = _).trans (featAt_piece _ i e 29 _ (by show 0 + 1 * i.val = i.val; omega) (by show 29696 + 1 * e.val = 1024 * 29 + e.val; omega))
    pointwise [k0_pay4]
  · refine (?_ : _ = _).trans (featAt_piece _ i e 28 _ (by show 0 + 1 * i.val = i.val; omega) (by show 28672 + 1 * e.val = 1024 * 28 + e.val; omega))
    pointwise [k0_pay3]
  · refine (?_ : _ = _).trans (featAt_piece _ i e 27 _ (by show 0 + 1 * i.val = i.val; omega) (by show 27648 + 1 * e.val = 1024 * 27 + e.val; omega))
    pointwise [k0_pay2]
  · refine (?_ : _ = _).trans (featAt_piece _ i e 26 _ (by show 0 + 1 * i.val = i.val; omega) (by show 26624 + 1 * e.val = 1024 * 26 + e.val; omega))
    pointwise [k0_pay1]
  · refine (?_ : _ = _).trans (featAt_piece _ i e 25 _ (by show 0 + 1 * i.val = i.val; omega) (by show 25600 + 1 * e.val = 1024 * 25 + e.val; omega))
    pointwise [k0_pay65]
  · refine (?_ : _ = _).trans (featAt_piece _ i e 24 _ (by show 0 + 1 * i.val = i.val; omega) (by show 24576 + 1 * e.val = 1024 * 24 + e.val; omega))
    pointwise [k0_pay64]
  · refine (?_ : _ = _).trans (featAt_piece _ i e 23 _ (by show 0 + 1 * i.val = i.val; omega) (by show 23552 + 1 * e.val = 1024 * 23 + e.val; omega))
    pointwise [k0_pay63]
  · refine (?_ : _ = _).trans (featAt_piece _ i e 22 _ (by show 0 + 1 * i.val = i.val; omega) (by show 22528 + 1 * e.val = 1024 * 22 + e.val; omega))
    pointwise [k0_pay62]
  · refine (?_ : _ = _).trans (featAt_piece _ i e 21 _ (by show 0 + 1 * i.val = i.val; omega) (by show 21504 + 1 * e.val = 1024 * 21 + e.val; omega))
    pointwise [k0_pay61]
  · refine (?_ : _ = _).trans (featAt_piece _ i e 20 _ (by show 0 + 1 * i.val = i.val; omega) (by show 20480 + 1 * e.val = 1024 * 20 + e.val; omega))
    pointwise [k0_pay60]
  · refine (?_ : _ = _).trans (featAt_piece _ i e 19 _ (by show 0 + 1 * i.val = i.val; omega) (by show 19456 + 1 * e.val = 1024 * 19 + e.val; omega))
    pointwise [k0_pay59]
  · refine (?_ : _ = _).trans (featAt_piece _ i e 18 _ (by show 0 + 1 * i.val = i.val; omega) (by show 18432 + 1 * e.val = 1024 * 18 + e.val; omega))
    pointwise [k0_pay58, k0_pay57]
  · refine (?_ : _ = _).trans (featAt_piece _ i e 17 _ (by show 0 + 1 * i.val = i.val; omega) (by show 17408 + 1 * e.val = 1024 * 17 + e.val; omega))
    pointwise [k0_pay56]
  · refine (?_ : _ = _).trans (featAt_piece _ i e 16 _ (by show 0 + 1 * i.val = i.val; omega) (by show 16384 + 1 * e.val = 1024 * 16 + e.val; omega))
    pointwise [k0_pay55]
  · refine (?_ : _ = _).trans (featAt_piece _ i e 15 _ (by show 0 + 1 * i.val = i.val; omega) (by show 15360 + 1 * e.val = 1024 * 15 + e.val; omega))
    pointwise [k0_pay54]
  · refine (?_ : _ = _).trans (featAt_piece _ i e 14 _ (by show 0 + 1 * i.val = i.val; omega) (by show 14336 + 1 * e.val = 1024 * 14 + e.val; omega))
    pointwise [k0_pay53]
  · refine (?_ : _ = _).trans (featAt_piece _ i e 13 _ (by show 0 + 1 * i.val = i.val; omega) (by show 13312 + 1 * e.val = 1024 * 13 + e.val; omega))
    pointwise [k0_pay52]
  · refine (?_ : _ = _).trans (featAt_piece _ i e 12 _ (by show 0 + 1 * i.val = i.val; omega) (by show 12288 + 1 * e.val = 1024 * 12 + e.val; omega))
    pointwise [k0_pay51]
  · refine (?_ : _ = _).trans (featAt_piece _ i e 11 _ (by show 0 + 1 * i.val = i.val; omega) (by show 11264 + 1 * e.val = 1024 * 11 + e.val; omega))
    pointwise [k0_pay50]
  · refine (?_ : _ = _).trans (featAt_piece _ i e 10 _ (by show 0 + 1 * i.val = i.val; omega) (by show 10240 + 1 * e.val = 1024 * 10 + e.val; omega))
    pointwise [k0_pay49]
  · refine (?_ : _ = _).trans (featAt_piece _ i e 9 _ (by show 0 + 1 * i.val = i.val; omega) (by show 9216 + 1 * e.val = 1024 * 9 + e.val; omega))
    pointwise [k0_pay48]
  · refine (?_ : _ = _).trans (featAt_piece _ i e 8 _ (by show 0 + 1 * i.val = i.val; omega) (by show 8192 + 1 * e.val = 1024 * 8 + e.val; omega))
    pointwise [k0_pay47]
  · refine (?_ : _ = _).trans (featAt_piece _ i e 7 _ (by show 0 + 1 * i.val = i.val; omega) (by show 7168 + 1 * e.val = 1024 * 7 + e.val; omega))
    pointwise [k0_pay46]
  · refine (?_ : _ = _).trans (featAt_piece _ i e 6 _ (by show 0 + 1 * i.val = i.val; omega) (by show 6144 + 1 * e.val = 1024 * 6 + e.val; omega))
    pointwise [k0_pay45]
  · refine (?_ : _ = _).trans (featAt_piece _ i e 5 _ (by show 0 + 1 * i.val = i.val; omega) (by show 5120 + 1 * e.val = 1024 * 5 + e.val; omega))
    pointwise [k0_pay44]
  · refine (?_ : _ = _).trans (featAt_piece _ i e 4 _ (by show 0 + 1 * i.val = i.val; omega) (by show 4096 + 1 * e.val = 1024 * 4 + e.val; omega))
    pointwise [k0_pay43]
  · refine (?_ : _ = _).trans (featAt_piece _ i e 3 _ (by show 0 + 1 * i.val = i.val; omega) (by show 3072 + 1 * e.val = 1024 * 3 + e.val; omega))
    pointwise [k0_pay42, k0_pay41]
    rfl
  · refine (?_ : _ = _).trans (featAt_piece _ i e 2 _ (by show 0 + 1 * i.val = i.val; omega) (by show 2048 + 1 * e.val = 1024 * 2 + e.val; omega))
    pointwise [k0_pay40]
    rfl
  · refine (?_ : _ = _).trans (featAt_piece _ i e 1 _ (by show 0 + 1 * i.val = i.val; omega) (by show 1024 + 1 * e.val = 1024 * 1 + e.val; omega))
    pointwise [k0_pay39]
    rfl
  · refine (?_ : _ = _).trans (featAt_piece _ i e 0 _ (by show 0 + 1 * i.val = i.val; omega) (by show 0 + 1 * e.val = 1024 * 0 + e.val; omega))
    pointwise [k0_pay38]
    exact congrArg (k0_pay74 (F := Ideal) x0 x1 x2 x3 x4 x5 x6 x7 x8) (congrArg (fun q => ix2 q e) (Fin.ext (by simp)))

end Cert.Proof.Sample

end
-- ==== Proof.Sample.Blocks.lean ====
/- For the sample batch, the input projection's four results: each point's blocks, read from the arguments, are the results' own blocks. -/
module

public import proofs.«01_k».proof.Proof.Sample.Tables
public import proofs.«01_k».proof.Proof.Sample.Outs
public import Idealize.ShloMosaic.Lib.Claim
public import Idealize.ShloMosaic.Lib.Pipeline.ValueKit

@[expose] public section

set_option maxRecDepth 16384

noncomputable section

namespace Cert.Kernel4Ideal.Sample

open Cert.Kernel4Ideal.Gen Cert.Proof.Sample
open Idealize.ShloMosaic Idealize.ShloMosaic.TcCoe
open Cert.Proof.InProj (invRms rowProj unit axis freq lowLane highLane)

/-- A head turned by the tables' factors is the head turned pair by pair. -/
theorem turn_rope (z : Fin 128 → EReal) (s : Fin 2048) (d : Fin 128) :
    turn z (Ideal.cos (angle s (axis d) (freq d))) (if d.val / 32 % 2 < 1 then -Ideal.sin (angle s (axis d) (freq d)) else 0)
      (if d.val / 32 % 2 < 1 then 0 else Ideal.sin (angle s (axis d) (freq d))) d = rope z s d := by
  unfold turn rope
  by_cases h : d.val / 32 % 2 < 1
  · have e1 : lowLane d = d := by apply Fin.ext; show d.val / 64 * 64 + d.val % 32 = d.val; omega
    have e2 : highLane d = ⟨(d.val + 128 - 96) % 128, by omega⟩ := by
      apply Fin.ext; show d.val / 64 * 64 + 32 + d.val % 32 = (d.val + 128 - 96) % 128; omega
    rw [if_pos h, if_pos h, if_pos h, e1, e2, mul_zero, add_zero, mul_neg, sub_eq_add_neg]
  · have e1 : highLane d = d := by apply Fin.ext; show d.val / 64 * 64 + 32 + d.val % 32 = d.val; omega
    have e2 : lowLane d = ⟨(d.val + 128 - 32) % 128, by omega⟩ := by
      apply Fin.ext; show d.val / 64 * 64 + d.val % 32 = (d.val + 128 - 32) % 128; omega
    rw [if_neg h, if_neg h, if_neg h, e1, e2, mul_zero, add_zero]

variable (m : (ℓ : Loc nD τ sig) → Buf (Elt Ideal) ℓ) (c : Dev nD) (t : Fin cfg0.N)

theorem lt_points : t.val < 32 := t.isLt

theorem idx_0 : (cfg0.win 0).index t = ![t.val, 0] :=
  (by decide +kernel : ∀ t : Fin grid0.N, cc0_transform_0 (grid0.coords t) = ![t.val, 0]) t
theorem idx_1 : (cfg0.win 1).index t = ![0, 0] :=
  (by decide +kernel : ∀ t : Fin grid0.N, cc0_transform_1 (grid0.coords t) = ![0, 0]) t
theorem idx_2 : (cfg0.win 2).index t = ![0, 0] :=
  (by decide +kernel : ∀ t : Fin grid0.N, cc0_transform_2 (grid0.coords t) = ![0, 0]) t
theorem idx_3 : (cfg0.win 3).index t = ![0, 0] :=
  (by decide +kernel : ∀ t : Fin grid0.N, cc0_transform_3 (grid0.coords t) = ![0, 0]) t
theorem idx_4 : (cfg0.win 4).index t = ![0, 0] :=
  (by decide +kernel : ∀ t : Fin grid0.N, cc0_transform_4 (grid0.coords t) = ![0, 0]) t
theorem idx_5 : (cfg0.win 5).index t = ![t.val % 4, 0] :=
  (by decide +kernel : ∀ t : Fin grid0.N, cc0_transform_5 (grid0.coords t) = ![t.val % 4, 0]) t
theorem idx_6 : (cfg0.win 6).index t = ![t.val % 4, 0] :=
  (by decide +kernel : ∀ t : Fin grid0.N, cc0_transform_6 (grid0.coords t) = ![t.val % 4, 0]) t
theorem idx_7 : (cfg0.win 7).index t = ![t.val % 4, 0] :=
  (by decide +kernel : ∀ t : Fin grid0.N, cc0_transform_7 (grid0.coords t) = ![t.val % 4, 0]) t
theorem idx_8 : (cfg0.win 8).index t = ![0, 0] :=
  (by decide +kernel : ∀ t : Fin grid0.N, cc0_transform_8 (grid0.coords t) = ![0, 0]) t
theorem idx_9 : (cfg0.win 9).index t = ![t.val, 0] :=
  (by decide +kernel : ∀ t : Fin grid0.N, cc0_transform_9 (grid0.coords t) = ![t.val, 0]) t
theorem idx_10 : (cfg0.win 10).index t = ![t.val, 0] :=
  (by decide +kernel : ∀ t : Fin grid0.N, cc0_transform_10 (grid0.coords t) = ![t.val, 0]) t
theorem idx_11 : (cfg0.win 11).index t = ![t.val / 4, 0, t.val % 4] :=
  (by decide +kernel : ∀ t : Fin grid0.N, cc0_transform_11 (grid0.coords t) = ![t.val / 4, 0, t.val % 4]) t
theorem idx_12 : (cfg0.win 12).index t = ![t.val / 4, t.val % 4, 0] :=
  (by decide +kernel : ∀ t : Fin grid0.N, cc0_transform_12 (grid0.coords t) = ![t.val / 4, t.val % 4, 0]) t

/-- The row of the results that row `r` of point `t`'s block is. -/
abbrev row (r : Fin 512) : Fin 16384 := ⟨512 * t.val + r.val, by have := lt_points t; omega⟩
abbrev slot (r : Fin 512) : Fin 2048 := ⟨512 * (t.val % 4) + r.val, by omega⟩

theorem token_row (r : Fin 512) : token (row t r) = slot t r := by
  apply Fin.ext; show (512 * t.val + r.val) % 2048 = 512 * (t.val % 4) + r.val; omega

theorem block_0 (r : Fin 512) (k : Fin 2048) : iblk m c 0 t (ix2 r k) = tokens m c (ix3 (batch (row t r)) (token (row t r)) k) := by
  rw [← token_at]; have := lt_points t; blk_ext [iblk, idx_0 t]
theorem block_1 (k : Fin 2048) : iblk m c 1 t (ix2 0 k) = scale m c (ix2 0 k) := by
  rw [← scale_at]; blk_ext [iblk, idx_1 t]
theorem block_2 (k : Fin 2048) (e : Fin 2560) : iblk m c 2 t (ix2 k e) = weights m c (ix3 0 k e) := by
  rw [← weight_at]; blk_ext [iblk, idx_2 t]
theorem block_3 (k : Fin 128) : iblk m c 3 t (ix2 0 k) = qScale m c (ix2 0 k) := by
  rw [← qScale_at]; blk_ext [iblk, idx_3 t]
theorem block_4 (k : Fin 128) : iblk m c 4 t (ix2 0 k) = kScale m c (ix2 0 k) := by
  rw [← kScale_at]; blk_ext [iblk, idx_4 t]
theorem block_5 (r : Fin 512) (d : Fin 128) : iblk m c 5 t (ix2 r d) = Ideal.cos (angle (token (row t r)) (axis d) (freq d)) := by
  rw [token_row, ← cos_at m c]; blk_ext [iblk, idx_5 t]
theorem block_6 (r : Fin 512) (d : Fin 128) : iblk m c 6 t (ix2 r d)
    = if d.val / 32 % 2 < 1 then -Ideal.sin (angle (token (row t r)) (axis d) (freq d)) else 0 := by
  rw [token_row, ← low_at m c]; blk_ext [iblk, idx_6 t]
theorem block_7 (r : Fin 512) (d : Fin 128) : iblk m c 7 t (ix2 r d)
    = if d.val / 32 % 2 < 1 then 0 else Ideal.sin (angle (token (row t r)) (axis d) (freq d)) := by
  rw [token_row, ← high_at m c]; blk_ext [iblk, idx_7 t]
theorem block_8 (r k : Fin 512) : iblk m c 8 t (ix2 r k) = if k.val = r.val % 16 * 32 + r.val / 16 then (1 : EReal) else 0 := by
  rw [← perm_at m c]; blk_ext [iblk, idx_8 t]

/-- A block's row, projected, is its token's. -/
theorem blockProj_eq (r : Fin 512) (e : Fin 2560) : blockProj (iblk m c 0 t) (iblk m c 1 t) (iblk m c 2 t) r e
    = proj (tokens m c) (scale m c) (weights m c) (batch (row t r)) (token (row t r)) e := by
  unfold blockProj proj
  simp only [block_0 m c t, block_1 m c t, block_2 m c t]

/-- The four results as whole arrays. -/
def Gq : Vec Ideal S16384x1024 .bf16 := fun y => queries (tokens m c) (scale m c) (weights m c) (qScale m c) (y 0) (y 1)
def Gk : Vec Ideal S16384x256 .bf16 := fun y => keys (tokens m c) (scale m c) (weights m c) (kScale m c) (y 0) (y 1)
def Gv : Vec Ideal S8x256x2048 .bf16 := fun y => vals (tokens m c) (scale m c) (weights m c) (y 0) (y 1) (y 2)
def Gf : Vec Ideal S8x64x32768 .bf16 := fun y => feats (tokens m c) (scale m c) (weights m c) (y 0) (y 1) (y 2)

theorem query_block (r : Fin 512) (e : Fin 1024) : queryAt (iblk m c 0 t) (iblk m c 1 t) (iblk m c 2 t) (iblk m c 3 t) (iblk m c 5 t)
    (iblk m c 6 t) (iblk m c 7 t) (ix2 r e) = Gq m c (ix2 (row t r) e) := by
  show headAt (fun d => blockProj (iblk m c 0 t) (iblk m c 1 t) (iblk m c 2 t) r ⟨e.val / 128 * 128 + d.val, _⟩) (iblk m c 3 t)
    (iblk m c 5 t) (iblk m c 6 t) (iblk m c 7 t) r ⟨e.val % 128, _⟩ = queries _ _ _ _ (row t r) e
  unfold headAt queries
  simp only [blockProj_eq m c t, block_3 m c t, block_5 m c t, block_6 m c t, block_7 m c t]
  exact turn_rope _ _ _

theorem key_block (r : Fin 512) (e : Fin 256) : keyAt (iblk m c 0 t) (iblk m c 1 t) (iblk m c 2 t) (iblk m c 4 t) (iblk m c 5 t)
    (iblk m c 6 t) (iblk m c 7 t) (ix2 r e) = Gk m c (ix2 (row t r) e) := by
  show headAt (fun d => blockProj (iblk m c 0 t) (iblk m c 1 t) (iblk m c 2 t) r ⟨1024 + (e.val / 128 * 128 + d.val), _⟩) (iblk m c 4 t)
    (iblk m c 5 t) (iblk m c 6 t) (iblk m c 7 t) r ⟨e.val % 128, _⟩ = keys _ _ _ _ (row t r) e
  unfold headAt keys
  simp only [blockProj_eq m c t, block_4 m c t, block_5 m c t, block_6 m c t, block_7 m c t]
  exact turn_rope _ _ _

abbrev batchOf : Fin 8 := ⟨t.val / 4, by have := lt_points t; omega⟩

theorem batch_row (r : Fin 512) : batch (row t r) = batchOf t := by
  apply Fin.ext; show (512 * t.val + r.val) / 2048 = t.val / 4; omega

theorem val_block (e : Fin 256) (r : Fin 512) : valAt (iblk m c 0 t) (iblk m c 1 t) (iblk m c 2 t) (ix3 0 e r)
    = Gv m c (ix3 (batchOf t) e (slot t r)) := by
  refine (blockProj_eq m c t r _).trans ?_
  rw [batch_row, token_row]
  rfl

/-- The row of the last result that row `i` of point `t`'s block is. -/
abbrev run (i : Fin 16) : Fin 64 := ⟨16 * (t.val % 4) + i.val, by omega⟩

theorem feat_block (i : Fin 16) (j : Fin 32768) : featAt (k0_pay74 (F := Ideal) (iblk m c 0 t) (iblk m c 1 t) (iblk m c 2 t) (iblk m c 3 t)
    (iblk m c 4 t) (iblk m c 5 t) (iblk m c 6 t) (iblk m c 7 t) (iblk m c 8 t)) (ix3 0 i j) = Gf m c (ix3 (batchOf t) (run t i) j) := by
  refine (rearranged_eq _ _ _ _ _ _ _ _ _ _ _).trans ?_
  simp only [block_8 m c t, blockProj_eq m c t]
  have hr : i.val * 32 + j.val / 1024 < 512 := by omega
  rw [Finset.sum_eq_single (⟨i.val * 32 + j.val / 1024, hr⟩ : Fin 512)]
  · rw [if_pos (by show i.val * 32 + j.val / 1024 = (16 * (j.val / 1024) + i.val) % 16 * 32 + (16 * (j.val / 1024) + i.val) / 16; omega),
      one_mul, batch_row, token_row]
    refine congrArg (fun s => proj _ _ _ _ s _) (Fin.ext ?_)
    show 512 * (t.val % 4) + (i.val * 32 + j.val / 1024) = (16 * (t.val % 4) + i.val) * 32 + j.val / 1024
    omega
  · intro k _ hk
    rw [if_neg, zero_mul]
    intro h
    apply hk
    apply Fin.ext
    have h' : k.val = (16 * (j.val / 1024) + i.val) % 16 * 32 + (16 * (j.val / 1024) + i.val) / 16 := h
    show k.val = i.val * 32 + j.val / 1024
    omega
  · intro h; exact absurd (Finset.mem_univ _) h

end Cert.Kernel4Ideal.Sample

end
-- ==== Proof.Sample.Result.lean ====
/- For the sample batch, the input projection's four result arrays after the run: the points' blocks make up each of them. -/
module

public import proofs.«01_k».proof.Proof.Sample.Blocks
public import Idealize.ShloMosaic.Lib.Pipeline.Covers

@[expose] public section

set_option maxRecDepth 16384

noncomputable section

namespace Cert.Kernel4Ideal.Sample

open Cert.Kernel4Ideal.Gen Cert.Proof.Sample
open Idealize.ShloMosaic Idealize.ShloMosaic.TcCoe
open Cert.Proof.InProj (invRms rowProj unit axis freq lowLane highLane)

variable (m : (ℓ : Loc nD τ sig) → Buf (Elt Ideal) ℓ) (c : Dev nD)

theorem covers_9 : (cfg0.win 9).Covers :=
  (cfg0.win 9).covers_of_index_surj rfl (fun a => (by decide : ∀ a : Fin 2, 0 < S512x1024.size a) a) fun β => by
    have h0 : (β 0).val < 32 := (β 0).isLt
    have h1 : (β 1).val < 1 := (β 1).isLt
    refine ⟨⟨(β 0).val, h0⟩, fun a => (congrFun (idx_9 _) a).trans ?_⟩
    match a with
    | 0 => rfl
    | 1 => show 0 = (β 1).val; omega

theorem place_9 (t : Fin cfg0.N) (r : Fin 512) (e : Fin 1024) :
    (((cfg0.win 9).blk t).view.emb (ix2 r e : S512x1024.Idx) : S16384x1024.Idx) = ix2 (row t r) e := by
  have := lt_points t
  blk_ext [idx_9 t]

theorem final_9 : (dats m 0 c).arrAt 9 cfg0.N = Gq m c := by
  refine (dats m 0 c).arrAt_eq_of_covers 9 _ covers_9 fun t hf y => ?_
  blk_simp
  rw [after0_9]
  have hy : ∃ (r : Fin 512) (e : Fin 1024), y = ix2 r e := ix2_eta y
  obtain ⟨r, e, rfl⟩ := hy
  exact (out_queries _ _ _ _ _ _ _ _ _ _).trans ((query_block m c t r e).trans (congrArg (Gq m c) (place_9 t r e)).symm)

theorem covers_10 : (cfg0.win 10).Covers :=
  (cfg0.win 10).covers_of_index_surj rfl (fun a => (by decide : ∀ a : Fin 2, 0 < S512x256.size a) a) fun β => by
    have h0 : (β 0).val < 32 := (β 0).isLt
    have h1 : (β 1).val < 1 := (β 1).isLt
    refine ⟨⟨(β 0).val, h0⟩, fun a => (congrFun (idx_10 _) a).trans ?_⟩
    match a with
    | 0 => rfl
    | 1 => show 0 = (β 1).val; omega

theorem place_10 (t : Fin cfg0.N) (r : Fin 512) (e : Fin 256) :
    (((cfg0.win 10).blk t).view.emb (ix2 r e : S512x256.Idx) : S16384x256.Idx) = ix2 (row t r) e := by
  have := lt_points t
  blk_ext [idx_10 t]

theorem final_10 : (dats m 0 c).arrAt 10 cfg0.N = Gk m c := by
  refine (dats m 0 c).arrAt_eq_of_covers 10 _ covers_10 fun t hf y => ?_
  blk_simp
  rw [after0_10]
  have hy : ∃ (r : Fin 512) (e : Fin 256), y = ix2 r e := ix2_eta y
  obtain ⟨r, e, rfl⟩ := hy
  exact (out_keys _ _ _ _ _ _ _ _ _ _).trans ((key_block m c t r e).trans (congrArg (Gk m c) (place_10 t r e)).symm)

theorem covers_11 : (cfg0.win 11).Covers :=
  (cfg0.win 11).covers_of_index_surj rfl (fun a => (by decide : ∀ a : Fin 3, 0 < S1x256x512.size a) a) fun β => by
    have h0 : (β 0).val < 8 := (β 0).isLt
    have h1 : (β 2).val < 4 := (β 2).isLt
    have h2 : (β 1).val < 1 := (β 1).isLt
    refine ⟨⟨4 * (β 0).val + (β 2).val, by show _ < 32; omega⟩, fun a => (congrFun (idx_11 _) a).trans ?_⟩
    match a with
    | 0 => show (4 * (β 0).val + (β 2).val) / 4 = (β 0).val; omega
    | 1 => show 0 = (β 1).val; omega
    | 2 => show (4 * (β 0).val + (β 2).val) % 4 = (β 2).val; omega

theorem place_11 (t : Fin cfg0.N) (e : Fin 256) (r : Fin 512) :
    (((cfg0.win 11).blk t).view.emb (ix3 0 e r : S1x256x512.Idx) : S8x256x2048.Idx) = ix3 (batchOf t) e (slot t r) := by
  have := lt_points t
  blk_ext [idx_11 t]

theorem final_11 : (dats m 0 c).arrAt 11 cfg0.N = Gv m c := by
  refine (dats m 0 c).arrAt_eq_of_covers 11 _ covers_11 fun t hf y => ?_
  blk_simp
  rw [after0_11]
  have hy : ∃ (a : Fin 1) (e : Fin 256) (r : Fin 512), y = ix3 a e r := ix3_eta y
  obtain ⟨a, e, r, rfl⟩ := hy
  obtain rfl : a = 0 := Subsingleton.elim _ _
  exact (out_vals _ _ _ _ _ _ _ _ _ _).trans ((val_block m c t e r).trans (congrArg (Gv m c) (place_11 t e r)).symm)

theorem covers_12 : (cfg0.win 12).Covers :=
  (cfg0.win 12).covers_of_index_surj rfl (fun a => (by decide : ∀ a : Fin 3, 0 < S1x16x32768.size a) a) fun β => by
    have h0 : (β 0).val < 8 := (β 0).isLt
    have h1 : (β 1).val < 4 := (β 1).isLt
    have h2 : (β 2).val < 1 := (β 2).isLt
    refine ⟨⟨4 * (β 0).val + (β 1).val, by show _ < 32; omega⟩, fun a => (congrFun (idx_12 _) a).trans ?_⟩
    match a with
    | 0 => show (4 * (β 0).val + (β 1).val) / 4 = (β 0).val; omega
    | 1 => show (4 * (β 0).val + (β 1).val) % 4 = (β 1).val; omega
    | 2 => show 0 = (β 2).val; omega

theorem place_12 (t : Fin cfg0.N) (e : Fin 16) (r : Fin 32768) :
    (((cfg0.win 12).blk t).view.emb (ix3 0 e r : S1x16x32768.Idx) : S8x64x32768.Idx) = ix3 (batchOf t) (run t e) r := by
  have := lt_points t
  blk_ext [idx_12 t]

theorem final_12 : (dats m 0 c).arrAt 12 cfg0.N = Gf m c := by
  refine (dats m 0 c).arrAt_eq_of_covers 12 _ covers_12 fun t hf y => ?_
  blk_simp
  rw [after0_12]
  have hy : ∃ (a : Fin 1) (e : Fin 16) (r : Fin 32768), y = ix3 a e r := ix3_eta y
  obtain ⟨a, e, r, rfl⟩ := hy
  obtain rfl : a = 0 := Subsingleton.elim _ _
  exact (out_feats _ _ _ _ _ _ _ _ _ _).trans ((feat_block m c t e r).trans (congrArg (Gf m c) (place_12 t e r)).symm)

end Cert.Kernel4Ideal.Sample

end
-- ==== Proof.Sample.Reference.lean ====
/- For the sample batch, the reference program's four results at an element. -/
module

public import proofs.«01_k».proof.Proof.Sample.Spec
public import proofs.«01_k».proof.Proof.Gen.Reference4Ideal.Read

@[expose] public section

set_option maxRecDepth 16384

noncomputable section

namespace Cert.Proof.Sample

open Idealize.ShloMosaic Cert.Reference4Ideal Cert.Reference4Ideal.Read
open Cert.Proof.InProj (invRms rowProj unit axis freq lowLane highLane)

variable (x : Vec Ideal S8x2048x2048 .f32) (g : Vec Ideal S1x2048 .f32) (w : Vec Ideal S1x2048x2560 .f32) (qg kg : Vec Ideal S1x128 .f32)

theorem proj_eq (b : Fin 8) (s : Fin 2048) (e : Fin 2560) : val_main_v15 (F := Ideal) x g w (ix3 b s e) = proj x g w b s e := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  rfl

theorem angle_eq (s : Fin 2048) (a : Fin 2) (f : Fin 32) : val_main_v47 (F := Ideal) (ix3 s a f) = angle s a f := by
  pointwise [val_main_v47, val_main_v46, val_main_v45, val_main_v44, val_main_v43, val_main_v42, val_main_v41, val_main_v40,
    val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_cst_2, val_main_cst_3]
  unfold angle
  split <;> rfl

theorem cos_eq (s : Fin 2048) (a : Fin 2) (f : Fin 32) : val_main_v48 (F := Ideal) (ix3 s a f) = Ideal.cos (angle s a f) := by
  rw [← angle_eq]; rfl
theorem sin_eq (s : Fin 2048) (a : Fin 2) (f : Fin 32) : val_main_v49 (F := Ideal) (ix3 s a f) = Ideal.sin (angle s a f) := by
  rw [← angle_eq]; rfl

theorem head_q (b : Fin 8) (s : Fin 2048) (h : Fin 8) (d : Fin 128) : val_main_v63 (F := Ideal) x g w qg (ix4 b s h d)
    = unit (fun d => proj x g w b s ⟨h.val * 128 + d.val, by omega⟩) (fun d => qg (ix2 0 d)) d := by
  pointwise [val_main_v63, val_main_v62, val_main_v61, val_main_v60, val_main_v59, val_main_v58, val_main_v57, val_main_v56,
    val_main_v55, val_main_v54, val_main_v53, val_main_v52, val_main_v51, val_main_v50, val_main_v17, val_main_v16,
    val_main_cst_4, val_main_cst_5, val_main_cst_6]
  simp only [proj_eq]
  rfl

theorem head_k (b : Fin 8) (s : Fin 2048) (h : Fin 2) (d : Fin 128) : val_main_v102 (F := Ideal) x g w kg (ix4 b s h d)
    = unit (fun d => proj x g w b s ⟨1024 + (h.val * 128 + d.val), by omega⟩) (fun d => kg (ix2 0 d)) d := by
  pointwise [val_main_v102, val_main_v101, val_main_v100, val_main_v99, val_main_v98, val_main_v97, val_main_v96, val_main_v95,
    val_main_v94, val_main_v93, val_main_v92, val_main_v91, val_main_v90, val_main_v89, val_main_v19, val_main_v18,
    val_main_cst_7, val_main_cst_8, val_main_cst_9]
  simp only [proj_eq]
  rfl

/-- A head's lane `e % 128`: its pair's lanes, axis and frequency, read from the column. -/
theorem rope_column (z : Fin 128 → EReal) (s : Fin 2048) (n : ℕ) (h1 h2 h3 h4) (hn : n % 128 < 128) :
    (if _h : n / 32 % 2 < 1 then
      z ⟨n / 64 % 2 * 64 + n % 32, h1⟩ * Ideal.cos (angle s ⟨n / 64 % 2, h3⟩ ⟨n % 32, h4⟩)
        - z ⟨n / 64 % 2 * 64 + 32 + n % 32, h2⟩ * Ideal.sin (angle s ⟨n / 64 % 2, h3⟩ ⟨n % 32, h4⟩)
    else
      z ⟨n / 64 % 2 * 64 + 32 + n % 32, h2⟩ * Ideal.cos (angle s ⟨n / 64 % 2, h3⟩ ⟨n % 32, h4⟩)
        + z ⟨n / 64 % 2 * 64 + n % 32, h1⟩ * Ideal.sin (angle s ⟨n / 64 % 2, h3⟩ ⟨n % 32, h4⟩)) = rope z s ⟨n % 128, hn⟩ := by
  have e1 : (⟨n / 64 % 2 * 64 + n % 32, h1⟩ : Fin 128) = lowLane ⟨n % 128, hn⟩ := by
    apply Fin.ext; show n / 64 % 2 * 64 + n % 32 = n % 128 / 64 * 64 + n % 128 % 32; omega
  have e2 : (⟨n / 64 % 2 * 64 + 32 + n % 32, h2⟩ : Fin 128) = highLane ⟨n % 128, hn⟩ := by
    apply Fin.ext; show n / 64 % 2 * 64 + 32 + n % 32 = n % 128 / 64 * 64 + 32 + n % 128 % 32; omega
  have e3 : (⟨n / 64 % 2, h3⟩ : Fin 2) = axis ⟨n % 128, hn⟩ := by
    apply Fin.ext; show n / 64 % 2 = n % 128 / 64; omega
  have e4 : (⟨n % 32, h4⟩ : Fin 32) = freq ⟨n % 128, hn⟩ := by
    apply Fin.ext; show n % 32 = n % 128 % 32; omega
  have e5 : (n % 128) / 32 % 2 = n / 32 % 2 := by omega
  rw [e1, e2, e3, e4]
  unfold rope
  show _ = if (n % 128) / 32 % 2 < 1 then _ else _
  rw [e5]
  split <;> rfl

theorem queries_eq (r : Fin 16384) (e : Fin 1024) : val_main_v129 (F := Ideal) x g w qg (ix2 r e) = queries x g w qg r e := by
  pointwise [val_main_v129, val_main_v128, val_main_v88, val_main_v87, val_main_v86, val_main_v85, val_main_v84, val_main_v83,
    val_main_v82, val_main_v81, val_main_v80, val_main_v79, val_main_v78, val_main_v77, val_main_v76, val_main_v75, val_main_v74,
    val_main_v73, val_main_v72, val_main_v71, val_main_v70, val_main_v69, val_main_v68, val_main_v67, val_main_v66, val_main_v65,
    val_main_v64]
  simp only [head_q, cos_eq, sin_eq]
  exact rope_column (unit (fun d => proj x g w (batch r) (token r) ⟨e.val / 128 * 128 + d.val, by omega⟩) fun d => qg (ix2 0 d))
    (token r) e.val (by omega) (by omega) (by omega) (by omega) (by omega)

theorem keys_eq (r : Fin 16384) (e : Fin 256) : val_main_v131 (F := Ideal) x g w kg (ix2 r e) = keys x g w kg r e := by
  pointwise [val_main_v131, val_main_v130, val_main_v127, val_main_v126, val_main_v125, val_main_v124, val_main_v123, val_main_v122,
    val_main_v121, val_main_v120, val_main_v119, val_main_v118, val_main_v117, val_main_v116, val_main_v115, val_main_v114,
    val_main_v113, val_main_v112, val_main_v111, val_main_v110, val_main_v109, val_main_v108, val_main_v107, val_main_v106,
    val_main_v105, val_main_v104, val_main_v103]
  simp only [head_k, cos_eq, sin_eq]
  exact rope_column (unit (fun d => proj x g w (batch r) (token r) ⟨1024 + (e.val / 128 * 128 + d.val), by omega⟩) fun d => kg (ix2 0 d))
    (token r) e.val (by omega) (by omega) (by omega) (by omega) (by omega)

theorem vals_eq (b : Fin 8) (e : Fin 256) (s : Fin 2048) : val_main_v133 (F := Ideal) x g w (ix3 b e s) = vals x g w b e s := by
  pointwise [val_main_v133, val_main_v132, val_main_v20]
  exact proj_eq x g w b s _

theorem feats_eq (b : Fin 8) (i : Fin 64) (j : Fin 32768) : val_main_v135 (F := Ideal) x g w (ix3 b i j) = feats x g w b i j := by
  pointwise [val_main_v135, val_main_v134, val_main_v21]
  exact proj_eq x g w b _ _

end Cert.Proof.Sample

end
-- ==== Proof.Sample.Claims.lean ====
/- For the sample batch, the input projection's value claim: at `Ideal` its four result arrays are the reference's. -/
module

public import proofs.«01_k».proof.Defs
public import proofs.«01_k».proof.Proof.Gen.Reference4Ideal.Run
public import proofs.«01_k».proof.Proof.Gen.Reference4Ideal.Read
public import proofs.«01_k».proof.Proof.Gen.Kernel4Ideal.Value
public import proofs.«01_k».proof.Proof.Sample.Result
public import proofs.«01_k».proof.Proof.Sample.Reference

@[expose] public section

set_option maxRecDepth 16384

noncomputable section

open Idealize.ShloMosaic Idealize.ShloMosaic.TcCoe Idealize.SL.Sem

namespace Cert.Proof.Sample

open Cert.Kernel4Ideal.Sample
open Cert.Proof.InProj (invRms rowProj unit axis freq lowLane highLane)

theorem frame_reference : Cert.quiescent_Reference4Ideal := fun m ρ _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m ρ)

variable (m : (ℓ : Loc Cert.Kernel4Ideal.nD Cert.Kernel4Ideal.τ Cert.Kernel4Ideal.sig) → Buf (Elt Ideal) ℓ) (c : Dev Cert.Kernel4Ideal.nD)

/-- The reference's queries, from the kernel's arguments, are the kernel's. -/
theorem reference_queries : Cert.Reference4Ideal.Read.val_main_v129 (F := Ideal) (tokens m c) (scale m c) (weights m c) (qScale m c) = Gq m c := by
  funext y
  obtain ⟨r, e, rfl⟩ := ix2_eta y
  exact queries_eq _ _ _ _ r e

/-- The reference's keys are the kernel's. -/
theorem reference_keys : Cert.Reference4Ideal.Read.val_main_v131 (F := Ideal) (tokens m c) (scale m c) (weights m c) (kScale m c) = Gk m c := by
  funext y
  obtain ⟨r, e, rfl⟩ := ix2_eta y
  exact keys_eq _ _ _ _ r e

/-- The reference's values are the kernel's. -/
theorem reference_vals : Cert.Reference4Ideal.Read.val_main_v133 (F := Ideal) (tokens m c) (scale m c) (weights m c) = Gv m c := by
  funext y
  obtain ⟨b, e, s, rfl⟩ := ix3_eta y
  exact vals_eq _ _ _ b e s

/-- The reference's input of the Fourier mixing is the kernel's. -/
theorem reference_feats : Cert.Reference4Ideal.Read.val_main_v135 (F := Ideal) (tokens m c) (scale m c) (weights m c) = Gf m c := by
  funext y
  obtain ⟨b, i, j, rfl⟩ := ix3_eta y
  exact feats_eq _ _ _ b i j

set_option maxHeartbeats 1000000 in
/-- At `Ideal` the kernel's four result arrays and the reference's agree. -/
theorem algebraic : Cert.algebraic_Kernel4Ideal_Reference4Ideal := by
  intro m g m' g' _ hagree
  refine ⟨fun c => Gq m c, fun c => Gk m c, fun c => Gv m c, fun c => Gf m c, ?_, ?_⟩
  · exact (θ_run Cert.Kernel4Ideal.defs _ _).mono (fun r hr c => ⟨(hr c).1.trans (final_9 m c), (hr c).2.1.trans (final_10 m c),
      (hr c).2.2.1.trans (final_11 m c), (hr c).2.2.2.1.trans (final_12 m c), (hr c).2.2.2.2⟩) (Cert.Kernel4Ideal.Value.run_blocks m g)
  · refine (θ_run Cert.Reference4Ideal.defs _ _).mono (fun r hr c => ⟨?_, ?_, ?_, ?_, (hr c).2.2.2.2⟩) (Cert.Reference4Ideal.Value.run (F := Ideal) m' g')
    · refine (hr c).1.trans ((Cert.Reference4Ideal.Read.val_main_v129_eq (F := Ideal) m' c).trans ?_)
      rw [(hagree c).1, (hagree c).2.1, (hagree c).2.2.1, (hagree c).2.2.2.1]
      exact reference_queries m c
    · refine (hr c).2.1.trans ((Cert.Reference4Ideal.Read.val_main_v131_eq (F := Ideal) m' c).trans ?_)
      rw [(hagree c).1, (hagree c).2.1, (hagree c).2.2.1, (hagree c).2.2.2.2]
      exact reference_keys m c
    · refine (hr c).2.2.1.trans ((Cert.Reference4Ideal.Read.val_main_v133_eq (F := Ideal) _ _ _).trans ?_)
      rw [(hagree c).1, (hagree c).2.1, (hagree c).2.2.1]
      exact reference_vals m c
    · refine (hr c).2.2.2.1.trans ((Cert.Reference4Ideal.Read.val_main_v135_eq (F := Ideal) _ _ _).trans ?_)
      rw [(hagree c).1, (hagree c).2.1, (hagree c).2.2.1]
      exact reference_feats m c

end Cert.Proof.Sample

end
-- ==== Proof.SampleAttention.Step.lean ====
/- For the sample batch, what one grid point of the attention call computes: the online-softmax step on the running maximum, sum and
   accumulator, in its two forms (a fixed shift where the scores are bounded, a moving one elsewhere), and the block stored
   at the last key block. -/
module

public import proofs.«01_k».proof.Proof.Gen.Kernel5Ideal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel5Ideal.Step

open Cert.Kernel5Ideal Cert.Kernel5Ideal.Gen

/-- Lane `d` of head `h` in the block's 512 query lanes. -/
def lane (h : Fin 4) (d : Fin 128) : Fin 512 := ⟨128 * h.val + d.val, by omega⟩

theorem lane0 (d : Fin 128) : lane 0 d = ⟨d.val, by omega⟩ := Fin.ext (by simp [lane])
theorem lane1 (d : Fin 128) : lane 1 d = ⟨128 + d.val, by omega⟩ := Fin.ext (by simp [lane])
theorem lane2 (d : Fin 128) : lane 2 d = ⟨256 + d.val, by omega⟩ := Fin.ext (by simp [lane])
theorem lane3 (d : Fin 128) : lane 3 d = ⟨384 + d.val, by omega⟩ := Fin.ext (by simp [lane])

/-- The score of the block's key `r` for row `i` of head `h`. -/
def sc (q : Vec Ideal S1x2048x512 .bf16) (k : Vec Ideal S1x1024x128 .bf16) (h : Fin 4) (i : Fin 2048) (r : Fin 1024) : EReal :=
  ∑ d : Fin 128, k (ix3 0 r d) * q (ix3 0 i (lane h d))

/-- Fixed shift `w`: the running sum after the block. -/
def lB (q : Vec Ideal S1x2048x512 .bf16) (k : Vec Ideal S1x1024x128 .bf16) (w : BitVec 32) (l : Vec Ideal S4x1x2048 .f32) : Vec Ideal S4x1x2048 .f32 := fun y =>
  l y + ∑ r : Fin 1024, Ideal.exp2 (sc q k (y 0) (y 2) r - ((BitVec.toInt w : ℝ) : EReal))

/-- Fixed shift: the accumulator after the block. -/
def aB (q : Vec Ideal S1x2048x512 .bf16) (k : Vec Ideal S1x1024x128 .bf16) (v : Vec Ideal S1x128x1024 .bf16) (w : BitVec 32) (a : Vec Ideal S4x128x2048 .f32) : Vec Ideal S4x128x2048 .f32 := fun y =>
  a y + ∑ r : Fin 1024, v (ix3 0 (y 1) r) * Ideal.exp2 (sc q k (y 0) (y 2) r - ((BitVec.toInt w : ℝ) : EReal))

/-- Moving shift: the running maximum after the block. -/
def mO (q : Vec Ideal S1x2048x512 .bf16) (k : Vec Ideal S1x1024x128 .bf16) (m : Vec Ideal S4x1x2048 .f32) : Vec Ideal S4x1x2048 .f32 := fun y =>
  max (m y) (Finset.univ.fold max (Ideal.ofBits .f32 0xFF800000#32) fun r : Fin 1024 => sc q k (y 0) (y 2) r)

/-- Moving shift: the running sum after the block. -/
def lO (q : Vec Ideal S1x2048x512 .bf16) (k : Vec Ideal S1x1024x128 .bf16) (m l : Vec Ideal S4x1x2048 .f32) : Vec Ideal S4x1x2048 .f32 := fun y =>
  Ideal.exp2 (m y - mO q k m y) * l y + ∑ r : Fin 1024, Ideal.exp2 (sc q k (y 0) (y 2) r - mO q k m y)

/-- Moving shift: the accumulator after the block. -/
def aO (q : Vec Ideal S1x2048x512 .bf16) (k : Vec Ideal S1x1024x128 .bf16) (v : Vec Ideal S1x128x1024 .bf16) (m : Vec Ideal S4x1x2048 .f32) (a : Vec Ideal S4x128x2048 .f32) : Vec Ideal S4x128x2048 .f32 := fun y =>
  Ideal.exp2 (m (ix3 (y 0) 0 (y 2)) - mO q k m (ix3 (y 0) 0 (y 2))) * a y
    + ∑ r : Fin 1024, v (ix3 0 (y 1) r) * Ideal.exp2 (sc q k (y 0) (y 2) r - mO q k m (ix3 (y 0) 0 (y 2)))

/-- The block stored: the accumulator over the running sum, transposed. -/
def outO (l : Vec Ideal S4x1x2048 .f32) (a : Vec Ideal S4x128x2048 .f32) : Vec Ideal S1x2048x512 .bf16 := fun y =>
  a (ix3 ⟨(y 2).val / 128, by have := (y 2).isLt; change (y 2).val < 512 at this; omega⟩ ⟨(y 2).val % 128, by omega⟩ (y 1)) * Ideal.div 1 (l (ix3 ⟨(y 2).val / 128, by have := (y 2).isLt; change (y 2).val < 512 at this; omega⟩ 0 (y 1)))

theorem outO_at (l : Vec Ideal S4x1x2048 .f32) (a : Vec Ideal S4x128x2048 .f32) (i : Fin 2048) (h : Fin 4) (d : Fin 128) :
    outO l a (ix3 0 i (lane h d)) = a (ix3 h d i) * Ideal.div 1 (l (ix3 h 0 i)) := by
  have e1 : (⟨(lane h d).val / 128, by have := (lane h d).isLt; omega⟩ : Fin 4) = h := Fin.ext (by simp only [lane]; omega)
  have e2 : (⟨(lane h d).val % 128, by omega⟩ : Fin 128) = d := Fin.ext (by simp only [lane]; omega)
  show a (ix3 ⟨(lane h d).val / 128, _⟩ ⟨(lane h d).val % 128, _⟩ i) * Ideal.div 1 (l (ix3 ⟨(lane h d).val / 128, _⟩ 0 i)) = _
  rw [e1, e2]

theorem ofBits_one : Ideal.ofBits .f32 0x3F800000#32 = 1 := by
  simp [Ideal.ofBits, Ideal.ieee, -EReal.coe_mul]; norm_num

theorem eL0 (a : Fin 1) (d : Fin 1) (i : Fin 2048) : (Rect.unit (s := S4x1x2048) ![0, 0, 0] ![1, 1, 2048] inb_S4x1x2048_S1x1x2048_0_0_0).emb (ix3 a d i) = ix3 0 0 i := by
  obtain rfl := Subsingleton.elim d 0
  funext x; apply Fin.ext; fin_cases x <;> simp [Rect.emb, Rect.unit]
theorem eA0 (a : Fin 1) (d : Fin 128) (i : Fin 2048) : (Rect.unit (s := S4x128x2048) ![0, 0, 0] ![1, 128, 2048] inb_S4x128x2048_S1x128x2048_0_0_0).emb (ix3 a d i) = ix3 0 d i := by
  funext x; apply Fin.ext; fin_cases x <;> simp [Rect.emb, Rect.unit]
theorem eO0 (a : Fin 1) (i : Fin 2048) (d : Fin 128) : (Rect.unit (s := S1x2048x512) ![0, 0, 0] ![1, 2048, 128] inb_S1x2048x512_S1x2048x128_0_0_0).emb (ix3 a i d) = ix3 0 i (lane 0 d) := by
  funext x; apply Fin.ext; fin_cases x <;> simp [Rect.emb, Rect.unit, lane]

theorem eL1 (a : Fin 1) (d : Fin 1) (i : Fin 2048) : (Rect.unit (s := S4x1x2048) ![1, 0, 0] ![1, 1, 2048] inb_S4x1x2048_S1x1x2048_1_0_0).emb (ix3 a d i) = ix3 1 0 i := by
  obtain rfl := Subsingleton.elim d 0
  funext x; apply Fin.ext; fin_cases x <;> simp [Rect.emb, Rect.unit]
theorem eA1 (a : Fin 1) (d : Fin 128) (i : Fin 2048) : (Rect.unit (s := S4x128x2048) ![1, 0, 0] ![1, 128, 2048] inb_S4x128x2048_S1x128x2048_1_0_0).emb (ix3 a d i) = ix3 1 d i := by
  funext x; apply Fin.ext; fin_cases x <;> simp [Rect.emb, Rect.unit]
theorem eO1 (a : Fin 1) (i : Fin 2048) (d : Fin 128) : (Rect.unit (s := S1x2048x512) ![0, 0, 128] ![1, 2048, 128] inb_S1x2048x512_S1x2048x128_0_0_128).emb (ix3 a i d) = ix3 0 i (lane 1 d) := by
  funext x; apply Fin.ext; fin_cases x <;> simp [Rect.emb, Rect.unit, lane]

theorem eL2 (a : Fin 1) (d : Fin 1) (i : Fin 2048) : (Rect.unit (s := S4x1x2048) ![2, 0, 0] ![1, 1, 2048] inb_S4x1x2048_S1x1x2048_2_0_0).emb (ix3 a d i) = ix3 2 0 i := by
  obtain rfl := Subsingleton.elim d 0
  funext x; apply Fin.ext; fin_cases x <;> simp [Rect.emb, Rect.unit]
theorem eA2 (a : Fin 1) (d : Fin 128) (i : Fin 2048) : (Rect.unit (s := S4x128x2048) ![2, 0, 0] ![1, 128, 2048] inb_S4x128x2048_S1x128x2048_2_0_0).emb (ix3 a d i) = ix3 2 d i := by
  funext x; apply Fin.ext; fin_cases x <;> simp [Rect.emb, Rect.unit]
theorem eO2 (a : Fin 1) (i : Fin 2048) (d : Fin 128) : (Rect.unit (s := S1x2048x512) ![0, 0, 256] ![1, 2048, 128] inb_S1x2048x512_S1x2048x128_0_0_256).emb (ix3 a i d) = ix3 0 i (lane 2 d) := by
  funext x; apply Fin.ext; fin_cases x <;> simp [Rect.emb, Rect.unit, lane]

theorem eL3 (a : Fin 1) (d : Fin 1) (i : Fin 2048) : (Rect.unit (s := S4x1x2048) ![3, 0, 0] ![1, 1, 2048] inb_S4x1x2048_S1x1x2048_3_0_0).emb (ix3 a d i) = ix3 3 0 i := by
  obtain rfl := Subsingleton.elim d 0
  funext x; apply Fin.ext; fin_cases x <;> simp [Rect.emb, Rect.unit]
theorem eA3 (a : Fin 1) (d : Fin 128) (i : Fin 2048) : (Rect.unit (s := S4x128x2048) ![3, 0, 0] ![1, 128, 2048] inb_S4x128x2048_S1x128x2048_3_0_0).emb (ix3 a d i) = ix3 3 d i := by
  funext x; apply Fin.ext; fin_cases x <;> simp [Rect.emb, Rect.unit]
theorem eO3 (a : Fin 1) (i : Fin 2048) (d : Fin 128) : (Rect.unit (s := S1x2048x512) ![0, 0, 384] ![1, 2048, 128] inb_S1x2048x512_S1x2048x128_0_0_384).emb (ix3 a i d) = ix3 0 i (lane 3 d) := by
  funext x; apply Fin.ext; fin_cases x <;> simp [Rect.emb, Rect.unit, lane]

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

/-- Word 0 of the table: whether the scores are bounded. -/
abbrev w0 := tbM0_0.view.readAt (Elt Ideal) (Rect.unit (s := S2) ![0] S1.size inb_S2_S1_0).toLoadRect xt0 (Shape.Idx.first (numel1_S1.symm ▸ Nat.one_pos))

/-- Word 1 of the table: the fixed shift. -/
abbrev w1 : BitVec 32 := View.read (Elt Ideal) (View.whole main_v24) xt0 (ix1 1)

end Cert.Kernel5Ideal.Step
-- ==== Proof.SampleAttention.CaseB.lean ====
/- For the sample batch, the first key block of a row block, the scores bounded: the three running quantities start and take one step. -/
module

public import proofs.«01_k».proof.Proof.SampleAttention.Step

@[expose] public section

set_option maxRecDepth 16384

noncomputable section

open Idealize.ShloMosaic Idealize.ShloMosaic.TcCoe Idealize.SL.Sem

namespace Cert.Kernel5Ideal.Step

open Cert.Kernel5Ideal Cert.Kernel5Ideal.Gen

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

theorem caseB_m (hc0 : cond0_0 i) (hc3 : ¬cond0_3 i) (hc1 : cond0_1 i (w0 c xt0)) (hc2 : ¬cond0_2 i (w0 c xt0)) :
   sout0_B_0 c i arg5 harg5 arg6 harg6 arg7 harg7 arg8 harg8 arg9 harg9 arg10 harg10 arg11 harg11 hc0 hc3 x0 x1 x2 xt0 hc1 hc2 = (k0_pay1 (F := Ideal)) := by
  frame_open
  frame_out
  done

theorem caseB_l (hc0 : cond0_0 i) (hc3 : ¬cond0_3 i) (hc1 : cond0_1 i (w0 c xt0)) (hc2 : ¬cond0_2 i (w0 c xt0)) :
   sout0_B_1 c i arg5 harg5 arg6 harg6 arg7 harg7 arg8 harg8 arg9 harg9 arg10 harg10 arg11 harg11 hc0 hc3 x0 x1 x2 xt0 hc1 hc2 = lB x0 x1 (w1 c xt0) (k0_pay2 (F := Ideal)) := by
  frame_open
  simp (disch := decide) only [↓ View.readCov_skip, ↓ View.readCov_cons_toLoadRect, ↓ View.readCov_fill]
  frame_out
  generalize (k0_pay1 (F := Ideal)) = xs0
  generalize (k0_pay2 (F := Ideal)) = xs1
  generalize (k0_pay3 (F := Ideal)) = xs2
  revert xs0 xs1 xs2
  intro (xs0 : Vec Ideal S4x1x2048 .f32) (xs1 : Vec Ideal S4x1x2048 .f32) (xs2 : Vec Ideal S4x128x2048 .f32)
  clear hc0 hc1 hc2 hc3
  funext y
  refine View.canon_append_of_piecesOf (Val := Elt Ideal) (lB x0 x1 (w1 c xt0) xs1) [_] [_, _, _, _] ⟨?_, ?_, ?_, ?_, trivial⟩ y (View.cover_of_tiledL _ ![1,1,2048] (by rfl) _)
  all_goals intro x; idx_vars x; simp only [eL0, eL1, eL2, eL3]
  all_goals unfold_payloads
  all_goals pointwise [lB, lO, mO, sc]
  all_goals simp only [lane0, lane1, lane2, lane3]
  all_goals exact congrArg _ rfl

theorem caseB_a (hc0 : cond0_0 i) (hc3 : ¬cond0_3 i) (hc1 : cond0_1 i (w0 c xt0)) (hc2 : ¬cond0_2 i (w0 c xt0)) :
   sout0_B_2 c i arg5 harg5 arg6 harg6 arg7 harg7 arg8 harg8 arg9 harg9 arg10 harg10 arg11 harg11 hc0 hc3 x0 x1 x2 xt0 hc1 hc2 = aB x0 x1 x2 (w1 c xt0) (k0_pay3 (F := Ideal)) := by
  frame_open
  simp (disch := decide) only [↓ View.readCov_skip, ↓ View.readCov_cons_toLoadRect, ↓ View.readCov_fill]
  frame_out
  generalize (k0_pay1 (F := Ideal)) = xs0
  generalize (k0_pay2 (F := Ideal)) = xs1
  generalize (k0_pay3 (F := Ideal)) = xs2
  revert xs0 xs1 xs2
  intro (xs0 : Vec Ideal S4x1x2048 .f32) (xs1 : Vec Ideal S4x1x2048 .f32) (xs2 : Vec Ideal S4x128x2048 .f32)
  clear hc0 hc1 hc2 hc3
  funext y
  refine View.canon_append_of_piecesOf (Val := Elt Ideal) (aB x0 x1 x2 (w1 c xt0) xs2) [_] [_, _, _, _] ⟨?_, ?_, ?_, ?_, trivial⟩ y (View.cover_of_tiledL _ ![1,128,2048] (by rfl) _)
  all_goals intro x; idx_vars x; simp only [eA0, eA1, eA2, eA3]
  all_goals unfold_payloads
  all_goals pointwise [aB, aO, mO, sc]
  all_goals simp only [lane0, lane1, lane2, lane3]
  all_goals exact congrArg _ rfl

end Cert.Kernel5Ideal.Step
-- ==== Proof.SampleAttention.CaseC.lean ====
/- For the sample batch, the first key block of a row block, the shift moving: the three running quantities start and take one step. -/
module

public import proofs.«01_k».proof.Proof.SampleAttention.Step

@[expose] public section

set_option maxRecDepth 16384

noncomputable section

open Idealize.ShloMosaic Idealize.ShloMosaic.TcCoe Idealize.SL.Sem

namespace Cert.Kernel5Ideal.Step

open Cert.Kernel5Ideal Cert.Kernel5Ideal.Gen

theorem pay_m3 (q : Vec Ideal S1x2048x512 .bf16) (k : Vec Ideal S1x1024x128 .bf16) (xs0 : Vec Ideal S4x1x2048 .f32) (a0 : Fin 1) (a1 : Fin 1) (a2 : Fin 2048) :
    k0_pay10
      (k0_pay57 (View.ld q (Rect.unit ![0, 0, 384] ![1, 2048, 128] inb_S1x2048x512_S1x2048x128_0_0_384)) k
        (View.ld xs0 (Rect.unit ![3, 0, 0] ![1, 1, 2048] inb_S4x1x2048_S1x1x2048_3_0_0)))
      (ix3 a0 a1 a2) =
    mO q k xs0 (ix3 3 0 a2) := by
  unfold_payloads
  pointwise [mO, sc]
  simp only [lane0, lane1, lane2, lane3]

theorem pay_m2 (q : Vec Ideal S1x2048x512 .bf16) (k : Vec Ideal S1x1024x128 .bf16) (xs0 : Vec Ideal S4x1x2048 .f32) (a0 : Fin 1) (a1 : Fin 1) (a2 : Fin 2048) :
    k0_pay54
      (k0_pay47 (View.ld q (Rect.unit ![0, 0, 256] ![1, 2048, 128] inb_S1x2048x512_S1x2048x128_0_0_256)) k
        (View.ld xs0 (Rect.unit ![2, 0, 0] ![1, 1, 2048] inb_S4x1x2048_S1x1x2048_2_0_0)))
      (ix3 a0 a1 a2) =
    mO q k xs0 (ix3 2 0 a2) := by
  unfold_payloads
  pointwise [mO, sc]
  simp only [lane0, lane1, lane2, lane3]

theorem pay_m1 (q : Vec Ideal S1x2048x512 .bf16) (k : Vec Ideal S1x1024x128 .bf16) (xs0 : Vec Ideal S4x1x2048 .f32) (a0 : Fin 1) (a1 : Fin 1) (a2 : Fin 2048) :
    k0_pay44
      (k0_pay39 (View.ld q (Rect.unit ![0, 0, 128] ![1, 2048, 128] inb_S1x2048x512_S1x2048x128_0_0_128)) k
        (View.ld xs0 (Rect.unit ![1, 0, 0] ![1, 1, 2048] inb_S4x1x2048_S1x1x2048_1_0_0)))
      (ix3 a0 a1 a2) =
    mO q k xs0 (ix3 1 0 a2) := by
  unfold_payloads
  pointwise [mO, sc]
  simp only [lane0, lane1, lane2, lane3]

theorem pay_m0 (q : Vec Ideal S1x2048x512 .bf16) (k : Vec Ideal S1x1024x128 .bf16) (xs0 : Vec Ideal S4x1x2048 .f32) (a0 : Fin 1) (a1 : Fin 1) (a2 : Fin 2048) :
    k0_pay36
      (k0_pay30 (View.ld q (Rect.unit ![0, 0, 0] ![1, 2048, 128] inb_S1x2048x512_S1x2048x128_0_0_0)) k
        (View.ld xs0 (Rect.unit ![0, 0, 0] ![1, 1, 2048] inb_S4x1x2048_S1x1x2048_0_0_0)))
      (ix3 a0 a1 a2) =
    mO q k xs0 (ix3 0 0 a2) := by
  unfold_payloads
  pointwise [mO, sc]
  simp only [lane0, lane1, lane2, lane3]

theorem pay_l3 (q : Vec Ideal S1x2048x512 .bf16) (k : Vec Ideal S1x1024x128 .bf16) (xs0 xs1 : Vec Ideal S4x1x2048 .f32) (a0 : Fin 1) (a1 : Fin 1) (a2 : Fin 2048) :
    k0_pay8 (k0_pay55 (View.ld q (Rect.unit ![0, 0, 384] ![1, 2048, 128] inb_S1x2048x512_S1x2048x128_0_0_384)) k)
      (k0_pay56 (View.ld xs0 (Rect.unit ![3, 0, 0] ![1, 1, 2048] inb_S4x1x2048_S1x1x2048_3_0_0)))
      (k0_pay57 (View.ld q (Rect.unit ![0, 0, 384] ![1, 2048, 128] inb_S1x2048x512_S1x2048x128_0_0_384)) k
        (View.ld xs0 (Rect.unit ![3, 0, 0] ![1, 1, 2048] inb_S4x1x2048_S1x1x2048_3_0_0)))
      (View.ld xs1 (Rect.unit ![3, 0, 0] ![1, 1, 2048] inb_S4x1x2048_S1x1x2048_3_0_0)) (ix3 a0 a1 a2) =
    lO q k xs0 xs1 (ix3 3 0 a2) := by
  unfold_payloads
  pointwise [lO, mO, sc]
  simp only [lane0, lane1, lane2, lane3]
  exact congrArg _ rfl

theorem pay_l2 (q : Vec Ideal S1x2048x512 .bf16) (k : Vec Ideal S1x1024x128 .bf16) (xs0 xs1 : Vec Ideal S4x1x2048 .f32) (a0 : Fin 1) (a1 : Fin 1) (a2 : Fin 2048) :
    k0_pay52
      (k0_pay50 (View.ld q (Rect.unit ![0, 0, 256] ![1, 2048, 128] inb_S1x2048x512_S1x2048x128_0_0_256)) k
        (View.ld xs0 (Rect.unit ![2, 0, 0] ![1, 1, 2048] inb_S4x1x2048_S1x1x2048_2_0_0))
        (View.ld xs1 (Rect.unit ![2, 0, 0] ![1, 1, 2048] inb_S4x1x2048_S1x1x2048_2_0_0)))
      (k0_pay51 (View.ld q (Rect.unit ![0, 0, 256] ![1, 2048, 128] inb_S1x2048x512_S1x2048x128_0_0_256)) k
        (View.ld xs0 (Rect.unit ![2, 0, 0] ![1, 1, 2048] inb_S4x1x2048_S1x1x2048_2_0_0)))
      (ix3 a0 a1 a2) =
    lO q k xs0 xs1 (ix3 2 0 a2) := by
  unfold_payloads
  pointwise [lO, mO, sc]
  simp only [lane0, lane1, lane2, lane3]
  exact congrArg _ rfl

theorem pay_l1 (q : Vec Ideal S1x2048x512 .bf16) (k : Vec Ideal S1x1024x128 .bf16) (xs0 xs1 : Vec Ideal S4x1x2048 .f32) (a0 : Fin 1) (a1 : Fin 1) (a2 : Fin 2048) :
    k0_pay42 (View.ld q (Rect.unit ![0, 0, 128] ![1, 2048, 128] inb_S1x2048x512_S1x2048x128_0_0_128)) k
      (View.ld xs0 (Rect.unit ![1, 0, 0] ![1, 1, 2048] inb_S4x1x2048_S1x1x2048_1_0_0))
      (View.ld xs1 (Rect.unit ![1, 0, 0] ![1, 1, 2048] inb_S4x1x2048_S1x1x2048_1_0_0)) (ix3 a0 a1 a2) =
    lO q k xs0 xs1 (ix3 1 0 a2) := by
  unfold_payloads
  pointwise [lO, mO, sc]
  simp only [lane0, lane1, lane2, lane3]
  exact congrArg _ rfl

theorem pay_l0 (q : Vec Ideal S1x2048x512 .bf16) (k : Vec Ideal S1x1024x128 .bf16) (xs0 xs1 : Vec Ideal S4x1x2048 .f32) (a0 : Fin 1) (a1 : Fin 1) (a2 : Fin 2048) :
    k0_pay33 (View.ld q (Rect.unit ![0, 0, 0] ![1, 2048, 128] inb_S1x2048x512_S1x2048x128_0_0_0)) k
      (View.ld xs0 (Rect.unit ![0, 0, 0] ![1, 1, 2048] inb_S4x1x2048_S1x1x2048_0_0_0))
      (View.ld xs1 (Rect.unit ![0, 0, 0] ![1, 1, 2048] inb_S4x1x2048_S1x1x2048_0_0_0)) (ix3 a0 a1 a2) =
    lO q k xs0 xs1 (ix3 0 0 a2) := by
  unfold_payloads
  pointwise [lO, mO, sc]
  simp only [lane0, lane1, lane2, lane3]
  exact congrArg _ rfl

theorem pay_a3 (q : Vec Ideal S1x2048x512 .bf16) (k : Vec Ideal S1x1024x128 .bf16) (v : Vec Ideal S1x128x1024 .bf16) (xs0 : Vec Ideal S4x1x2048 .f32) (xs2 : Vec Ideal S4x128x2048 .f32) (a0 : Fin 1) (a1 : Fin 128) (a2 : Fin 2048) :
    k0_pay9 (k0_pay55 (View.ld q (Rect.unit ![0, 0, 384] ![1, 2048, 128] inb_S1x2048x512_S1x2048x128_0_0_384)) k)
      (k0_pay56 (View.ld xs0 (Rect.unit ![3, 0, 0] ![1, 1, 2048] inb_S4x1x2048_S1x1x2048_3_0_0)))
      (k0_pay57 (View.ld q (Rect.unit ![0, 0, 384] ![1, 2048, 128] inb_S1x2048x512_S1x2048x128_0_0_384)) k
        (View.ld xs0 (Rect.unit ![3, 0, 0] ![1, 1, 2048] inb_S4x1x2048_S1x1x2048_3_0_0)))
      (View.ld xs2 (Rect.unit ![3, 0, 0] ![1, 128, 2048] inb_S4x128x2048_S1x128x2048_3_0_0)) v (ix3 a0 a1 a2) =
    aO q k v xs0 xs2 (ix3 3 a1 a2) := by
  unfold_payloads
  pointwise [aO, mO, sc]
  simp only [lane0, lane1, lane2, lane3]
  exact congrArg _ rfl

theorem pay_a2 (q : Vec Ideal S1x2048x512 .bf16) (k : Vec Ideal S1x1024x128 .bf16) (v : Vec Ideal S1x128x1024 .bf16) (xs0 : Vec Ideal S4x1x2048 .f32) (xs2 : Vec Ideal S4x128x2048 .f32) (a0 : Fin 1) (a1 : Fin 128) (a2 : Fin 2048) :
    k0_pay53
      (k0_pay48 (View.ld q (Rect.unit ![0, 0, 256] ![1, 2048, 128] inb_S1x2048x512_S1x2048x128_0_0_256)) k
        (View.ld xs0 (Rect.unit ![2, 0, 0] ![1, 1, 2048] inb_S4x1x2048_S1x1x2048_2_0_0)))
      (k0_pay49 (View.ld q (Rect.unit ![0, 0, 256] ![1, 2048, 128] inb_S1x2048x512_S1x2048x128_0_0_256)) k
        (View.ld xs0 (Rect.unit ![2, 0, 0] ![1, 1, 2048] inb_S4x1x2048_S1x1x2048_2_0_0)))
      (View.ld xs2 (Rect.unit ![2, 0, 0] ![1, 128, 2048] inb_S4x128x2048_S1x128x2048_2_0_0)) v (ix3 a0 a1 a2) =
    aO q k v xs0 xs2 (ix3 2 a1 a2) := by
  unfold_payloads
  pointwise [aO, mO, sc]
  simp only [lane0, lane1, lane2, lane3]
  exact congrArg _ rfl

theorem pay_a1 (q : Vec Ideal S1x2048x512 .bf16) (k : Vec Ideal S1x1024x128 .bf16) (v : Vec Ideal S1x128x1024 .bf16) (xs0 : Vec Ideal S4x1x2048 .f32) (xs2 : Vec Ideal S4x128x2048 .f32) (a0 : Fin 1) (a1 : Fin 128) (a2 : Fin 2048) :
    k0_pay43
      (k0_pay40 (View.ld q (Rect.unit ![0, 0, 128] ![1, 2048, 128] inb_S1x2048x512_S1x2048x128_0_0_128)) k
        (View.ld xs0 (Rect.unit ![1, 0, 0] ![1, 1, 2048] inb_S4x1x2048_S1x1x2048_1_0_0)))
      (k0_pay41 (View.ld q (Rect.unit ![0, 0, 128] ![1, 2048, 128] inb_S1x2048x512_S1x2048x128_0_0_128)) k
        (View.ld xs0 (Rect.unit ![1, 0, 0] ![1, 1, 2048] inb_S4x1x2048_S1x1x2048_1_0_0)))
      (View.ld xs2 (Rect.unit ![1, 0, 0] ![1, 128, 2048] inb_S4x128x2048_S1x128x2048_1_0_0)) v (ix3 a0 a1 a2) =
    aO q k v xs0 xs2 (ix3 1 a1 a2) := by
  unfold_payloads
  pointwise [aO, mO, sc]
  simp only [lane0, lane1, lane2, lane3]
  exact congrArg _ rfl

theorem pay_a0 (q : Vec Ideal S1x2048x512 .bf16) (k : Vec Ideal S1x1024x128 .bf16) (v : Vec Ideal S1x128x1024 .bf16) (xs0 : Vec Ideal S4x1x2048 .f32) (xs2 : Vec Ideal S4x128x2048 .f32) (a0 : Fin 1) (a1 : Fin 128) (a2 : Fin 2048) :
    k0_pay35
      (k0_pay34 (View.ld q (Rect.unit ![0, 0, 0] ![1, 2048, 128] inb_S1x2048x512_S1x2048x128_0_0_0)) k
        (View.ld xs0 (Rect.unit ![0, 0, 0] ![1, 1, 2048] inb_S4x1x2048_S1x1x2048_0_0_0))
        (View.ld xs2 (Rect.unit ![0, 0, 0] ![1, 128, 2048] inb_S4x128x2048_S1x128x2048_0_0_0)) v)
      (ix3 a0 a1 a2) =
    aO q k v xs0 xs2 (ix3 0 a1 a2) := by
  unfold_payloads
  pointwise [aO, mO, sc]
  simp only [lane0, lane1, lane2, lane3]
  exact congrArg _ rfl

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

theorem caseC_m (hc0 : cond0_0 i) (hc3 : ¬cond0_3 i) (hc1 : ¬cond0_1 i (w0 c xt0)) (hc2 : cond0_2 i (w0 c xt0)) :
   sout0_C_0 c i arg5 harg5 arg6 harg6 arg7 harg7 arg8 harg8 arg9 harg9 arg10 harg10 arg11 harg11 hc0 hc3 x0 x1 x2 xt0 hc1 hc2 = mO x0 x1 (k0_pay1 (F := Ideal)) := by
  frame_open
  simp (disch := decide) only [↓ View.readCov_skip, ↓ View.readCov_cons_toLoadRect, ↓ View.readCov_fill]
  frame_out
  generalize (k0_pay1 (F := Ideal)) = xs0
  generalize (k0_pay2 (F := Ideal)) = xs1
  generalize (k0_pay3 (F := Ideal)) = xs2
  revert xs0 xs1 xs2
  intro (xs0 : Vec Ideal S4x1x2048 .f32) (xs1 : Vec Ideal S4x1x2048 .f32) (xs2 : Vec Ideal S4x128x2048 .f32)
  clear hc0 hc1 hc2 hc3
  funext y
  refine View.canon_append_of_piecesOf (Val := Elt Ideal) (mO x0 x1 xs0) [_] [_, _, _, _] ⟨?_, ?_, ?_, ?_, trivial⟩ y (View.cover_of_tiledL _ ![1,1,2048] (by rfl) _)
  all_goals intro x; idx_vars x; simp only [eL0, eL1, eL2, eL3]
  · exact pay_m3 _ _ _ _ _ _
  · exact pay_m2 _ _ _ _ _ _
  · exact pay_m1 _ _ _ _ _ _
  · exact pay_m0 _ _ _ _ _ _

theorem caseC_l (hc0 : cond0_0 i) (hc3 : ¬cond0_3 i) (hc1 : ¬cond0_1 i (w0 c xt0)) (hc2 : cond0_2 i (w0 c xt0)) :
   sout0_C_1 c i arg5 harg5 arg6 harg6 arg7 harg7 arg8 harg8 arg9 harg9 arg10 harg10 arg11 harg11 hc0 hc3 x0 x1 x2 xt0 hc1 hc2 = lO x0 x1 (k0_pay1 (F := Ideal)) (k0_pay2 (F := Ideal)) := by
  frame_open
  simp (disch := decide) only [↓ View.readCov_skip, ↓ View.readCov_cons_toLoadRect, ↓ View.readCov_fill]
  frame_out
  generalize (k0_pay1 (F := Ideal)) = xs0
  generalize (k0_pay2 (F := Ideal)) = xs1
  generalize (k0_pay3 (F := Ideal)) = xs2
  revert xs0 xs1 xs2
  intro (xs0 : Vec Ideal S4x1x2048 .f32) (xs1 : Vec Ideal S4x1x2048 .f32) (xs2 : Vec Ideal S4x128x2048 .f32)
  clear hc0 hc1 hc2 hc3
  funext y
  refine View.canon_append_of_piecesOf (Val := Elt Ideal) (lO x0 x1 xs0 xs1) [_] [_, _, _, _] ⟨?_, ?_, ?_, ?_, trivial⟩ y (View.cover_of_tiledL _ ![1,1,2048] (by rfl) _)
  all_goals intro x; idx_vars x; simp only [eL0, eL1, eL2, eL3]
  · exact pay_l3 _ _ _ _ _ _ _
  · exact pay_l2 _ _ _ _ _ _ _
  · exact pay_l1 _ _ _ _ _ _ _
  · exact pay_l0 _ _ _ _ _ _ _

theorem caseC_a (hc0 : cond0_0 i) (hc3 : ¬cond0_3 i) (hc1 : ¬cond0_1 i (w0 c xt0)) (hc2 : cond0_2 i (w0 c xt0)) :
   sout0_C_2 c i arg5 harg5 arg6 harg6 arg7 harg7 arg8 harg8 arg9 harg9 arg10 harg10 arg11 harg11 hc0 hc3 x0 x1 x2 xt0 hc1 hc2 = aO x0 x1 x2 (k0_pay1 (F := Ideal)) (k0_pay3 (F := Ideal)) := by
  frame_open
  simp (disch := decide) only [↓ View.readCov_skip, ↓ View.readCov_cons_toLoadRect, ↓ View.readCov_fill]
  frame_out
  generalize (k0_pay1 (F := Ideal)) = xs0
  generalize (k0_pay2 (F := Ideal)) = xs1
  generalize (k0_pay3 (F := Ideal)) = xs2
  revert xs0 xs1 xs2
  intro (xs0 : Vec Ideal S4x1x2048 .f32) (xs1 : Vec Ideal S4x1x2048 .f32) (xs2 : Vec Ideal S4x128x2048 .f32)
  clear hc0 hc1 hc2 hc3
  funext y
  refine View.canon_append_of_piecesOf (Val := Elt Ideal) (aO x0 x1 x2 xs0 xs2) [_] [_, _, _, _] ⟨?_, ?_, ?_, ?_, trivial⟩ y (View.cover_of_tiledL _ ![1,128,2048] (by rfl) _)
  all_goals intro x; idx_vars x; simp only [eA0, eA1, eA2, eA3]
  · exact pay_a3 _ _ _ _ _ _ _ _
  · exact pay_a2 _ _ _ _ _ _ _ _
  · exact pay_a1 _ _ _ _ _ _ _ _
  · exact pay_a0 _ _ _ _ _ _ _ _

end Cert.Kernel5Ideal.Step
-- ==== Proof.SampleAttention.CaseF.lean ====
/- For the sample batch, the last key block, the scores bounded: one step, then the block stored. -/
module

public import proofs.«01_k».proof.Proof.SampleAttention.Step

@[expose] public section

set_option maxRecDepth 16384

noncomputable section

open Idealize.ShloMosaic Idealize.ShloMosaic.TcCoe Idealize.SL.Sem

namespace Cert.Kernel5Ideal.Step

open Cert.Kernel5Ideal Cert.Kernel5Ideal.Gen

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

theorem caseF_o (hc0 : ¬cond0_0 i) (hc3 : cond0_3 i) (hc1 : cond0_1 i (w0 c xt0)) (hc2 : ¬cond0_2 i (w0 c xt0)) :
   out0_F_3 c i arg5 harg5 arg6 harg6 arg7 harg7 arg8 harg8 arg9 harg9 arg10 harg10 arg11 harg11 hc0 hc3 x0 x1 x2 xt0 xs0 xs1 xs2 hc1 hc2 = outO (lB x0 x1 (w1 c xt0) xs1) (aB x0 x1 x2 (w1 c xt0) xs2) := by
  frame_open
  simp (disch := decide) only [↓ View.readCov_skip, ↓ View.readCov_cons_toLoadRect, ↓ View.readCov_fill]
  frame_out
  funext y
  refine View.canon_append_of_piecesOf (Val := Elt Ideal) (outO (lB x0 x1 (w1 c xt0) xs1) (aB x0 x1 x2 (w1 c xt0) xs2)) [] [_, _, _, _] ⟨?_, ?_, ?_, ?_, trivial⟩ y (View.cover_of_tiledL _ ![1,2048,128] (by rfl) _)
  all_goals intro x; idx_vars x; simp only [eO0, eO1, eO2, eO3, outO_at]
  all_goals unfold_payloads
  all_goals pointwise [lB, aB, lO, aO, mO, sc, ofBits_one]
  all_goals simp only [lane0, lane1, lane2, lane3]
  all_goals exact congrArg _ rfl

end Cert.Kernel5Ideal.Step
-- ==== Proof.SampleAttention.CaseG.lean ====
/- For the sample batch, the last key block, the shift moving: one step, then the block stored. -/
module

public import proofs.«01_k».proof.Proof.SampleAttention.Step

@[expose] public section

set_option maxRecDepth 16384

noncomputable section

open Idealize.ShloMosaic Idealize.ShloMosaic.TcCoe Idealize.SL.Sem

namespace Cert.Kernel5Ideal.Step

open Cert.Kernel5Ideal Cert.Kernel5Ideal.Gen

variable (c : Dev nD) (i : grid0.Coords) (arg5 : Memref sig .tc .vmem S1x2048x512 .bf16) (harg5 : arg5.IsWhole) (arg6 : Memref sig .tc .vmem S1x1024x128 .bf16) (harg6 : arg6.IsWhole) (arg7 : Memref sig .tc .vmem S1x128x1024 .bf16) (harg7 : arg7.IsWhole) (arg8 : Memref sig .tc .vmem S1x2048x512 .bf16) (harg8 : arg8.IsWhole) (arg9 : Memref sig .tc .vmem S4x1x2048 .f32) (harg9 : arg9.IsWhole) (arg10 : Memref sig .tc .vmem S4x1x2048 .f32) (harg10 : arg10.IsWhole) (arg11 : Memref sig .tc .vmem S4x128x2048 .f32) (harg11 : arg11.IsWhole)
  (x0 : Vec Ideal S1x2048x512 .bf16) (x1 : Vec Ideal S1x1024x128 .bf16) (x2 : Vec Ideal S1x128x1024 .bf16) (xt0 : TbBuf0 (F := Ideal) c tbM0_0) (xs0 xs1 : Vec Ideal S4x1x2048 .f32) (xs2 : Vec Ideal S4x128x2048 .f32)

theorem caseG_o (hc0 : ¬cond0_0 i) (hc3 : cond0_3 i) (hc1 : ¬cond0_1 i (w0 c xt0)) (hc2 : cond0_2 i (w0 c xt0)) :
   out0_G_3 c i arg5 harg5 arg6 harg6 arg7 harg7 arg8 harg8 arg9 harg9 arg10 harg10 arg11 harg11 hc0 hc3 x0 x1 x2 xt0 xs0 xs1 xs2 hc1 hc2 = outO (lO x0 x1 xs0 xs1) (aO x0 x1 x2 xs0 xs2) := by
  frame_open
  simp (disch := decide) only [↓ View.readCov_skip, ↓ View.readCov_cons_toLoadRect, ↓ View.readCov_fill]
  frame_out
  funext y
  refine View.canon_append_of_piecesOf (Val := Elt Ideal) (outO (lO x0 x1 xs0 xs1) (aO x0 x1 x2 xs0 xs2)) [] [_, _, _, _] ⟨?_, ?_, ?_, ?_, trivial⟩ y (View.cover_of_tiledL _ ![1,2048,128] (by rfl) _)
  all_goals intro x; idx_vars x; simp only [eO0, eO1, eO2, eO3, outO_at]
  all_goals unfold_payloads
  all_goals pointwise [lB, aB, lO, aO, mO, sc, ofBits_one]
  all_goals simp only [lane0, lane1, lane2, lane3]
  all_goals exact congrArg _ rfl

end Cert.Kernel5Ideal.Step
-- ==== Proof.SampleAttention.Invariant.lean ====
/- For the sample batch, the running quantities of the attention call, point by point: after each key block they are the partial softmax sums of
   `SoftmaxRow.lean` over the keys seen so far. -/
module

public import proofs.«01_k».proof.Proof.SampleAttention.CaseB
public import proofs.«01_k».proof.Proof.SampleAttention.CaseC
public import proofs.«01_k».proof.Proof.SampleAttention.CaseF
public import proofs.«01_k».proof.Proof.SampleAttention.CaseG
public import proofs.«01_k».proof.Proof.SoftmaxRow

@[expose] public section

set_option maxRecDepth 16384

noncomputable section

open Idealize.ShloMosaic Idealize.ShloMosaic.TcCoe Idealize.SL.Sem

namespace Cert.Kernel5Ideal.Invariant

open Cert.Kernel5Ideal Cert.Kernel5Ideal.Gen Cert.Kernel5Ideal.Step Cert.Proof.SoftmaxRow

theorem exp2_sub (x y : ℝ) : Ideal.exp2 ((x : EReal) - (y : EReal)) = (((2 : ℝ) ^ (x - y) : ℝ) : EReal) := by
  rw [← EReal.coe_sub]; rfl

theorem ofBits_negInf : Ideal.ofBits .f32 0xFF800000#32 = (⊥ : EReal) := by
  simp [Ideal.ofBits, Ideal.ieee]

theorem ofBits_start : ∃ r : ℝ, Ideal.ofBits .f32 0xF149F2CA#32 = (r : EReal) := by
  simp only [Ideal.ofBits, Ideal.ieee]
  norm_num
  exact ⟨_, rfl⟩

section Block

variable {s : ℕ → ℝ} {w : Fin 128 → ℕ → EReal} {n : ℕ} {q : Vec Ideal S1x2048x512 .bf16} {k : Vec Ideal S1x1024x128 .bf16} {v : Vec Ideal S1x128x1024 .bf16}
  {h : Fin 4} {i : Fin 2048} {m l : Vec Ideal S4x1x2048 .f32} {a : Vec Ideal S4x128x2048 .f32} {μ : ℝ}
  (hs : ∀ r, sc q k h i r = (s (1024 * n + r.val) : EReal)) (hv : ∀ d r, v (ix3 0 d r) = w d (1024 * n + r.val))

include hs hv

/-- One block with the fixed shift. -/
theorem bounded (wd : BitVec 32) (hμ : μ = (BitVec.toInt wd : ℝ)) (H : ∀ d, Part s (w d) n μ (l (ix3 h 0 i)) (a (ix3 h d i))) (d : Fin 128) :
    Part s (w d) (n + 1) μ (lB q k wd l (ix3 h 0 i)) (aB q k v wd a (ix3 h d i)) := by
  have e := part_step_same (H d)
  subst hμ
  have e1 : ∀ r : Fin 1024, Ideal.exp2 (sc q k h i r - (((BitVec.toInt wd : ℤ) : ℝ) : EReal)) = (wt s (BitVec.toInt wd) (1024 * n + r.val) : EReal) := fun r => by
    rw [hs, exp2_sub]; rfl
  show Part _ _ _ _ (l (ix3 h 0 i) + ∑ r : Fin 1024, Ideal.exp2 (sc q k h i r - (((BitVec.toInt wd : ℤ) : ℝ) : EReal)))
    (a (ix3 h d i) + ∑ r : Fin 1024, v (ix3 0 d r) * Ideal.exp2 (sc q k h i r - (((BitVec.toInt wd : ℤ) : ℝ) : EReal)))
  simp only [e1, hv]
  exact e

/-- One block with the shift moving to the new maximum. -/
theorem moving (hm : m (ix3 h 0 i) = (μ : EReal)) (H : ∀ d, Part s (w d) n μ (l (ix3 h 0 i)) (a (ix3 h d i))) :
    ∃ μ' : ℝ, mO q k m (ix3 h 0 i) = (μ' : EReal) ∧ ∀ d, Part s (w d) (n + 1) μ' (lO q k m l (ix3 h 0 i)) (aO q k v m a (ix3 h d i)) := by
  obtain ⟨μ', hμ'⟩ := fold_max_real (Finset.univ : Finset (Fin 1024)) (fun r => s (1024 * n + r.val)) μ
  have e : mO q k m (ix3 h 0 i) = (μ' : EReal) := by
    show max (m (ix3 h 0 i)) (Finset.univ.fold max (Ideal.ofBits .f32 0xFF800000#32) fun r : Fin 1024 => sc q k h i r) = _
    simp only [hm, hs, ofBits_negInf]
    exact hμ'
  refine ⟨μ', e, fun d => ?_⟩
  show Part _ _ _ _ (Ideal.exp2 (m (ix3 h 0 i) - mO q k m (ix3 h 0 i)) * l (ix3 h 0 i) + ∑ r : Fin 1024, Ideal.exp2 (sc q k h i r - mO q k m (ix3 h 0 i)))
    (Ideal.exp2 (m (ix3 h 0 i) - mO q k m (ix3 h 0 i)) * a (ix3 h d i) + ∑ r : Fin 1024, v (ix3 0 d r) * Ideal.exp2 (sc q k h i r - mO q k m (ix3 h 0 i)))
  simp only [e, hm, hs, hv, exp2_sub]
  exact part_step (H d) μ'

end Block

variable (m : (ℓ : Loc nD τ sig) → Buf (Elt Ideal) ℓ) (hO : Ok m) (c : Dev nD)

/-- What the blocks at the points hold: scores `s` (by batch, group, head, row, key) and values `w` (by batch, group, lane, key). -/
structure Blocks (s : ℕ → ℕ → Fin 4 → ℕ → ℕ → ℝ) (w : ℕ → ℕ → Fin 128 → ℕ → EReal) : Prop where
  score : ∀ (t : Fin (cfgM m hO).N) (h : Fin 4) (i : Fin 2048) (r : Fin 1024),
    sc (iblk m hO c 0 t) (iblk m hO c 1 t) h i r = (s (t.val / 4) (t.val / 2 % 2) h (2048 * (t.val / 2 % 1) + i.val) (1024 * (t.val % 2) + r.val) : EReal)
  value : ∀ (t : Fin (cfgM m hO).N) (d : Fin 128) (r : Fin 1024),
    (iblk m hO c 2 t : Vec Ideal S1x128x1024 .bf16) (ix3 0 d r) = w (t.val / 4) (t.val / 2 % 2) d (1024 * (t.val % 2) + r.val)

/-- The second condition is the first's negation. -/
theorem cond_not (i : grid0.Coords) (v : BitVec 32) : cond0_2 i v ↔ ¬ cond0_1 i v := by
  unfold cond0_1 cond0_2
  generalize Scalar.cmpi .eq v 1#32 = b
  revert b
  decide

theorem start_m (y : S4x1x2048.Idx) : ∃ r : ℝ, k0_pay1 (F := Ideal) y = (r : EReal) := ofBits_start

theorem start_l (y : S4x1x2048.Idx) : k0_pay2 (F := Ideal) y = (0 : EReal) := by
  show Ideal.ofBits .f32 0x00000000#32 = 0
  simp [Ideal.ofBits, Ideal.ieee]

theorem start_a (y : S4x128x2048.Idx) : k0_pay3 (F := Ideal) y = (0 : EReal) := by
  show Ideal.ofBits .f32 0x00000000#32 = 0
  simp [Ideal.ofBits, Ideal.ieee]

/-! What each kind of point leaves. -/

theorem pt_B (t : Fin (cfgM m hO).N) (h0 : t.val % 2 = 0) (hb : cond0_1 (grid0.coords t) (w0 c (tbl m 0))) (h7 : ¬ t.val % 2 = 1) :
    (outsAt0 m hO c t.val t.isLt).2.2.1 = lB (iblk m hO c 0 t) (iblk m hO c 1 t) (w1 c (tbl m 0)) (k0_pay2 (F := Ideal)) ∧ (outsAt0 m hO c t.val t.isLt).2.2.2 = aB (iblk m hO c 0 t) (iblk m hO c 1 t) (iblk m hO c 2 t) (w1 c (tbl m 0)) (k0_pay3 (F := Ideal)) := by
  rw [outsAt0_B m hO c t h0 hb (fun h => (cond_not _ _).mp h hb) h7]
  dsimp only
  refine ⟨?_, ?_⟩
  · exact caseB_l c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) ((hcond0_0 t).mpr h0) (fun h => h7 ((hcond0_3 t).mp h)) hb (fun h => (cond_not _ _).mp h hb)
  · exact caseB_a c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) ((hcond0_0 t).mpr h0) (fun h => h7 ((hcond0_3 t).mp h)) hb (fun h => (cond_not _ _).mp h hb)

theorem pt_F (t : Fin (cfgM m hO).N) (h0 : ¬ t.val % 2 = 0) (hb : cond0_1 (grid0.coords t) (w0 c (tbl m 0))) (h7 : t.val % 2 = 1) :
    (outsAt0 m hO c t.val t.isLt).1 = outO (lB (iblk m hO c 0 t) (iblk m hO c 1 t) (w1 c (tbl m 0)) (outsAt0 m hO c (t.val - 1) (Nat.lt_of_le_of_lt (Nat.sub_le _ _) t.isLt)).2.2.1) (aB (iblk m hO c 0 t) (iblk m hO c 1 t) (iblk m hO c 2 t) (w1 c (tbl m 0)) (outsAt0 m hO c (t.val - 1) (Nat.lt_of_le_of_lt (Nat.sub_le _ _) t.isLt)).2.2.2) := by
  rw [outsAt0_F m hO c t h0 hb (fun h => (cond_not _ _).mp h hb) h7]
  dsimp only
  exact caseF_o c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_3 t).mpr h7) hb (fun h => (cond_not _ _).mp h hb)

theorem pt_C (t : Fin (cfgM m hO).N) (h0 : t.val % 2 = 0) (hb : ¬ cond0_1 (grid0.coords t) (w0 c (tbl m 0))) (h7 : ¬ t.val % 2 = 1) :
    (outsAt0 m hO c t.val t.isLt).2.1 = mO (iblk m hO c 0 t) (iblk m hO c 1 t) (k0_pay1 (F := Ideal)) ∧ (outsAt0 m hO c t.val t.isLt).2.2.1 = lO (iblk m hO c 0 t) (iblk m hO c 1 t) (k0_pay1 (F := Ideal)) (k0_pay2 (F := Ideal)) ∧ (outsAt0 m hO c t.val t.isLt).2.2.2 = aO (iblk m hO c 0 t) (iblk m hO c 1 t) (iblk m hO c 2 t) (k0_pay1 (F := Ideal)) (k0_pay3 (F := Ideal)) := by
  rw [outsAt0_C m hO c t h0 hb ((cond_not _ _).mpr hb) h7]
  dsimp only
  refine ⟨?_, ?_, ?_⟩
  · exact caseC_m c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) ((hcond0_0 t).mpr h0) (fun h => h7 ((hcond0_3 t).mp h)) hb ((cond_not _ _).mpr hb)
  · exact caseC_l c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) ((hcond0_0 t).mpr h0) (fun h => h7 ((hcond0_3 t).mp h)) hb ((cond_not _ _).mpr hb)
  · exact caseC_a c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) ((hcond0_0 t).mpr h0) (fun h => h7 ((hcond0_3 t).mp h)) hb ((cond_not _ _).mpr hb)

theorem pt_G (t : Fin (cfgM m hO).N) (h0 : ¬ t.val % 2 = 0) (hb : ¬ cond0_1 (grid0.coords t) (w0 c (tbl m 0))) (h7 : t.val % 2 = 1) :
    (outsAt0 m hO c t.val t.isLt).1 = outO (lO (iblk m hO c 0 t) (iblk m hO c 1 t) (outsAt0 m hO c (t.val - 1) (Nat.lt_of_le_of_lt (Nat.sub_le _ _) t.isLt)).2.1 (outsAt0 m hO c (t.val - 1) (Nat.lt_of_le_of_lt (Nat.sub_le _ _) t.isLt)).2.2.1) (aO (iblk m hO c 0 t) (iblk m hO c 1 t) (iblk m hO c 2 t) (outsAt0 m hO c (t.val - 1) (Nat.lt_of_le_of_lt (Nat.sub_le _ _) t.isLt)).2.1 (outsAt0 m hO c (t.val - 1) (Nat.lt_of_le_of_lt (Nat.sub_le _ _) t.isLt)).2.2.2) := by
  rw [outsAt0_G m hO c t h0 hb ((cond_not _ _).mpr hb) h7]
  dsimp only
  exact caseG_o c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) scM0_1 (Memref.isWhole_whole _) scM0_2 (Memref.isWhole_whole _) (iblk m hO c 0 t) (iblk m hO c 1 t) (iblk m hO c 2 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 (fun h => h0 ((hcond0_0 t).mp h)) ((hcond0_3 t).mpr h7) hb ((cond_not _ _).mpr hb)

variable {m hO c} {s : ℕ → ℕ → Fin 4 → ℕ → ℕ → ℝ} {w : ℕ → ℕ → Fin 128 → ℕ → EReal} (B : Blocks m hO c s w)

include B

/-- Bounded: the two running sums after point `n`, short of the last key block. -/
theorem inv_bounded (hb : ∀ i, cond0_1 i (w0 c (tbl m 0))) (n : ℕ) : ∀ (hn : n < (cfgM m hO).N) (_ : ¬ n % 2 = 1) (h : Fin 4) (i : Fin 2048) (d : Fin 128),
    Part (s (n / 4) (n / 2 % 2) h (2048 * (n / 2 % 1) + i.val)) (w (n / 4) (n / 2 % 2) d) (n % 2 + 1) (BitVec.toInt (w1 c (tbl m 0)) : ℝ)
      ((outsAt0 m hO c n hn).2.2.1 (ix3 h 0 i)) ((outsAt0 m hO c n hn).2.2.2 (ix3 h d i)) := by
  induction n with
  | zero =>
    intro hn h7 h i d
    obtain ⟨el, ea⟩ := pt_B m hO c ⟨0, hn⟩ rfl (hb _) h7
    dsimp only at el ea
    rw [el, ea]
    have hs := fun r => B.score ⟨0, hn⟩ h i r
    have hv := fun d r => B.value ⟨0, hn⟩ d r
    simp only [Nat.zero_div, Nat.zero_mod] at hs hv ⊢
    refine bounded (n := 0) (w := fun d => w 0 0 d) hs hv _ rfl (fun d => ?_) d
    rw [start_l, start_a]
    exact part_zero _ _ _
  | succ n ih =>
    intro hn h7 h i d
    by_cases h0 : (n + 1) % 2 = 0
    · obtain ⟨el, ea⟩ := pt_B m hO c ⟨n + 1, hn⟩ h0 (hb _) h7
      dsimp only at el ea
      rw [el, ea]
      have hs := fun r => B.score ⟨n + 1, hn⟩ h i r
      have hv := fun d r => B.value ⟨n + 1, hn⟩ d r
      dsimp only at hs hv
      rw [h0] at hs hv ⊢
      refine bounded (n := 0) (w := fun d => w ((n + 1) / 4) ((n + 1) / 2 % 2) d) hs hv _ rfl (fun d => ?_) d
      rw [start_l, start_a]
      exact part_zero _ _ _
    · exfalso; omega

/-- Moving: the running maximum and the two sums after point `n`, short of the last key block. -/
theorem inv_moving (hb : ∀ i, ¬ cond0_1 i (w0 c (tbl m 0))) (n : ℕ) : ∀ (hn : n < (cfgM m hO).N) (_ : ¬ n % 2 = 1) (h : Fin 4) (i : Fin 2048),
    ∃ μ : ℝ, (outsAt0 m hO c n hn).2.1 (ix3 h 0 i) = (μ : EReal) ∧ ∀ d : Fin 128,
    Part (s (n / 4) (n / 2 % 2) h (2048 * (n / 2 % 1) + i.val)) (w (n / 4) (n / 2 % 2) d) (n % 2 + 1) μ
      ((outsAt0 m hO c n hn).2.2.1 (ix3 h 0 i)) ((outsAt0 m hO c n hn).2.2.2 (ix3 h d i)) := by
  induction n with
  | zero =>
    intro hn h7 h i
    obtain ⟨em, el, ea⟩ := pt_C m hO c ⟨0, hn⟩ rfl (hb _) h7
    dsimp only at em el ea
    rw [em, el, ea]
    have hs := fun r => B.score ⟨0, hn⟩ h i r
    have hv := fun d r => B.value ⟨0, hn⟩ d r
    simp only [Nat.zero_div, Nat.zero_mod] at hs hv ⊢
    obtain ⟨μ, hμ⟩ := start_m (ix3 h 0 i)
    refine moving (n := 0) (w := fun d => w 0 0 d) hs hv hμ (fun d => ?_)
    rw [start_l, start_a]
    exact part_zero _ _ _
  | succ n ih =>
    intro hn h7 h i
    by_cases h0 : (n + 1) % 2 = 0
    · obtain ⟨em, el, ea⟩ := pt_C m hO c ⟨n + 1, hn⟩ h0 (hb _) h7
      dsimp only at em el ea
      rw [em, el, ea]
      have hs := fun r => B.score ⟨n + 1, hn⟩ h i r
      have hv := fun d r => B.value ⟨n + 1, hn⟩ d r
      dsimp only at hs hv
      rw [h0] at hs hv ⊢
      obtain ⟨μ, hμ⟩ := start_m (ix3 h 0 i)
      refine moving (n := 0) (w := fun d => w ((n + 1) / 4) ((n + 1) / 2 % 2) d) hs hv hμ (fun d => ?_)
      rw [start_l, start_a]
      exact part_zero _ _ _
    · exfalso; omega

/-- The block stored at a row block's last point: each row's attention. -/
theorem out_last (t : Fin (cfgM m hO).N) (h7 : t.val % 2 = 1) (h : Fin 4) (i : Fin 2048) (d : Fin 128) :
    (outsAt0 m hO c t.val t.isLt).1 (ix3 0 i (lane h d))
      = ∑ j ∈ Finset.range 2048, w (t.val / 4) (t.val / 2 % 2) d j
          * (prob (fun j => s (t.val / 4) (t.val / 2 % 2) h (2048 * (t.val / 2 % 1) + i.val) j * Real.log 2) 2048 j : EReal) := by
  have ht : t.val - 1 < (cfgM m hO).N := by have := t.isLt; omega
  have e1 : (t.val - 1) / 4 = t.val / 4 := by omega
  have e2 : (t.val - 1) / 2 % 2 = t.val / 2 % 2 := by omega
  have e3 : (t.val - 1) / 2 % 1 = t.val / 2 % 1 := by omega
  have e4 : (t.val - 1) % 2 + 1 = t.val % 2 := by omega
  have h8 : t.val % 2 + 1 = 2 := by omega
  by_cases hb : cond0_1 (grid0.coords t) (w0 c (tbl m 0))
  · have hp := inv_bounded B (fun _ => hb) (t.val - 1) ht (by omega) h i
    rw [e1, e2, e3, e4] at hp
    have hq := bounded (w := fun d => w (t.val / 4) (t.val / 2 % 2) d) (fun r => B.score t h i r) (fun d r => B.value t d r) _ rfl hp d
    rw [h8] at hq
    rw [pt_F m hO c t (by omega) hb h7, outO_at]
    have hf := part_final (by norm_num) hq
    rw [show 1024 * 2 = 2048 from rfl] at hf
    exact hf
  · obtain ⟨μ, hμ, hp⟩ := inv_moving B (fun _ => hb) (t.val - 1) ht (by omega) h i
    rw [e1, e2, e3, e4] at hp
    obtain ⟨μ', -, hq⟩ := moving (w := fun d => w (t.val / 4) (t.val / 2 % 2) d) (fun r => B.score t h i r) (fun d r => B.value t d r) hμ hp
    have hq := hq d
    rw [h8] at hq
    rw [pt_G m hO c t (by omega) hb h7, outO_at]
    have hf := part_final (by norm_num) hq
    rw [show 1024 * 2 = 2048 from rfl] at hf
    exact hf

end Cert.Kernel5Ideal.Invariant
-- ==== Proof.SampleAttention.Attention.lean ====
/- For the sample batch, what both programs compute: grouped-query softmax attention read at one element of the result. -/
module

public import proofs.«01_k».proof.Proof.SoftmaxRow
public import proofs.«01_k».proof.Reference5Ideal

@[expose] public section

set_option maxRecDepth 16384

noncomputable section

namespace Cert.Proof.SampleAttention

open Idealize.ShloMosaic Cert.Proof.SoftmaxRow Cert.Reference5Ideal

/-- Key number `j` as a position of the key axis. -/
abbrev pos (j : ℕ) : Fin 2048 := ⟨j % 2048, Nat.mod_lt _ (by norm_num)⟩

/-- Lane `d` of query head `h` of group `g`. -/
abbrev qlane (g : Fin 2) (h : Fin 4) (d : Fin 128) : Fin 1024 := ⟨512 * g.val + 128 * h.val + d.val, by omega⟩

/-- Lane `d` of key head `g`. -/
abbrev klane (g : Fin 2) (d : Fin 128) : Fin 256 := ⟨128 * g.val + d.val, by omega⟩

/-- The dot product of query row `i` of head `(g, h)` with key `j`, as a real number. -/
def dot (q : Vec Ideal S8x2048x1024 .f32) (k : Vec Ideal S8x2048x256 .f32) (b : Fin 8) (g : Fin 2) (h : Fin 4) (i : Fin 2048) (j : ℕ) : ℝ :=
  ∑ d : Fin 128, (k (ix3 b (pos j) (klane g d))).toReal * (q (ix3 b i (qlane g h d))).toReal

/-- The score: the dot product over the square root of the head's width. -/
def score (q : Vec Ideal S8x2048x1024 .f32) (k : Vec Ideal S8x2048x256 .f32) (b : Fin 8) (g : Fin 2) (h : Fin 4) (i : Fin 2048) (j : ℕ) : ℝ :=
  dot q k b g h i j * (1 / Real.sqrt 128)

/-- The values that lane `d` of key head `g` holds, by key number. -/
def vals (v : Vec Ideal S8x2048x256 .f32) (b : Fin 8) (g : Fin 2) (d : Fin 128) (j : ℕ) : EReal := v (ix3 b (pos j) (klane g d))

/-- The attention's result at batch `b`, row `i`, head `(g, h)`, lane `d`. -/
def att (q : Vec Ideal S8x2048x1024 .f32) (k v : Vec Ideal S8x2048x256 .f32) (b : Fin 8) (i : Fin 2048) (g : Fin 2) (h : Fin 4) (d : Fin 128) : EReal :=
  ∑ j ∈ Finset.range 2048, vals v b g d j * (prob (score q k b g h i) 2048 j : EReal)

/-- Every element is a real number. -/
def Finite {s : Shape} (x : s.Idx → EReal) : Prop := ∀ j, x j ≠ ⊤ ∧ x j ≠ ⊥

theorem Finite.coe {s : Shape} {x : s.Idx → EReal} (h : Finite x) (j : s.Idx) : ((x j).toReal : EReal) = x j := EReal.coe_toReal (h j).1 (h j).2

end Cert.Proof.SampleAttention
-- ==== Proof.SampleAttention.Arrays.lean ====
/- For the sample batch, the arrays the attention call reads: the scaled queries, the keys and the transposed values, element by element, and the
   blocks cut from them. -/
module

public import proofs.«01_k».proof.Proof.SampleAttention.Invariant
public import proofs.«01_k».proof.Proof.SampleAttention.Attention
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel5Ideal.Arrays

open Cert.Kernel5Ideal Cert.Kernel5Ideal.Gen Cert.Kernel5Ideal.Step Cert.Kernel5Ideal.Invariant Cert.Proof.SampleAttention Cert.Proof.SoftmaxRow

variable (m : (ℓ : Loc nD τ sig) → Buf (Elt Ideal) ℓ) (c : Dev nD)

/-- The queries, keys and values of device `c`. -/
abbrev qs : Vec Ideal S8x2048x1024 .f32 := m ((c : Thread nD τ).loc main_arg0)
abbrev ks : Vec Ideal S8x2048x256 .f32 := m ((c : Thread nD τ).loc main_arg1)
abbrev vs : Vec Ideal S8x2048x256 .f32 := m ((c : Thread nD τ).loc main_arg2)

/-- The factor the queries are scaled by. -/
def factor : ℝ := 1 / (Real.log 2 * Real.sqrt 128)

theorem ofBits_two : Ideal.ofBits .f32 0x40000000#32 = ((2 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

theorem factor_eq : Ideal.div (Ideal.ofBits .f32 0x3F800000#32)
    (Ideal.log (Ideal.ofBits .f32 0x40000000#32) * Ideal.sqrt (Ideal.ofBits .f32 0x43000000#32)) = (factor : EReal) := by
  rw [ofBits_two, ofBits_128, ofBits_one, Ideal.log_coe, Ideal.sqrt_coe, if_neg (by norm_num), if_neg (by norm_num), ← EReal.coe_mul, Ideal.div_coe]
  · rw [← EReal.coe_mul, one_mul]; rfl
  · have := Real.log_pos (show (1 : ℝ) < 2 by norm_num)
    positivity

/-- No index map reads the table. -/
theorem ok : Ok m := trivial

theorem queries_eq : (V m c main_v27 : Vec Ideal S8x2048x1024 .bf16) = truncf .bf16 (mulf (qs m c) (broadcastInDim S8x2048x1024 ![] bcast_S_S8x2048x1024
    (Host.divf (constant (F := Ideal) S_ .f32 0x3F800000#32) (mulf (Host.log (constant (F := Ideal) S_ .f32 0x40000000#32)) (Host.sqrt (constant (F := Ideal) S_ .f32 0x43000000#32)))))) bitsLt_bf16_f32 := by
  unfold V
  simp only [hostOps0, hostOps0_1, hostOps0_2, List.flatten_cons, List.flatten_nil, List.append_nil, List.cons_append, List.nil_append]
  after_results

theorem keys_eq : (V m c main_v28 : Vec Ideal S8x2048x256 .bf16) = truncf (F := Ideal) .bf16 (ks m c) bitsLt_bf16_f32 := by
  unfold V
  simp only [hostOps0, hostOps0_1, hostOps0_2, List.flatten_cons, List.flatten_nil, List.append_nil, List.cons_append, List.nil_append]
  after_results

theorem values_eq : (V m c main_v30 : Vec Ideal S8x256x2048 .bf16) = truncf (F := Ideal) .bf16 (transpose S8x256x2048 [0, 2, 1] (vs m c) transposes_S8x2048x256_S8x256x2048_0_2_1) bitsLt_bf16_f32 := by
  unfold V
  simp only [hostOps0, hostOps0_1, hostOps0_2, List.flatten_cons, List.flatten_nil, List.append_nil, List.cons_append, List.nil_append]
  after_results

theorem queries (j : S8x2048x1024.Idx) : (V m c main_v27 : Vec Ideal S8x2048x1024 .bf16) j = qs m c j * (factor : EReal) := by
  rw [queries_eq, ← factor_eq]
  pointwise
  try rfl

theorem keys (j : S8x2048x256.Idx) : (V m c main_v28 : Vec Ideal S8x2048x256 .bf16) j = ks m c j := by
  rw [keys_eq]
  pointwise

theorem values (b : Fin 8) (e : Fin 256) (j : Fin 2048) : (V m c main_v30 : Vec Ideal S8x256x2048 .bf16) (ix3 b e j) = vs m c (ix3 b j e) := by
  rw [values_eq]
  pointwise

variable (hO : Ok m)

theorem block_index : ∀ t : Fin grid0.N, cc0_transform_0 (grid0.coords t) = ![t.val / 4, t.val / 2 % 1, t.val / 2 % 2]
    ∧ cc0_transform_1 (grid0.coords t) = ![t.val / 4, t.val % 2, t.val / 2 % 2]
    ∧ cc0_transform_2 (grid0.coords t) = ![t.val / 4, t.val / 2 % 2, t.val % 2]
    ∧ cc0_transform_3 (grid0.coords t) = ![t.val / 4, t.val / 2 % 1, t.val / 2 % 2] := by
  decide +kernel

theorem index0 (t : Fin (cfgM m hO).N) : ((cfgM m hO).win 0).index t = ![t.val / 4, t.val / 2 % 1, t.val / 2 % 2] := (block_index t).1
theorem index1 (t : Fin (cfgM m hO).N) : ((cfgM m hO).win 1).index t = ![t.val / 4, t.val % 2, t.val / 2 % 2] := (block_index t).2.1
theorem index2 (t : Fin (cfgM m hO).N) : ((cfgM m hO).win 2).index t = ![t.val / 4, t.val / 2 % 2, t.val % 2] := (block_index t).2.2.1
theorem index3 (t : Fin (cfgM m hO).N) : ((cfgM m hO).win 3).index t = ![t.val / 4, t.val / 2 % 1, t.val / 2 % 2] := (block_index t).2.2.2

theorem lt_points (t : Fin (cfgM m hO).N) : t.val < 32 := t.isLt

theorem query_block (t : Fin (cfgM m hO).N) (i : Fin 2048) (e : Fin 512) :
    iblk m hO c 0 t (ix3 0 i e) = (V m c main_v27 : Vec Ideal S8x2048x1024 .bf16)
      (ix3 ⟨t.val / 4, by have := lt_points m hO t; omega⟩ ⟨2048 * (t.val / 2 % 1) + i.val, by omega⟩ ⟨512 * (t.val / 2 % 2) + e.val, by omega⟩) := by
  blk_ext [iblk, index0 m hO t]

theorem key_block (t : Fin (cfgM m hO).N) (r : Fin 1024) (d : Fin 128) :
    iblk m hO c 1 t (ix3 0 r d) = (V m c main_v28 : Vec Ideal S8x2048x256 .bf16)
      (ix3 ⟨t.val / 4, by have := lt_points m hO t; omega⟩ ⟨1024 * (t.val % 2) + r.val, by omega⟩ ⟨128 * (t.val / 2 % 2) + d.val, by omega⟩) := by
  blk_ext [iblk, index1 m hO t]

theorem value_block (t : Fin (cfgM m hO).N) (d : Fin 128) (r : Fin 1024) :
    iblk m hO c 2 t (ix3 0 d r) = (V m c main_v30 : Vec Ideal S8x256x2048 .bf16)
      (ix3 ⟨t.val / 4, by have := lt_points m hO t; omega⟩ ⟨128 * (t.val / 2 % 2) + d.val, by omega⟩ ⟨1024 * (t.val % 2) + r.val, by omega⟩) := by
  blk_ext [iblk, index2 m hO t]

end Cert.Kernel5Ideal.Arrays

end
-- ==== Proof.SampleAttention.Result.lean ====
/- For the sample batch, the attention call's result array: softmax attention of the queries, keys and values it was launched with. -/
module

public import proofs.«01_k».proof.Proof.SampleAttention.Arrays
public import Idealize.ShloMosaic.Lib.Pipeline.Covers

@[expose] public section

set_option maxRecDepth 16384

noncomputable section

open Idealize.ShloMosaic Idealize.ShloMosaic.TcCoe Idealize.SL.Sem

namespace Cert.Kernel5Ideal.Result

open Cert.Kernel5Ideal Cert.Kernel5Ideal.Gen Cert.Kernel5Ideal.Step Cert.Kernel5Ideal.Invariant Cert.Kernel5Ideal.Arrays
open Cert.Proof.SampleAttention Cert.Proof.SoftmaxRow

variable (m : (ℓ : Loc nD τ sig) → Buf (Elt Ideal) ℓ) (c : Dev nD) (hO : Ok m)

/-- Batch number `b` and group number `g` as coordinates. -/
abbrev batch (b : ℕ) : Fin 8 := ⟨b % 8, Nat.mod_lt _ (by norm_num)⟩
abbrev group (g : ℕ) : Fin 2 := ⟨g % 2, Nat.mod_lt _ (by norm_num)⟩

/-- The scores in base two. -/
def s2 (b g : ℕ) (h : Fin 4) (i j : ℕ) : ℝ := dot (qs m c) (ks m c) (batch b) (group g) h (pos i) j * factor

/-- The values. -/
def w2 (b g : ℕ) (d : Fin 128) (j : ℕ) : EReal := vals (vs m c) (batch b) (group g) d j

theorem factor_log : factor * Real.log 2 = 1 / Real.sqrt 128 := by
  have h2 : Real.log 2 ≠ 0 := (Real.log_pos (by norm_num)).ne'
  have h3 : Real.sqrt 128 ≠ 0 := by positivity
  unfold factor
  field_simp

theorem s2_log (b g : ℕ) (h : Fin 4) (i : ℕ) : (fun j => s2 m c b g h i j * Real.log 2) = score (qs m c) (ks m c) (batch b) (group g) h (pos i) := by
  funext j
  unfold s2 score
  rw [mul_assoc, factor_log]

variable {m c} in
/-- A dot product of real rows, one of them scaled. -/
theorem dot_scaled (hq : Finite (qs m c)) (hk : Finite (ks m c)) (b : Fin 8) (g : Fin 2) (h : Fin 4) (i : Fin 2048) (j : ℕ) :
    (∑ d : Fin 128, ks m c (ix3 b (pos j) (klane g d)) * (qs m c (ix3 b i (qlane g h d)) * (factor : EReal)))
      = ((dot (qs m c) (ks m c) b g h i j * factor : ℝ) : EReal) := by
  have e : ∀ d : Fin 128, ks m c (ix3 b (pos j) (klane g d)) * (qs m c (ix3 b i (qlane g h d)) * (factor : EReal))
      = (((ks m c (ix3 b (pos j) (klane g d))).toReal * (qs m c (ix3 b i (qlane g h d))).toReal * factor : ℝ) : EReal) := fun d => by
    rw [EReal.coe_mul, EReal.coe_mul, hk.coe, hq.coe, mul_assoc]
  rw [Finset.sum_congr rfl fun d _ => e d, ← coe_sum, dot, Finset.sum_mul]

theorem blocks (hq : Finite (qs m c)) (hk : Finite (ks m c)) : Blocks m hO c (s2 m c) (w2 m c) where
  score t h i r := by
    have ht := lt_points m hO t
    unfold s2
    rw [← dot_scaled hq hk]
    unfold sc
    refine Finset.sum_congr rfl fun d _ => ?_
    rw [key_block, query_block, keys, queries]
    congr 2
    · congr 1 <;> apply Fin.ext <;> simp <;> omega
    · congr 2 <;> apply Fin.ext <;> simp [lane] <;> omega
  value t d r := by
    have ht := lt_points m hO t
    rw [value_block, values]
    unfold w2 vals
    congr 2 <;> apply Fin.ext <;> simp <;> omega

/-- What the result array holds. -/
def G : Vec Ideal S8x2048x1024 .bf16 := fun x =>
  att (qs m c) (ks m c) (vs m c) (x 0) (x 1) ⟨(x 2).val / 512, by have := (x 2).isLt; simp at this; omega⟩
    ⟨(x 2).val % 512 / 128, by omega⟩ ⟨(x 2).val % 128, by omega⟩

theorem block_of (β : (a : Fin 3) → Fin ((S8x2048x1024.size a + S1x2048x512.size a - 1) / S1x2048x512.size a)) :
    ∃ t : Fin grid0.N, ∀ a : Fin 3, (![t.val / 4, t.val / 2 % 1, t.val / 2 % 2] : Fin 3 → ℕ) a = (β a).val := by
  have h0 : (β 0).val < 8 := (β 0).isLt
  have h1 : (β 1).val < 1 := (β 1).isLt
  have h2 : (β 2).val < 2 := (β 2).isLt
  refine ⟨⟨4 * (β 0).val + 2 * (β 2).val + 2 * (β 1).val, by show _ < 32; omega⟩, fun a => ?_⟩
  match a with
  | 0 => show (4 * (β 0).val + 2 * (β 2).val + 2 * (β 1).val) / 4 = (β 0).val; omega
  | 1 => show (4 * (β 0).val + 2 * (β 2).val + 2 * (β 1).val) / 2 % 1 = (β 1).val; omega
  | 2 => show (4 * (β 0).val + 2 * (β 2).val + 2 * (β 1).val) / 2 % 2 = (β 2).val; omega

/-- The written blocks tile the result. -/
theorem covers : ((cfgM m hO).win 3).Covers :=
  ((cfgM m hO).win 3).covers_of_index_surj rfl (fun a => (by decide : ∀ a : Fin 3, 0 < S1x2048x512.size a) a) fun β => by
    obtain ⟨t, ht⟩ := block_of β
    exact ⟨t, fun a => (congrFun (index3 m hO t) a).trans (ht a)⟩

theorem result_point (hq : Finite (qs m c)) (hk : Finite (ks m c)) (t : Fin (cfgM m hO).N) (h7 : t.val % 2 = 1) (i : Fin 2048) (e : Fin 512) :
    (outsAt0 m hO c t.val t.isLt).1 (ix3 0 i e) = att (qs m c) (ks m c) (vs m c) (batch (t.val / 4)) (pos (2048 * (t.val / 2 % 1) + i.val))
      (group (t.val / 2 % 2)) ⟨e.val / 128, by omega⟩ ⟨e.val % 128, by omega⟩ := by
  have r := out_last (blocks m c hO hq hk) t h7 ⟨e.val / 128, by omega⟩ i ⟨e.val % 128, by omega⟩
  rw [s2_log] at r
  rw [show lane ⟨e.val / 128, by omega⟩ ⟨e.val % 128, by omega⟩ = e from Fin.ext (by simp only [lane]; omega)] at r
  exact r

theorem att_congr (q : Vec Ideal S8x2048x1024 .f32) (k v : Vec Ideal S8x2048x256 .f32) {b b' : Fin 8} {i i' : Fin 2048} {g g' : Fin 2} {h h' : Fin 4} {d d' : Fin 128}
    (hb : b.val = b'.val) (hi : i.val = i'.val) (hg : g.val = g'.val) (hh : h.val = h'.val) (hd : d.val = d'.val) :
    att q k v b i g h d = att q k v b' i' g' h' d' := by
  obtain rfl := Fin.ext hb; obtain rfl := Fin.ext hi; obtain rfl := Fin.ext hg; obtain rfl := Fin.ext hh; obtain rfl := Fin.ext hd; rfl

theorem place (t : Fin (cfgM m hO).N) (i : Fin 2048) (e : Fin 512) : ((((cfgM m hO).win 3).blk t).view.emb (ix3 0 i e : S1x2048x512.Idx) : S8x2048x1024.Idx)
    = ix3 (batch (t.val / 4)) (pos (2048 * (t.val / 2 % 1) + i.val)) ⟨512 * (t.val / 2 % 2) + e.val, by omega⟩ := by
  have ht := lt_points m hO t
  blk_ext [index3 m hO t]

theorem final_point (hq : Finite (qs m c)) (hk : Finite (ks m c)) (t : Fin (cfgM m hO).N) (h7 : t.val % 2 = 1) (y : S1x2048x512.Idx) :
    (outsAt0 m hO c t.val t.isLt).1 y = G m c ((((cfgM m hO).win 3).blk t).view.emb y) := by
  have hy : y = ix3 0 (y 1) (y 2) := by
    funext a; apply Fin.ext
    match a with
    | 0 => have h : (y 0).val < 1 := (y 0).isLt
           show (y 0).val = 0
           omega
    | 1 => rfl
    | 2 => rfl
  generalize (y 1 : Fin 2048) = i at hy
  generalize (y 2 : Fin 512) = e at hy
  subst hy
  refine (result_point m c hO hq hk t h7 i e).trans (Eq.trans ?_ (congrArg (G m c) (place m hO t i e)).symm)
  have h2 : e.val < 512 := e.isLt
  refine att_congr _ _ _ rfl rfl ?_ ?_ ?_
  · show t.val / 2 % 2 % 2 = (512 * (t.val / 2 % 2) + e.val) / 512; omega
  · show e.val / 128 = (512 * (t.val / 2 % 2) + e.val) % 512 / 128; omega
  · show e.val % 128 = (512 * (t.val / 2 % 2) + e.val) % 128; omega

theorem final (hq : Finite (qs m c)) (hk : Finite (ks m c)) : (dats m hO 0 c).arrAt 3 (cfgM m hO).N = G m c := by
  refine (dats m hO 0 c).arrAt_eq_of_covers 3 _ (covers m hO) fun t hf y => ?_
  have h7 := (flush0_3 (adm m hO) t).1 hf
  blk_simp
  rw [after0_3]
  exact final_point m c hO hq hk t h7 y

end Cert.Kernel5Ideal.Result

end
-- ==== Proof.SampleAttention.Reference.lean ====
/- For the sample batch, the reference program's result at an element is the attention of `Attention.lean`, for real queries and keys. -/
module

public import proofs.«01_k».proof.Proof.SampleAttention.Attention
public import proofs.«01_k».proof.Proof.Gen.Reference5Ideal.Read

@[expose] public section

set_option maxRecDepth 16384

noncomputable section

namespace Cert.Proof.SampleReference

open Idealize.ShloMosaic Cert.Proof.SoftmaxRow Cert.Proof.SampleAttention Cert.Reference5Ideal Cert.Reference5Ideal.Read

variable (q : Vec Ideal S8x2048x1024 .f32) (k v : Vec Ideal S8x2048x256 .f32)

theorem ofBits_128 : Ideal.ofBits .f32 0x43000000#32 = ((128 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

/-- The scale. -/
theorem scale_eq (j : S_.Idx) : val_main_v4 (F := Ideal) j = ((1 / Real.sqrt 128 : ℝ) : EReal) := by
  pointwise [val_main_v4, val_main_cst, val_main_cst_0, val_main_v3]
  rw [ofBits_128]
  have h : Ideal.sqrt ((128 : ℝ) : EReal) = ((Real.sqrt 128 : ℝ) : EReal) := by
    rw [Ideal.sqrt_coe, if_neg (by norm_num)]
  rw [h, Ideal.div_coe (by positivity), one_mul]

theorem score_eq (hq : Finite q) (hk : Finite k) (b : Fin 8) (g : Fin 2) (h : Fin 4) (i j : Fin 2048) :
    val_main_v8 (F := Ideal) q k (ix5 b g h i j) = (score q k b g h i j.val : EReal) := by
  rw [val_main_v8_apply, val_main_v6_apply, val_main_v5_apply]
  pointwise [val_main_v7, val_main_v1, val_main_v0]
  rw [scale_eq]
  unfold score dot
  rw [EReal.coe_mul, coe_sum]
  congr 1
  refine Finset.sum_congr rfl fun d _ => ?_
  rw [EReal.coe_mul, hq.coe, hk.coe]
  congr 2 <;> congr 1 <;> apply Fin.ext <;> simp [pos, qlane, klane] <;> omega

theorem max_eq (hq : Finite q) (hk : Finite k) (b : Fin 8) (g : Fin 2) (h : Fin 4) (i : Fin 2048) :
    ∃ M : ℝ, val_main_v11 (F := Ideal) q k (ix4 b g h i) = (M : EReal) := by
  have hs : ∀ y, ∃ r : ℝ, val_main_v8 (F := Ideal) q k y = (r : EReal) := fun y => by
    idx_vars y
    exact ⟨_, score_eq q k hq hk _ _ _ _ _⟩
  choose f hf using hs
  rw [val_main_v11_apply, val_main_v10_apply]
  unfold val_main_v9
  rw [Host.reduce_eq_fold_single FloatOps.maximumf _ _ _ (by decide)]
  generalize val_main_v8 (F := Ideal) q k = X at *
  obtain rfl : X = fun y => (f y : EReal) := funext hf
  rw [show val_main_cst_1 (F := Ideal) (Shape.Idx.first Gen.h_S_) = (⊥ : EReal) from ofBits_negInf, show val_main_cst_2 (F := Ideal) _ = (⊥ : EReal) from ofBits_negInf]
  obtain ⟨M, hM⟩ := fold_max_real' (Finset.univ : Finset (Fin 2048)) ⟨0, Finset.mem_univ _⟩ fun x => f ((by decide : S8x2x4x2048x2048.Reduces [4] S8x2x4x2048).lift (ix4 b g h i) x)
  refine ⟨M, ?_⟩
  rw [← hM]
  exact max_eq_right bot_le

theorem prob_eq (hq : Finite q) (hk : Finite k) (b : Fin 8) (g : Fin 2) (h : Fin 4) (i j : Fin 2048) :
    val_main_v19 (F := Ideal) q k (ix5 b g h i j) = (prob (score q k b g h i) 2048 j.val : EReal) := by
  obtain ⟨M, hM⟩ := max_eq q k hq hk b g h i
  pointwise [val_main_v19, val_main_v18, val_main_v17, val_main_v16, val_main_v15, val_main_v14, val_main_v13, val_main_v12, val_main_cst_3]
  rw [hM]
  simp only [score_eq q k hq hk, ← EReal.coe_sub]
  have he : ∀ x : ℝ, Ideal.exp (x : EReal) = ((Real.exp x : ℝ) : EReal) := fun _ => rfl
  simp only [he]
  rw [← coe_sum, Ideal.div_coe (Finset.sum_pos (fun _ _ => Real.exp_pos _) ⟨0, Finset.mem_univ _⟩).ne', ← EReal.coe_mul, ← prob_sub _ _ M,
    ← Finset.sum_range fun x => Real.exp (score q k b g h i x - M), mul_one_div]

theorem result_eq (hq : Finite q) (hk : Finite k) (b : Fin 8) (i : Fin 2048) (c : Fin 1024) :
    val_main_v23 (F := Ideal) q k v (ix3 b i c) = att q k v b i ⟨c.val / 512, by omega⟩ ⟨c.val % 512 / 128, by omega⟩ ⟨c.val % 128, by omega⟩ := by
  pointwise [val_main_v23, val_main_v22, val_main_v21, val_main_v20, val_main_v2]
  simp only [prob_eq q k hq hk]
  unfold att
  rw [Finset.sum_range]
  refine Finset.sum_congr rfl fun j _ => ?_
  have e1 : (⟨c.val / 128 % 4, by omega⟩ : Fin 4) = ⟨c.val % 512 / 128, by omega⟩ := Fin.ext (by show c.val / 128 % 4 = c.val % 512 / 128; omega)
  rw [e1]
  congr 1
  unfold vals
  congr 1; congr 1 <;> apply Fin.ext <;> simp [pos, klane] <;> omega

end Cert.Proof.SampleReference
-- ==== Proof.SampleAttention.Claims.lean ====
/- For the sample batch, the attention call's claims: the frames, and that its result array is the reference's. -/
module

public import proofs.«01_k».proof.Defs
public import proofs.«01_k».proof.Proof.SampleAttention.Result
public import proofs.«01_k».proof.Proof.SampleAttention.Reference
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import Idealize.ShloMosaic.Lib.ReduceAll
public import Idealize.ShloMosaic.Lib.Claim

@[expose] public section

set_option maxRecDepth 16384

noncomputable section

open Idealize.ShloMosaic Idealize.ShloMosaic.TcCoe Idealize.SL.Sem

namespace Cert.Proof.SampleClaims

open Cert.Proof.SampleAttention Cert.Reference5Ideal

/-- The shapes of the precondition's operations fit. -/
instance facts_pre : Cert.Pre_finite_sample.Facts where
  bcast_S_S8x2048x1024 := by decide
  reducesTo_S8x2048x1024_S_d0_1_2 := by decide
  h_S_ := by decide
  bcast_S_S8x2048x256 := by decide
  reducesTo_S8x2048x256_S_d0_1_2 := by decide

theorem ofBits_inf : Ideal.ofBits .f32 0x7F800000#32 = (⊤ : EReal) := by
  simp [Ideal.ofBits, Ideal.ieee]

/-- An element whose absolute value compares below infinity is a real number. -/
theorem finite_of_lt (x : EReal) (h : FloatOps.cmpf (F := Ideal) (φ := .f32) .olt (FloatOps.absf (F := Ideal) (φ := .f32) x) (Ideal.ofBits .f32 0x7F800000#32) = 1#1) : x ≠ ⊤ ∧ x ≠ ⊥ := by
  rw [ofBits_inf] at h
  have h1 : BitVec.ofBool (decide (max x (-x) < (⊤ : EReal))) = 1#1 := h
  induction x with
  | bot => exfalso; revert h1; simp
  | top => exfalso; revert h1; simp
  | coe r => exact ⟨EReal.coe_ne_top r, EReal.coe_ne_bot r⟩

variable (q : Vec Ideal S8x2048x1024 .f32) (k v : Vec Ideal S8x2048x256 .f32) (hq hk : Vec Ideal S1x128 .f32)

theorem finite_queries (h : (Cert.Pre_finite_sample.fn (F := Ideal) q k v hq hk).1 = fun _ => 1#1) : Finite q := fun j => by
  refine finite_of_lt _ ?_
  have e := congrFun h ix0
  unfold Cert.Pre_finite_sample.fn at e
  dsimp only at e
  exact Host.reduce_andi_all _ _ _ _ _ e j

theorem finite_keys (h : (Cert.Pre_finite_sample.fn (F := Ideal) q k v hq hk).2 = fun _ => 1#1) : Finite k := fun j => by
  refine finite_of_lt _ ?_
  have e := congrFun h ix0
  unfold Cert.Pre_finite_sample.fn at e
  dsimp only at e
  exact Host.reduce_andi_all _ _ _ _ _ e j

theorem frame_ideal : Cert.quiescent_Kernel5Ideal := fun m ρ _ => Cert.Kernel5Ideal.Gen.frame m ρ trivial

theorem frame_ideal_pre : Cert.quiescent_Kernel5Ideal_pre_finite_sample := fun m ρ _ => Cert.Kernel5Ideal.Gen.frame m ρ trivial

theorem frame_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem frame_reference_pre : Cert.quiescent_Reference5Ideal_pre_finite_sample := fun m ρ _ => frame_reference m ρ trivial

set_option maxHeartbeats 1000000 in
theorem run_kernel (m : (ℓ : Loc Cert.Kernel5Ideal.nD Cert.Kernel5Ideal.τ Cert.Kernel5Ideal.sig) → Buf (Elt Ideal) ℓ) (ρ : Dev Cert.Kernel5Ideal.nD → PrngReg)
    (h : Cert.Pre_Kernel5Ideal_finite_sample m) :
    θ_run (Cert.Kernel5Ideal.defs (F := Ideal)) (onTc (τ := Cert.Kernel5Ideal.τ) (Cert.Kernel5Ideal.main (F := Ideal))) ⟨m, fun _ => 0, ρ⟩ (fun r => ∀ c : Dev Cert.Kernel5Ideal.nD,
      r.2.mem ((c.tc : Thread Cert.Kernel5Ideal.nD Cert.Kernel5Ideal.τ).loc Cert.Kernel5Ideal.main_v31) = Cert.Kernel5Ideal.Result.G m c) :=
  (θ_run Cert.Kernel5Ideal.defs _ _).mono (fun r hr c =>
    (hr.out_eq c 3).trans (Cert.Kernel5Ideal.Result.final m c trivial (finite_queries _ _ _ _ _ (h c).1) (finite_keys _ _ _ _ _ (h c).2)))
    (Cert.Kernel5Ideal.Gen.run_main m ρ trivial)

/-- The reference's result, from arguments that agree with the kernel's, is the kernel's. -/
theorem reference_value (m : (ℓ : Loc Cert.Kernel5Ideal.nD Cert.Kernel5Ideal.τ Cert.Kernel5Ideal.sig) → Buf (Elt Ideal) ℓ) (c : Dev Cert.Kernel5Ideal.nD)
    (hq : Finite (Cert.Kernel5Ideal.Arrays.qs m c)) (hk : Finite (Cert.Kernel5Ideal.Arrays.ks m c)) :
    Cert.Reference5Ideal.Read.val_main_v23 (F := Ideal) (Cert.Kernel5Ideal.Arrays.qs m c) (Cert.Kernel5Ideal.Arrays.ks m c) (Cert.Kernel5Ideal.Arrays.vs m c)
      = Cert.Kernel5Ideal.Result.G m c := by
  funext x
  have hx : x = ix3 (x 0) (x 1) (x 2) := by
    funext a
    match a with
    | 0 => rfl
    | 1 => rfl
    | 2 => rfl
  refine (congrArg _ hx).trans ((Cert.Proof.SampleReference.result_eq _ _ _ hq hk (x 0) (x 1) (x 2)).trans ?_)
  rfl

set_option maxHeartbeats 1000000 in
/-- At `Ideal` the kernel's result array and the reference's agree. -/
theorem algebraic : Cert.algebraic_Kernel5Ideal_Reference5Ideal_pre_finite_sample := by
  intro m g m' g' h hagree
  refine ⟨fun c => Cert.Kernel5Ideal.Result.G m c, ?_, ?_⟩
  · exact (θ_run Cert.Kernel5Ideal.defs _ _).mono (fun r hr c => ⟨hr.1 c, hr.2 c⟩)
      (θ_run_and (run_kernel m g h) (Cert.Kernel5Ideal.Gen.unchanged m g trivial))
  · refine (θ_run Cert.Reference5Ideal.defs _ _).mono (fun r hr c => ⟨?_, (hr c).2⟩) (Cert.Reference5Ideal.Value.run (F := Ideal) m' g')
    refine (hr c).1.trans ((Cert.Reference5Ideal.Read.val_main_v23_eq (F := Ideal) _ _ _).trans ?_)
    rw [(hagree c).1, (hagree c).2.1, (hagree c).2.2.1]
    exact reference_value m c (finite_queries _ _ _ _ _ (h c).1) (finite_keys _ _ _ _ _ (h c).2)

end Cert.Proof.SampleClaims

end
-- ==== Proof.SampleAttention.FrameKernel.lean ====
/- For the sample batch, the attention call's frame at the bit patterns: the two programs have one text, and the run holds at any floats. -/
module

public import proofs.«01_k».proof.Defs
public import proofs.«01_k».proof.Proof.Gen.Kernel5Ideal.Frame
public import proofs.«01_k».proof.Proof.Gen.Kernel5
public import proofs.«01_k».proof.Proof.Gen.Kernel5Ideal
public import Idealize.ShloMosaic.Lib.Claim

@[expose] public section

set_option maxRecDepth 16384

noncomputable section

open Idealize.ShloMosaic Idealize.ShloMosaic.TcCoe Idealize.SL.Sem

namespace Cert.Proof.SampleClaims

-- the two texts are compared by unfolding both
set_option smartUnfolding false in
set_option maxHeartbeats 4000000 in
theorem frame_kernel : Cert.quiescent_Kernel5 := fun m ρ _ =>
  (θ_run Cert.Kernel5Ideal.defs _ _).mono (fun _ h => h) (Cert.Kernel5Ideal.Gen.frame (F := Bits) m ρ trivial)

end Cert.Proof.SampleClaims

end
-- ==== Proof.lean ====
module

public import proofs.«01_k».proof.Defs
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Launch
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Pre_routed_tiles
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Frame
public import proofs.«01_k».proof.Proof.Gen.Kernel3Ideal.Launch
public import proofs.«01_k».proof.Proof.Gen.Kernel3Ideal.Skeleton
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Frame
public import proofs.«01_k».proof.Proof.Gen.Kernel4Ideal.Launch
public import proofs.«01_k».proof.Proof.Gen.Kernel4Ideal.Skeleton
public import proofs.«01_k».proof.Proof.Claims
public import proofs.«01_k».proof.Proof.FrameKernel
public import proofs.«01_k».proof.Proof.Experts.Claims
public import proofs.«01_k».proof.Proof.Experts.FrameKernel
public import proofs.«01_k».proof.Proof.InProj.Claims
public import proofs.«01_k».proof.Proof.Sample.Claims
public import proofs.«01_k».proof.Proof.SampleAttention.Claims
public import proofs.«01_k».proof.Proof.SampleAttention.FrameKernel

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Claims.facts_pre, Cert.Pre_routed_tiles.Gen.facts, SampleClaims.facts_pre,
  Claims.frame_kernel, Claims.frame_ideal, Claims.frame_ideal_pre, Claims.frame_reference, Claims.frame_reference_pre,
  Experts.frame_kernel, Experts.frame_ideal, Experts.frame_reference, Experts.frame_reference_pre,
  fun m ρ _ => Cert.Kernel3.Gen.frame m ρ, fun m ρ _ => Cert.Kernel3Ideal.Gen.frame m ρ, InProj.frame_reference,
  fun m ρ _ => Cert.Kernel4.Gen.frame m ρ, fun m ρ _ => Cert.Kernel4Ideal.Gen.frame m ρ, Sample.frame_reference,
  SampleClaims.frame_kernel, SampleClaims.frame_ideal, SampleClaims.frame_ideal_pre, SampleClaims.frame_reference, SampleClaims.frame_reference_pre,
  trivial, Claims.algebraic, trivial, Experts.algebraic, trivial, InProj.algebraic, trivial, Sample.algebraic,
  trivial, SampleClaims.algebraic⟩

end Cert.Proof

end
